-- ==== Defs.lean ====
def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_scales_finite [hPre_scales_finite : Cert.Pre_scales_finite.Facts] (m : (ℓ : Loc Cert.DxIdeal.nD Cert.DxIdeal.τ Cert.DxIdeal.sig) → Buf (Elt Ideal) ℓ) : Prop :=
  ∀ c : Dev Cert.DxIdeal.nD,
    (Cert.Pre_scales_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13)) (m ((c.tc : Thread Cert.DxIdeal.nD Cert.DxIdeal.τ).loc Cert.DxIdeal.main_arg14)) (m ((c.tc : Thread Cert.DxIdeal.nD Cert.DxIdeal.τ).loc Cert.DxIdeal.main_arg15))).1 = (fun _ => 1#1)
    ∧ (Cert.Pre_scales_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13)) (m ((c.tc : Thread Cert.DxIdeal.nD Cert.DxIdeal.τ).loc Cert.DxIdeal.main_arg14)) (m ((c.tc : Thread Cert.DxIdeal.nD Cert.DxIdeal.τ).loc Cert.DxIdeal.main_arg15))).2.1 = (fun _ => 1#1)
    ∧ (Cert.Pre_scales_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13)) (m ((c.tc : Thread Cert.DxIdeal.nD Cert.DxIdeal.τ).loc Cert.DxIdeal.main_arg14)) (m ((c.tc : Thread Cert.DxIdeal.nD Cert.DxIdeal.τ).loc Cert.DxIdeal.main_arg15))).2.2.1 = (fun _ => 1#1)
    ∧ (Cert.Pre_scales_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13)) (m ((c.tc : Thread Cert.DxIdeal.nD Cert.DxIdeal.τ).loc Cert.DxIdeal.main_arg14)) (m ((c.tc : Thread Cert.DxIdeal.nD Cert.DxIdeal.τ).loc Cert.DxIdeal.main_arg15))).2.2.2 = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_scales_finite [hPre_scales_finite : Cert.Pre_scales_finite.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_scales_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13)) (m ((c.tc : Thread Cert.DxRefIdeal.nD Cert.DxRefIdeal.τ).loc Cert.DxRefIdeal.main_arg14)) (m ((c.tc : Thread Cert.DxRefIdeal.nD Cert.DxRefIdeal.τ).loc Cert.DxRefIdeal.main_arg15))).1 = (fun _ => 1#1)
    ∧ (Cert.Pre_scales_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13)) (m ((c.tc : Thread Cert.DxRefIdeal.nD Cert.DxRefIdeal.τ).loc Cert.DxRefIdeal.main_arg14)) (m ((c.tc : Thread Cert.DxRefIdeal.nD Cert.DxRefIdeal.τ).loc Cert.DxRefIdeal.main_arg15))).2.1 = (fun _ => 1#1)
    ∧ (Cert.Pre_scales_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13)) (m ((c.tc : Thread Cert.DxRefIdeal.nD Cert.DxRefIdeal.τ).loc Cert.DxRefIdeal.main_arg14)) (m ((c.tc : Thread Cert.DxRefIdeal.nD Cert.DxRefIdeal.τ).loc Cert.DxRefIdeal.main_arg15))).2.2.1 = (fun _ => 1#1)
    ∧ (Cert.Pre_scales_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13)) (m ((c.tc : Thread Cert.DxRefIdeal.nD Cert.DxRefIdeal.τ).loc Cert.DxRefIdeal.main_arg14)) (m ((c.tc : Thread Cert.DxRefIdeal.nD Cert.DxRefIdeal.τ).loc Cert.DxRefIdeal.main_arg15))).2.2.2 = (fun _ => 1#1)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3)
      ∧ r.2.mem ((c.tc : Thread Cert.DwOut.nD Cert.DwOut.τ).loc Cert.DwOut.main_arg4) = m ((c.tc : Thread Cert.DwOut.nD Cert.DwOut.τ).loc Cert.DwOut.main_arg4)
      ∧ r.2.mem ((c.tc : Thread Cert.DwOut.nD Cert.DwOut.τ).loc Cert.DwOut.main_arg5) = m ((c.tc : Thread Cert.DwOut.nD Cert.DwOut.τ).loc Cert.DwOut.main_arg5)
      ∧ r.2.mem ((c.tc : Thread Cert.DwOut.nD Cert.DwOut.τ).loc Cert.DwOut.main_arg6) = m ((c.tc : Thread Cert.DwOut.nD Cert.DwOut.τ).loc Cert.DwOut.main_arg6)
      ∧ r.2.mem ((c.tc : Thread Cert.DwOut.nD Cert.DwOut.τ).loc Cert.DwOut.main_arg7) = m ((c.tc : Thread Cert.DwOut.nD Cert.DwOut.τ).loc Cert.DwOut.main_arg7)
      ∧ r.2.mem ((c.tc : Thread Cert.DwOut.nD Cert.DwOut.τ).loc Cert.DwOut.main_arg8) = m ((c.tc : Thread Cert.DwOut.nD Cert.DwOut.τ).loc Cert.DwOut.main_arg8))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3)
      ∧ r.2.mem ((c.tc : Thread Cert.DwOutIdeal.nD Cert.DwOutIdeal.τ).loc Cert.DwOutIdeal.main_arg4) = m ((c.tc : Thread Cert.DwOutIdeal.nD Cert.DwOutIdeal.τ).loc Cert.DwOutIdeal.main_arg4)
      ∧ r.2.mem ((c.tc : Thread Cert.DwOutIdeal.nD Cert.DwOutIdeal.τ).loc Cert.DwOutIdeal.main_arg5) = m ((c.tc : Thread Cert.DwOutIdeal.nD Cert.DwOutIdeal.τ).loc Cert.DwOutIdeal.main_arg5)
      ∧ r.2.mem ((c.tc : Thread Cert.DwOutIdeal.nD Cert.DwOutIdeal.τ).loc Cert.DwOutIdeal.main_arg6) = m ((c.tc : Thread Cert.DwOutIdeal.nD Cert.DwOutIdeal.τ).loc Cert.DwOutIdeal.main_arg6)
      ∧ r.2.mem ((c.tc : Thread Cert.DwOutIdeal.nD Cert.DwOutIdeal.τ).loc Cert.DwOutIdeal.main_arg7) = m ((c.tc : Thread Cert.DwOutIdeal.nD Cert.DwOutIdeal.τ).loc Cert.DwOutIdeal.main_arg7)
      ∧ r.2.mem ((c.tc : Thread Cert.DwOutIdeal.nD Cert.DwOutIdeal.τ).loc Cert.DwOutIdeal.main_arg8) = m ((c.tc : Thread Cert.DwOutIdeal.nD Cert.DwOutIdeal.τ).loc Cert.DwOutIdeal.main_arg8))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3)
      ∧ r.2.mem ((c.tc : Thread Cert.DwOutRefIdeal.nD Cert.DwOutRefIdeal.τ).loc Cert.DwOutRefIdeal.main_arg4) = m ((c.tc : Thread Cert.DwOutRefIdeal.nD Cert.DwOutRefIdeal.τ).loc Cert.DwOutRefIdeal.main_arg4)
      ∧ r.2.mem ((c.tc : Thread Cert.DwOutRefIdeal.nD Cert.DwOutRefIdeal.τ).loc Cert.DwOutRefIdeal.main_arg5) = m ((c.tc : Thread Cert.DwOutRefIdeal.nD Cert.DwOutRefIdeal.τ).loc Cert.DwOutRefIdeal.main_arg5)
      ∧ r.2.mem ((c.tc : Thread Cert.DwOutRefIdeal.nD Cert.DwOutRefIdeal.τ).loc Cert.DwOutRefIdeal.main_arg6) = m ((c.tc : Thread Cert.DwOutRefIdeal.nD Cert.DwOutRefIdeal.τ).loc Cert.DwOutRefIdeal.main_arg6)
      ∧ r.2.mem ((c.tc : Thread Cert.DwOutRefIdeal.nD Cert.DwOutRefIdeal.τ).loc Cert.DwOutRefIdeal.main_arg7) = m ((c.tc : Thread Cert.DwOutRefIdeal.nD Cert.DwOutRefIdeal.τ).loc Cert.DwOutRefIdeal.main_arg7)
      ∧ r.2.mem ((c.tc : Thread Cert.DwOutRefIdeal.nD Cert.DwOutRefIdeal.τ).loc Cert.DwOutRefIdeal.main_arg8) = m ((c.tc : Thread Cert.DwOutRefIdeal.nD Cert.DwOutRefIdeal.τ).loc Cert.DwOutRefIdeal.main_arg8))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4)
      ∧ r.2.mem ((c.tc : Thread Cert.DwIn.nD Cert.DwIn.τ).loc Cert.DwIn.main_arg5) = m ((c.tc : Thread Cert.DwIn.nD Cert.DwIn.τ).loc Cert.DwIn.main_arg5)
      ∧ r.2.mem ((c.tc : Thread Cert.DwIn.nD Cert.DwIn.τ).loc Cert.DwIn.main_arg6) = m ((c.tc : Thread Cert.DwIn.nD Cert.DwIn.τ).loc Cert.DwIn.main_arg6)
      ∧ r.2.mem ((c.tc : Thread Cert.DwIn.nD Cert.DwIn.τ).loc Cert.DwIn.main_arg7) = m ((c.tc : Thread Cert.DwIn.nD Cert.DwIn.τ).loc Cert.DwIn.main_arg7)
      ∧ r.2.mem ((c.tc : Thread Cert.DwIn.nD Cert.DwIn.τ).loc Cert.DwIn.main_arg8) = m ((c.tc : Thread Cert.DwIn.nD Cert.DwIn.τ).loc Cert.DwIn.main_arg8)
      ∧ r.2.mem ((c.tc : Thread Cert.DwIn.nD Cert.DwIn.τ).loc Cert.DwIn.main_arg9) = m ((c.tc : Thread Cert.DwIn.nD Cert.DwIn.τ).loc Cert.DwIn.main_arg9)
      ∧ r.2.mem ((c.tc : Thread Cert.DwIn.nD Cert.DwIn.τ).loc Cert.DwIn.main_arg10) = m ((c.tc : Thread Cert.DwIn.nD Cert.DwIn.τ).loc Cert.DwIn.main_arg10))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
      ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6)
      ∧ r.2.mem ((c.tc : Thread Cert.DwInIdeal.nD Cert.DwInIdeal.τ).loc Cert.DwInIdeal.main_arg7) = m ((c.tc : Thread Cert.DwInIdeal.nD Cert.DwInIdeal.τ).loc Cert.DwInIdeal.main_arg7)
      ∧ r.2.mem ((c.tc : Thread Cert.DwInIdeal.nD Cert.DwInIdeal.τ).loc Cert.DwInIdeal.main_arg8) = m ((c.tc : Thread Cert.DwInIdeal.nD Cert.DwInIdeal.τ).loc Cert.DwInIdeal.main_arg8)
      ∧ r.2.mem ((c.tc : Thread Cert.DwInIdeal.nD Cert.DwInIdeal.τ).loc Cert.DwInIdeal.main_arg9) = m ((c.tc : Thread Cert.DwInIdeal.nD Cert.DwInIdeal.τ).loc Cert.DwInIdeal.main_arg9)
      ∧ r.2.mem ((c.tc : Thread Cert.DwInIdeal.nD Cert.DwInIdeal.τ).loc Cert.DwInIdeal.main_arg10) = m ((c.tc : Thread Cert.DwInIdeal.nD Cert.DwInIdeal.τ).loc Cert.DwInIdeal.main_arg10))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5)
      ∧ r.2.mem ((c.tc : Thread Cert.DwInRefIdeal.nD Cert.DwInRefIdeal.τ).loc Cert.DwInRefIdeal.main_arg6) = m ((c.tc : Thread Cert.DwInRefIdeal.nD Cert.DwInRefIdeal.τ).loc Cert.DwInRefIdeal.main_arg6)
      ∧ r.2.mem ((c.tc : Thread Cert.DwInRefIdeal.nD Cert.DwInRefIdeal.τ).loc Cert.DwInRefIdeal.main_arg7) = m ((c.tc : Thread Cert.DwInRefIdeal.nD Cert.DwInRefIdeal.τ).loc Cert.DwInRefIdeal.main_arg7)
      ∧ r.2.mem ((c.tc : Thread Cert.DwInRefIdeal.nD Cert.DwInRefIdeal.τ).loc Cert.DwInRefIdeal.main_arg8) = m ((c.tc : Thread Cert.DwInRefIdeal.nD Cert.DwInRefIdeal.τ).loc Cert.DwInRefIdeal.main_arg8)
      ∧ r.2.mem ((c.tc : Thread Cert.DwInRefIdeal.nD Cert.DwInRefIdeal.τ).loc Cert.DwInRefIdeal.main_arg9) = m ((c.tc : Thread Cert.DwInRefIdeal.nD Cert.DwInRefIdeal.τ).loc Cert.DwInRefIdeal.main_arg9)
      ∧ r.2.mem ((c.tc : Thread Cert.DwInRefIdeal.nD Cert.DwInRefIdeal.τ).loc Cert.DwInRefIdeal.main_arg10) = m ((c.tc : Thread Cert.DwInRefIdeal.nD Cert.DwInRefIdeal.τ).loc Cert.DwInRefIdeal.main_arg10))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2)
      ∧ r.2.mem ((c.tc : Thread Cert.DwQkv.nD Cert.DwQkv.τ).loc Cert.DwQkv.main_arg3) = m ((c.tc : Thread Cert.DwQkv.nD Cert.DwQkv.τ).loc Cert.DwQkv.main_arg3)
      ∧ r.2.mem ((c.tc : Thread Cert.DwQkv.nD Cert.DwQkv.τ).loc Cert.DwQkv.main_arg4) = m ((c.tc : Thread Cert.DwQkv.nD Cert.DwQkv.τ).loc Cert.DwQkv.main_arg4)
      ∧ r.2.mem ((c.tc : Thread Cert.DwQkv.nD Cert.DwQkv.τ).loc Cert.DwQkv.main_arg5) = m ((c.tc : Thread Cert.DwQkv.nD Cert.DwQkv.τ).loc Cert.DwQkv.main_arg5)
      ∧ r.2.mem ((c.tc : Thread Cert.DwQkv.nD Cert.DwQkv.τ).loc Cert.DwQkv.main_arg6) = m ((c.tc : Thread Cert.DwQkv.nD Cert.DwQkv.τ).loc Cert.DwQkv.main_arg6)
      ∧ r.2.mem ((c.tc : Thread Cert.DwQkv.nD Cert.DwQkv.τ).loc Cert.DwQkv.main_arg7) = m ((c.tc : Thread Cert.DwQkv.nD Cert.DwQkv.τ).loc Cert.DwQkv.main_arg7)
      ∧ r.2.mem ((c.tc : Thread Cert.DwQkv.nD Cert.DwQkv.τ).loc Cert.DwQkv.main_arg8) = m ((c.tc : Thread Cert.DwQkv.nD Cert.DwQkv.τ).loc Cert.DwQkv.main_arg8)
      ∧ r.2.mem ((c.tc : Thread Cert.DwQkv.nD Cert.DwQkv.τ).loc Cert.DwQkv.main_arg9) = m ((c.tc : Thread Cert.DwQkv.nD Cert.DwQkv.τ).loc Cert.DwQkv.main_arg9))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
      ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4)
      ∧ r.2.mem ((c.tc : Thread Cert.DwQkvIdeal.nD Cert.DwQkvIdeal.τ).loc Cert.DwQkvIdeal.main_arg5) = m ((c.tc : Thread Cert.DwQkvIdeal.nD Cert.DwQkvIdeal.τ).loc Cert.DwQkvIdeal.main_arg5)
      ∧ r.2.mem ((c.tc : Thread Cert.DwQkvIdeal.nD Cert.DwQkvIdeal.τ).loc Cert.DwQkvIdeal.main_arg6) = m ((c.tc : Thread Cert.DwQkvIdeal.nD Cert.DwQkvIdeal.τ).loc Cert.DwQkvIdeal.main_arg6)
      ∧ r.2.mem ((c.tc : Thread Cert.DwQkvIdeal.nD Cert.DwQkvIdeal.τ).loc Cert.DwQkvIdeal.main_arg7) = m ((c.tc : Thread Cert.DwQkvIdeal.nD Cert.DwQkvIdeal.τ).loc Cert.DwQkvIdeal.main_arg7)
      ∧ r.2.mem ((c.tc : Thread Cert.DwQkvIdeal.nD Cert.DwQkvIdeal.τ).loc Cert.DwQkvIdeal.main_arg8) = m ((c.tc : Thread Cert.DwQkvIdeal.nD Cert.DwQkvIdeal.τ).loc Cert.DwQkvIdeal.main_arg8)
      ∧ r.2.mem ((c.tc : Thread Cert.DwQkvIdeal.nD Cert.DwQkvIdeal.τ).loc Cert.DwQkvIdeal.main_arg9) = m ((c.tc : Thread Cert.DwQkvIdeal.nD Cert.DwQkvIdeal.τ).loc Cert.DwQkvIdeal.main_arg9))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2)
      ∧ r.2.mem ((c.tc : Thread Cert.DwQkvRefIdeal.nD Cert.DwQkvRefIdeal.τ).loc Cert.DwQkvRefIdeal.main_arg3) = m ((c.tc : Thread Cert.DwQkvRefIdeal.nD Cert.DwQkvRefIdeal.τ).loc Cert.DwQkvRefIdeal.main_arg3)
      ∧ r.2.mem ((c.tc : Thread Cert.DwQkvRefIdeal.nD Cert.DwQkvRefIdeal.τ).loc Cert.DwQkvRefIdeal.main_arg4) = m ((c.tc : Thread Cert.DwQkvRefIdeal.nD Cert.DwQkvRefIdeal.τ).loc Cert.DwQkvRefIdeal.main_arg4)
      ∧ r.2.mem ((c.tc : Thread Cert.DwQkvRefIdeal.nD Cert.DwQkvRefIdeal.τ).loc Cert.DwQkvRefIdeal.main_arg5) = m ((c.tc : Thread Cert.DwQkvRefIdeal.nD Cert.DwQkvRefIdeal.τ).loc Cert.DwQkvRefIdeal.main_arg5)
      ∧ r.2.mem ((c.tc : Thread Cert.DwQkvRefIdeal.nD Cert.DwQkvRefIdeal.τ).loc Cert.DwQkvRefIdeal.main_arg6) = m ((c.tc : Thread Cert.DwQkvRefIdeal.nD Cert.DwQkvRefIdeal.τ).loc Cert.DwQkvRefIdeal.main_arg6)
      ∧ r.2.mem ((c.tc : Thread Cert.DwQkvRefIdeal.nD Cert.DwQkvRefIdeal.τ).loc Cert.DwQkvRefIdeal.main_arg7) = m ((c.tc : Thread Cert.DwQkvRefIdeal.nD Cert.DwQkvRefIdeal.τ).loc Cert.DwQkvRefIdeal.main_arg7)
      ∧ r.2.mem ((c.tc : Thread Cert.DwQkvRefIdeal.nD Cert.DwQkvRefIdeal.τ).loc Cert.DwQkvRefIdeal.main_arg8) = m ((c.tc : Thread Cert.DwQkvRefIdeal.nD Cert.DwQkvRefIdeal.τ).loc Cert.DwQkvRefIdeal.main_arg8)
      ∧ r.2.mem ((c.tc : Thread Cert.DwQkvRefIdeal.nD Cert.DwQkvRefIdeal.τ).loc Cert.DwQkvRefIdeal.main_arg9) = m ((c.tc : Thread Cert.DwQkvRefIdeal.nD Cert.DwQkvRefIdeal.τ).loc Cert.DwQkvRefIdeal.main_arg9))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7)
      ∧ r.2.mem ((c.tc : Thread Cert.Dx.nD Cert.Dx.τ).loc Cert.Dx.main_arg8) = m ((c.tc : Thread Cert.Dx.nD Cert.Dx.τ).loc Cert.Dx.main_arg8)
      ∧ r.2.mem ((c.tc : Thread Cert.Dx.nD Cert.Dx.τ).loc Cert.Dx.main_arg9) = m ((c.tc : Thread Cert.Dx.nD Cert.Dx.τ).loc Cert.Dx.main_arg9)
      ∧ r.2.mem ((c.tc : Thread Cert.Dx.nD Cert.Dx.τ).loc Cert.Dx.main_arg10) = m ((c.tc : Thread Cert.Dx.nD Cert.Dx.τ).loc Cert.Dx.main_arg10)
      ∧ r.2.mem ((c.tc : Thread Cert.Dx.nD Cert.Dx.τ).loc Cert.Dx.main_arg11) = m ((c.tc : Thread Cert.Dx.nD Cert.Dx.τ).loc Cert.Dx.main_arg11)
      ∧ r.2.mem ((c.tc : Thread Cert.Dx.nD Cert.Dx.τ).loc Cert.Dx.main_arg12) = m ((c.tc : Thread Cert.Dx.nD Cert.Dx.τ).loc Cert.Dx.main_arg12)
      ∧ r.2.mem ((c.tc : Thread Cert.Dx.nD Cert.Dx.τ).loc Cert.Dx.main_arg13) = m ((c.tc : Thread Cert.Dx.nD Cert.Dx.τ).loc Cert.Dx.main_arg13)
      ∧ r.2.mem ((c.tc : Thread Cert.Dx.nD Cert.Dx.τ).loc Cert.Dx.main_arg14) = m ((c.tc : Thread Cert.Dx.nD Cert.Dx.τ).loc Cert.Dx.main_arg14)
      ∧ r.2.mem ((c.tc : Thread Cert.Dx.nD Cert.Dx.τ).loc Cert.Dx.main_arg15) = m ((c.tc : Thread Cert.Dx.nD Cert.Dx.τ).loc Cert.Dx.main_arg15))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
      ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
      ∧ r.2.mem ((c.tc : Thread Cert.DxIdeal.nD Cert.DxIdeal.τ).loc Cert.DxIdeal.main_arg11) = m ((c.tc : Thread Cert.DxIdeal.nD Cert.DxIdeal.τ).loc Cert.DxIdeal.main_arg11)
      ∧ r.2.mem ((c.tc : Thread Cert.DxIdeal.nD Cert.DxIdeal.τ).loc Cert.DxIdeal.main_arg12) = m ((c.tc : Thread Cert.DxIdeal.nD Cert.DxIdeal.τ).loc Cert.DxIdeal.main_arg12)
      ∧ r.2.mem ((c.tc : Thread Cert.DxIdeal.nD Cert.DxIdeal.τ).loc Cert.DxIdeal.main_arg13) = m ((c.tc : Thread Cert.DxIdeal.nD Cert.DxIdeal.τ).loc Cert.DxIdeal.main_arg13)
      ∧ r.2.mem ((c.tc : Thread Cert.DxIdeal.nD Cert.DxIdeal.τ).loc Cert.DxIdeal.main_arg14) = m ((c.tc : Thread Cert.DxIdeal.nD Cert.DxIdeal.τ).loc Cert.DxIdeal.main_arg14)
      ∧ r.2.mem ((c.tc : Thread Cert.DxIdeal.nD Cert.DxIdeal.τ).loc Cert.DxIdeal.main_arg15) = m ((c.tc : Thread Cert.DxIdeal.nD Cert.DxIdeal.τ).loc Cert.DxIdeal.main_arg15))
      ∧ r.2.sem = fun _ => 0)

def quiescent_DxIdeal_pre_scales_finite [hDxIdeal : Cert.DxIdeal.Facts] [hPre_scales_finite : Cert.Pre_scales_finite.Facts] : Prop :=
  ∀ (m : (ℓ : Loc Cert.DxIdeal.nD Cert.DxIdeal.τ Cert.DxIdeal.sig) → Buf (Elt Ideal) ℓ) (g : Dev Cert.DxIdeal.nD → PrngReg), Pre_DxIdeal_scales_finite m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
      ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
      ∧ r.2.mem ((c.tc : Thread Cert.DxIdeal.nD Cert.DxIdeal.τ).loc Cert.DxIdeal.main_arg11) = m ((c.tc : Thread Cert.DxIdeal.nD Cert.DxIdeal.τ).loc Cert.DxIdeal.main_arg11)
      ∧ r.2.mem ((c.tc : Thread Cert.DxIdeal.nD Cert.DxIdeal.τ).loc Cert.DxIdeal.main_arg12) = m ((c.tc : Thread Cert.DxIdeal.nD Cert.DxIdeal.τ).loc Cert.DxIdeal.main_arg12)
      ∧ r.2.mem ((c.tc : Thread Cert.DxIdeal.nD Cert.DxIdeal.τ).loc Cert.DxIdeal.main_arg13) = m ((c.tc : Thread Cert.DxIdeal.nD Cert.DxIdeal.τ).loc Cert.DxIdeal.main_arg13)
      ∧ r.2.mem ((c.tc : Thread Cert.DxIdeal.nD Cert.DxIdeal.τ).loc Cert.DxIdeal.main_arg14) = m ((c.tc : Thread Cert.DxIdeal.nD Cert.DxIdeal.τ).loc Cert.DxIdeal.main_arg14)
      ∧ r.2.mem ((c.tc : Thread Cert.DxIdeal.nD Cert.DxIdeal.τ).loc Cert.DxIdeal.main_arg15) = m ((c.tc : Thread Cert.DxIdeal.nD Cert.DxIdeal.τ).loc Cert.DxIdeal.main_arg15))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7)
      ∧ r.2.mem ((c.tc : Thread Cert.DxRefIdeal.nD Cert.DxRefIdeal.τ).loc Cert.DxRefIdeal.main_arg8) = m ((c.tc : Thread Cert.DxRefIdeal.nD Cert.DxRefIdeal.τ).loc Cert.DxRefIdeal.main_arg8)
      ∧ r.2.mem ((c.tc : Thread Cert.DxRefIdeal.nD Cert.DxRefIdeal.τ).loc Cert.DxRefIdeal.main_arg9) = m ((c.tc : Thread Cert.DxRefIdeal.nD Cert.DxRefIdeal.τ).loc Cert.DxRefIdeal.main_arg9)
      ∧ r.2.mem ((c.tc : Thread Cert.DxRefIdeal.nD Cert.DxRefIdeal.τ).loc Cert.DxRefIdeal.main_arg10) = m ((c.tc : Thread Cert.DxRefIdeal.nD Cert.DxRefIdeal.τ).loc Cert.DxRefIdeal.main_arg10)
      ∧ r.2.mem ((c.tc : Thread Cert.DxRefIdeal.nD Cert.DxRefIdeal.τ).loc Cert.DxRefIdeal.main_arg11) = m ((c.tc : Thread Cert.DxRefIdeal.nD Cert.DxRefIdeal.τ).loc Cert.DxRefIdeal.main_arg11)
      ∧ r.2.mem ((c.tc : Thread Cert.DxRefIdeal.nD Cert.DxRefIdeal.τ).loc Cert.DxRefIdeal.main_arg12) = m ((c.tc : Thread Cert.DxRefIdeal.nD Cert.DxRefIdeal.τ).loc Cert.DxRefIdeal.main_arg12)
      ∧ r.2.mem ((c.tc : Thread Cert.DxRefIdeal.nD Cert.DxRefIdeal.τ).loc Cert.DxRefIdeal.main_arg13) = m ((c.tc : Thread Cert.DxRefIdeal.nD Cert.DxRefIdeal.τ).loc Cert.DxRefIdeal.main_arg13)
      ∧ r.2.mem ((c.tc : Thread Cert.DxRefIdeal.nD Cert.DxRefIdeal.τ).loc Cert.DxRefIdeal.main_arg14) = m ((c.tc : Thread Cert.DxRefIdeal.nD Cert.DxRefIdeal.τ).loc Cert.DxRefIdeal.main_arg14)
      ∧ r.2.mem ((c.tc : Thread Cert.DxRefIdeal.nD Cert.DxRefIdeal.τ).loc Cert.DxRefIdeal.main_arg15) = m ((c.tc : Thread Cert.DxRefIdeal.nD Cert.DxRefIdeal.τ).loc Cert.DxRefIdeal.main_arg15))
      ∧ r.2.sem = fun _ => 0)

def quiescent_DxRefIdeal_pre_scales_finite [hDxRefIdeal : Cert.DxRefIdeal.Facts] [hPre_scales_finite : Cert.Pre_scales_finite.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_scales_finite m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7)
      ∧ r.2.mem ((c.tc : Thread Cert.DxRefIdeal.nD Cert.DxRefIdeal.τ).loc Cert.DxRefIdeal.main_arg8) = m ((c.tc : Thread Cert.DxRefIdeal.nD Cert.DxRefIdeal.τ).loc Cert.DxRefIdeal.main_arg8)
      ∧ r.2.mem ((c.tc : Thread Cert.DxRefIdeal.nD Cert.DxRefIdeal.τ).loc Cert.DxRefIdeal.main_arg9) = m ((c.tc : Thread Cert.DxRefIdeal.nD Cert.DxRefIdeal.τ).loc Cert.DxRefIdeal.main_arg9)
      ∧ r.2.mem ((c.tc : Thread Cert.DxRefIdeal.nD Cert.DxRefIdeal.τ).loc Cert.DxRefIdeal.main_arg10) = m ((c.tc : Thread Cert.DxRefIdeal.nD Cert.DxRefIdeal.τ).loc Cert.DxRefIdeal.main_arg10)
      ∧ r.2.mem ((c.tc : Thread Cert.DxRefIdeal.nD Cert.DxRefIdeal.τ).loc Cert.DxRefIdeal.main_arg11) = m ((c.tc : Thread Cert.DxRefIdeal.nD Cert.DxRefIdeal.τ).loc Cert.DxRefIdeal.main_arg11)
      ∧ r.2.mem ((c.tc : Thread Cert.DxRefIdeal.nD Cert.DxRefIdeal.τ).loc Cert.DxRefIdeal.main_arg12) = m ((c.tc : Thread Cert.DxRefIdeal.nD Cert.DxRefIdeal.τ).loc Cert.DxRefIdeal.main_arg12)
      ∧ r.2.mem ((c.tc : Thread Cert.DxRefIdeal.nD Cert.DxRefIdeal.τ).loc Cert.DxRefIdeal.main_arg13) = m ((c.tc : Thread Cert.DxRefIdeal.nD Cert.DxRefIdeal.τ).loc Cert.DxRefIdeal.main_arg13)
      ∧ r.2.mem ((c.tc : Thread Cert.DxRefIdeal.nD Cert.DxRefIdeal.τ).loc Cert.DxRefIdeal.main_arg14) = m ((c.tc : Thread Cert.DxRefIdeal.nD Cert.DxRefIdeal.τ).loc Cert.DxRefIdeal.main_arg14)
      ∧ r.2.mem ((c.tc : Thread Cert.DxRefIdeal.nD Cert.DxRefIdeal.τ).loc Cert.DxRefIdeal.main_arg15) = m ((c.tc : Thread Cert.DxRefIdeal.nD Cert.DxRefIdeal.τ).loc Cert.DxRefIdeal.main_arg15))
      ∧ r.2.sem = fun _ => 0)

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)
      ∧ m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)
      ∧ m' ((c.tc : Thread Cert.DwOutRefIdeal.nD Cert.DwOutRefIdeal.τ).loc Cert.DwOutRefIdeal.main_arg4) = m ((c.tc : Thread Cert.DwOutIdeal.nD Cert.DwOutIdeal.τ).loc Cert.DwOutIdeal.main_arg4)
      ∧ m' ((c.tc : Thread Cert.DwOutRefIdeal.nD Cert.DwOutRefIdeal.τ).loc Cert.DwOutRefIdeal.main_arg5) = m ((c.tc : Thread Cert.DwOutIdeal.nD Cert.DwOutIdeal.τ).loc Cert.DwOutIdeal.main_arg5)
      ∧ m' ((c.tc : Thread Cert.DwOutRefIdeal.nD Cert.DwOutRefIdeal.τ).loc Cert.DwOutRefIdeal.main_arg6) = m ((c.tc : Thread Cert.DwOutIdeal.nD Cert.DwOutIdeal.τ).loc Cert.DwOutIdeal.main_arg6)
      ∧ m' ((c.tc : Thread Cert.DwOutRefIdeal.nD Cert.DwOutRefIdeal.τ).loc Cert.DwOutRefIdeal.main_arg7) = m ((c.tc : Thread Cert.DwOutIdeal.nD Cert.DwOutIdeal.τ).loc Cert.DwOutIdeal.main_arg7)
      ∧ m' ((c.tc : Thread Cert.DwOutRefIdeal.nD Cert.DwOutRefIdeal.τ).loc Cert.DwOutRefIdeal.main_arg8) = m ((c.tc : Thread Cert.DwOutIdeal.nD Cert.DwOutIdeal.τ).loc Cert.DwOutIdeal.main_arg8)) →
    ∃ (v0 : (c : Dev Cert.DwOutIdeal.nD) → Buf (Elt Ideal) ((c.tc : Thread Cert.DwOutIdeal.nD Cert.DwOutIdeal.τ).loc Cert.DwOutIdeal.main_v10)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v10) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3)
          ∧ r.2.mem ((c.tc : Thread Cert.DwOutIdeal.nD Cert.DwOutIdeal.τ).loc Cert.DwOutIdeal.main_arg4) = m ((c.tc : Thread Cert.DwOutIdeal.nD Cert.DwOutIdeal.τ).loc Cert.DwOutIdeal.main_arg4)
          ∧ r.2.mem ((c.tc : Thread Cert.DwOutIdeal.nD Cert.DwOutIdeal.τ).loc Cert.DwOutIdeal.main_arg5) = m ((c.tc : Thread Cert.DwOutIdeal.nD Cert.DwOutIdeal.τ).loc Cert.DwOutIdeal.main_arg5)
          ∧ r.2.mem ((c.tc : Thread Cert.DwOutIdeal.nD Cert.DwOutIdeal.τ).loc Cert.DwOutIdeal.main_arg6) = m ((c.tc : Thread Cert.DwOutIdeal.nD Cert.DwOutIdeal.τ).loc Cert.DwOutIdeal.main_arg6)
          ∧ r.2.mem ((c.tc : Thread Cert.DwOutIdeal.nD Cert.DwOutIdeal.τ).loc Cert.DwOutIdeal.main_arg7) = m ((c.tc : Thread Cert.DwOutIdeal.nD Cert.DwOutIdeal.τ).loc Cert.DwOutIdeal.main_arg7)
          ∧ r.2.mem ((c.tc : Thread Cert.DwOutIdeal.nD Cert.DwOutIdeal.τ).loc Cert.DwOutIdeal.main_arg8) = m ((c.tc : Thread Cert.DwOutIdeal.nD Cert.DwOutIdeal.τ).loc Cert.DwOutIdeal.main_arg8))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v0) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2)
          ∧ r.2.mem ((c.tc : Thread Cert.DwOutRefIdeal.nD Cert.DwOutRefIdeal.τ).loc Cert.DwOutRefIdeal.main_arg3) = m' ((c.tc : Thread Cert.DwOutRefIdeal.nD Cert.DwOutRefIdeal.τ).loc Cert.DwOutRefIdeal.main_arg3)
          ∧ r.2.mem ((c.tc : Thread Cert.DwOutRefIdeal.nD Cert.DwOutRefIdeal.τ).loc Cert.DwOutRefIdeal.main_arg4) = m' ((c.tc : Thread Cert.DwOutRefIdeal.nD Cert.DwOutRefIdeal.τ).loc Cert.DwOutRefIdeal.main_arg4)
          ∧ r.2.mem ((c.tc : Thread Cert.DwOutRefIdeal.nD Cert.DwOutRefIdeal.τ).loc Cert.DwOutRefIdeal.main_arg5) = m' ((c.tc : Thread Cert.DwOutRefIdeal.nD Cert.DwOutRefIdeal.τ).loc Cert.DwOutRefIdeal.main_arg5)
          ∧ r.2.mem ((c.tc : Thread Cert.DwOutRefIdeal.nD Cert.DwOutRefIdeal.τ).loc Cert.DwOutRefIdeal.main_arg6) = m' ((c.tc : Thread Cert.DwOutRefIdeal.nD Cert.DwOutRefIdeal.τ).loc Cert.DwOutRefIdeal.main_arg6)
          ∧ r.2.mem ((c.tc : Thread Cert.DwOutRefIdeal.nD Cert.DwOutRefIdeal.τ).loc Cert.DwOutRefIdeal.main_arg7) = m' ((c.tc : Thread Cert.DwOutRefIdeal.nD Cert.DwOutRefIdeal.τ).loc Cert.DwOutRefIdeal.main_arg7)
          ∧ r.2.mem ((c.tc : Thread Cert.DwOutRefIdeal.nD Cert.DwOutRefIdeal.τ).loc Cert.DwOutRefIdeal.main_arg8) = m' ((c.tc : Thread Cert.DwOutRefIdeal.nD Cert.DwOutRefIdeal.τ).loc Cert.DwOutRefIdeal.main_arg8))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)
      ∧ m' ((c.tc : Thread Cert.DwInRefIdeal.nD Cert.DwInRefIdeal.τ).loc Cert.DwInRefIdeal.main_arg5) = m ((c.tc : Thread Cert.DwInIdeal.nD Cert.DwInIdeal.τ).loc Cert.DwInIdeal.main_arg5)
      ∧ m' ((c.tc : Thread Cert.DwInRefIdeal.nD Cert.DwInRefIdeal.τ).loc Cert.DwInRefIdeal.main_arg6) = m ((c.tc : Thread Cert.DwInIdeal.nD Cert.DwInIdeal.τ).loc Cert.DwInIdeal.main_arg6)
      ∧ m' ((c.tc : Thread Cert.DwInRefIdeal.nD Cert.DwInRefIdeal.τ).loc Cert.DwInRefIdeal.main_arg7) = m ((c.tc : Thread Cert.DwInIdeal.nD Cert.DwInIdeal.τ).loc Cert.DwInIdeal.main_arg7)
      ∧ m' ((c.tc : Thread Cert.DwInRefIdeal.nD Cert.DwInRefIdeal.τ).loc Cert.DwInRefIdeal.main_arg8) = m ((c.tc : Thread Cert.DwInIdeal.nD Cert.DwInIdeal.τ).loc Cert.DwInIdeal.main_arg8)
      ∧ m' ((c.tc : Thread Cert.DwInRefIdeal.nD Cert.DwInRefIdeal.τ).loc Cert.DwInRefIdeal.main_arg9) = m ((c.tc : Thread Cert.DwInIdeal.nD Cert.DwInIdeal.τ).loc Cert.DwInIdeal.main_arg9)
      ∧ m' ((c.tc : Thread Cert.DwInRefIdeal.nD Cert.DwInRefIdeal.τ).loc Cert.DwInRefIdeal.main_arg10) = m ((c.tc : Thread Cert.DwInIdeal.nD Cert.DwInIdeal.τ).loc Cert.DwInIdeal.main_arg10)) →
    ∃ (v0 : (c : Dev Cert.DwInIdeal.nD) → Buf (Elt Ideal) ((c.tc : Thread Cert.DwInIdeal.nD Cert.DwInIdeal.τ).loc Cert.DwInIdeal.main_v12)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v12) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
          ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
          ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6)
          ∧ r.2.mem ((c.tc : Thread Cert.DwInIdeal.nD Cert.DwInIdeal.τ).loc Cert.DwInIdeal.main_arg7) = m ((c.tc : Thread Cert.DwInIdeal.nD Cert.DwInIdeal.τ).loc Cert.DwInIdeal.main_arg7)
          ∧ r.2.mem ((c.tc : Thread Cert.DwInIdeal.nD Cert.DwInIdeal.τ).loc Cert.DwInIdeal.main_arg8) = m ((c.tc : Thread Cert.DwInIdeal.nD Cert.DwInIdeal.τ).loc Cert.DwInIdeal.main_arg8)
          ∧ r.2.mem ((c.tc : Thread Cert.DwInIdeal.nD Cert.DwInIdeal.τ).loc Cert.DwInIdeal.main_arg9) = m ((c.tc : Thread Cert.DwInIdeal.nD Cert.DwInIdeal.τ).loc Cert.DwInIdeal.main_arg9)
          ∧ r.2.mem ((c.tc : Thread Cert.DwInIdeal.nD Cert.DwInIdeal.τ).loc Cert.DwInIdeal.main_arg10) = m ((c.tc : Thread Cert.DwInIdeal.nD Cert.DwInIdeal.τ).loc Cert.DwInIdeal.main_arg10))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v1) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4)
          ∧ r.2.mem ((c.tc : Thread Cert.DwInRefIdeal.nD Cert.DwInRefIdeal.τ).loc Cert.DwInRefIdeal.main_arg5) = m' ((c.tc : Thread Cert.DwInRefIdeal.nD Cert.DwInRefIdeal.τ).loc Cert.DwInRefIdeal.main_arg5)
          ∧ r.2.mem ((c.tc : Thread Cert.DwInRefIdeal.nD Cert.DwInRefIdeal.τ).loc Cert.DwInRefIdeal.main_arg6) = m' ((c.tc : Thread Cert.DwInRefIdeal.nD Cert.DwInRefIdeal.τ).loc Cert.DwInRefIdeal.main_arg6)
          ∧ r.2.mem ((c.tc : Thread Cert.DwInRefIdeal.nD Cert.DwInRefIdeal.τ).loc Cert.DwInRefIdeal.main_arg7) = m' ((c.tc : Thread Cert.DwInRefIdeal.nD Cert.DwInRefIdeal.τ).loc Cert.DwInRefIdeal.main_arg7)
          ∧ r.2.mem ((c.tc : Thread Cert.DwInRefIdeal.nD Cert.DwInRefIdeal.τ).loc Cert.DwInRefIdeal.main_arg8) = m' ((c.tc : Thread Cert.DwInRefIdeal.nD Cert.DwInRefIdeal.τ).loc Cert.DwInRefIdeal.main_arg8)
          ∧ r.2.mem ((c.tc : Thread Cert.DwInRefIdeal.nD Cert.DwInRefIdeal.τ).loc Cert.DwInRefIdeal.main_arg9) = m' ((c.tc : Thread Cert.DwInRefIdeal.nD Cert.DwInRefIdeal.τ).loc Cert.DwInRefIdeal.main_arg9)
          ∧ r.2.mem ((c.tc : Thread Cert.DwInRefIdeal.nD Cert.DwInRefIdeal.τ).loc Cert.DwInRefIdeal.main_arg10) = m' ((c.tc : Thread Cert.DwInRefIdeal.nD Cert.DwInRefIdeal.τ).loc Cert.DwInRefIdeal.main_arg10))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)
      ∧ m' ((c.tc : Thread Cert.DwQkvRefIdeal.nD Cert.DwQkvRefIdeal.τ).loc Cert.DwQkvRefIdeal.main_arg2) = m ((c.tc : Thread Cert.DwQkvIdeal.nD Cert.DwQkvIdeal.τ).loc Cert.DwQkvIdeal.main_arg2)
      ∧ m' ((c.tc : Thread Cert.DwQkvRefIdeal.nD Cert.DwQkvRefIdeal.τ).loc Cert.DwQkvRefIdeal.main_arg3) = m ((c.tc : Thread Cert.DwQkvIdeal.nD Cert.DwQkvIdeal.τ).loc Cert.DwQkvIdeal.main_arg3)
      ∧ m' ((c.tc : Thread Cert.DwQkvRefIdeal.nD Cert.DwQkvRefIdeal.τ).loc Cert.DwQkvRefIdeal.main_arg4) = m ((c.tc : Thread Cert.DwQkvIdeal.nD Cert.DwQkvIdeal.τ).loc Cert.DwQkvIdeal.main_arg4)
      ∧ m' ((c.tc : Thread Cert.DwQkvRefIdeal.nD Cert.DwQkvRefIdeal.τ).loc Cert.DwQkvRefIdeal.main_arg5) = m ((c.tc : Thread Cert.DwQkvIdeal.nD Cert.DwQkvIdeal.τ).loc Cert.DwQkvIdeal.main_arg5)
      ∧ m' ((c.tc : Thread Cert.DwQkvRefIdeal.nD Cert.DwQkvRefIdeal.τ).loc Cert.DwQkvRefIdeal.main_arg6) = m ((c.tc : Thread Cert.DwQkvIdeal.nD Cert.DwQkvIdeal.τ).loc Cert.DwQkvIdeal.main_arg6)
      ∧ m' ((c.tc : Thread Cert.DwQkvRefIdeal.nD Cert.DwQkvRefIdeal.τ).loc Cert.DwQkvRefIdeal.main_arg7) = m ((c.tc : Thread Cert.DwQkvIdeal.nD Cert.DwQkvIdeal.τ).loc Cert.DwQkvIdeal.main_arg7)
      ∧ m' ((c.tc : Thread Cert.DwQkvRefIdeal.nD Cert.DwQkvRefIdeal.τ).loc Cert.DwQkvRefIdeal.main_arg8) = m ((c.tc : Thread Cert.DwQkvIdeal.nD Cert.DwQkvIdeal.τ).loc Cert.DwQkvIdeal.main_arg8)
      ∧ m' ((c.tc : Thread Cert.DwQkvRefIdeal.nD Cert.DwQkvRefIdeal.τ).loc Cert.DwQkvRefIdeal.main_arg9) = m ((c.tc : Thread Cert.DwQkvIdeal.nD Cert.DwQkvIdeal.τ).loc Cert.DwQkvIdeal.main_arg9)) →
    ∃ (v0 : (c : Dev Cert.DwQkvIdeal.nD) → Buf (Elt Ideal) ((c.tc : Thread Cert.DwQkvIdeal.nD Cert.DwQkvIdeal.τ).loc Cert.DwQkvIdeal.main_v15)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v15) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
          ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
          ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4)
          ∧ r.2.mem ((c.tc : Thread Cert.DwQkvIdeal.nD Cert.DwQkvIdeal.τ).loc Cert.DwQkvIdeal.main_arg5) = m ((c.tc : Thread Cert.DwQkvIdeal.nD Cert.DwQkvIdeal.τ).loc Cert.DwQkvIdeal.main_arg5)
          ∧ r.2.mem ((c.tc : Thread Cert.DwQkvIdeal.nD Cert.DwQkvIdeal.τ).loc Cert.DwQkvIdeal.main_arg6) = m ((c.tc : Thread Cert.DwQkvIdeal.nD Cert.DwQkvIdeal.τ).loc Cert.DwQkvIdeal.main_arg6)
          ∧ r.2.mem ((c.tc : Thread Cert.DwQkvIdeal.nD Cert.DwQkvIdeal.τ).loc Cert.DwQkvIdeal.main_arg7) = m ((c.tc : Thread Cert.DwQkvIdeal.nD Cert.DwQkvIdeal.τ).loc Cert.DwQkvIdeal.main_arg7)
          ∧ r.2.mem ((c.tc : Thread Cert.DwQkvIdeal.nD Cert.DwQkvIdeal.τ).loc Cert.DwQkvIdeal.main_arg8) = m ((c.tc : Thread Cert.DwQkvIdeal.nD Cert.DwQkvIdeal.τ).loc Cert.DwQkvIdeal.main_arg8)
          ∧ r.2.mem ((c.tc : Thread Cert.DwQkvIdeal.nD Cert.DwQkvIdeal.τ).loc Cert.DwQkvIdeal.main_arg9) = m ((c.tc : Thread Cert.DwQkvIdeal.nD Cert.DwQkvIdeal.τ).loc Cert.DwQkvIdeal.main_arg9))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v3) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1)
          ∧ r.2.mem ((c.tc : Thread Cert.DwQkvRefIdeal.nD Cert.DwQkvRefIdeal.τ).loc Cert.DwQkvRefIdeal.main_arg2) = m' ((c.tc : Thread Cert.DwQkvRefIdeal.nD Cert.DwQkvRefIdeal.τ).loc Cert.DwQkvRefIdeal.main_arg2)
          ∧ r.2.mem ((c.tc : Thread Cert.DwQkvRefIdeal.nD Cert.DwQkvRefIdeal.τ).loc Cert.DwQkvRefIdeal.main_arg3) = m' ((c.tc : Thread Cert.DwQkvRefIdeal.nD Cert.DwQkvRefIdeal.τ).loc Cert.DwQkvRefIdeal.main_arg3)
          ∧ r.2.mem ((c.tc : Thread Cert.DwQkvRefIdeal.nD Cert.DwQkvRefIdeal.τ).loc Cert.DwQkvRefIdeal.main_arg4) = m' ((c.tc : Thread Cert.DwQkvRefIdeal.nD Cert.DwQkvRefIdeal.τ).loc Cert.DwQkvRefIdeal.main_arg4)
          ∧ r.2.mem ((c.tc : Thread Cert.DwQkvRefIdeal.nD Cert.DwQkvRefIdeal.τ).loc Cert.DwQkvRefIdeal.main_arg5) = m' ((c.tc : Thread Cert.DwQkvRefIdeal.nD Cert.DwQkvRefIdeal.τ).loc Cert.DwQkvRefIdeal.main_arg5)
          ∧ r.2.mem ((c.tc : Thread Cert.DwQkvRefIdeal.nD Cert.DwQkvRefIdeal.τ).loc Cert.DwQkvRefIdeal.main_arg6) = m' ((c.tc : Thread Cert.DwQkvRefIdeal.nD Cert.DwQkvRefIdeal.τ).loc Cert.DwQkvRefIdeal.main_arg6)
          ∧ r.2.mem ((c.tc : Thread Cert.DwQkvRefIdeal.nD Cert.DwQkvRefIdeal.τ).loc Cert.DwQkvRefIdeal.main_arg7) = m' ((c.tc : Thread Cert.DwQkvRefIdeal.nD Cert.DwQkvRefIdeal.τ).loc Cert.DwQkvRefIdeal.main_arg7)
          ∧ r.2.mem ((c.tc : Thread Cert.DwQkvRefIdeal.nD Cert.DwQkvRefIdeal.τ).loc Cert.DwQkvRefIdeal.main_arg8) = m' ((c.tc : Thread Cert.DwQkvRefIdeal.nD Cert.DwQkvRefIdeal.τ).loc Cert.DwQkvRefIdeal.main_arg8)
          ∧ r.2.mem ((c.tc : Thread Cert.DwQkvRefIdeal.nD Cert.DwQkvRefIdeal.τ).loc Cert.DwQkvRefIdeal.main_arg9) = m' ((c.tc : Thread Cert.DwQkvRefIdeal.nD Cert.DwQkvRefIdeal.τ).loc Cert.DwQkvRefIdeal.main_arg9))

def preserves_Dx_DxIdeal : Prop :=
  True

def algebraic_DxIdeal_DxRefIdeal_pre_scales_finite [hDxIdeal : Cert.DxIdeal.Facts] [hDxRefIdeal : Cert.DxRefIdeal.Facts] [hPre_scales_finite : Cert.Pre_scales_finite.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal_scales_finite m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)
      ∧ m' ((c.tc : Thread Cert.DxRefIdeal.nD Cert.DxRefIdeal.τ).loc Cert.DxRefIdeal.main_arg7) = m ((c.tc : Thread Cert.DxIdeal.nD Cert.DxIdeal.τ).loc Cert.DxIdeal.main_arg7)
      ∧ m' ((c.tc : Thread Cert.DxRefIdeal.nD Cert.DxRefIdeal.τ).loc Cert.DxRefIdeal.main_arg8) = m ((c.tc : Thread Cert.DxIdeal.nD Cert.DxIdeal.τ).loc Cert.DxIdeal.main_arg8)
      ∧ m' ((c.tc : Thread Cert.DxRefIdeal.nD Cert.DxRefIdeal.τ).loc Cert.DxRefIdeal.main_arg9) = m ((c.tc : Thread Cert.DxIdeal.nD Cert.DxIdeal.τ).loc Cert.DxIdeal.main_arg9)
      ∧ m' ((c.tc : Thread Cert.DxRefIdeal.nD Cert.DxRefIdeal.τ).loc Cert.DxRefIdeal.main_arg10) = m ((c.tc : Thread Cert.DxIdeal.nD Cert.DxIdeal.τ).loc Cert.DxIdeal.main_arg10)
      ∧ m' ((c.tc : Thread Cert.DxRefIdeal.nD Cert.DxRefIdeal.τ).loc Cert.DxRefIdeal.main_arg11) = m ((c.tc : Thread Cert.DxIdeal.nD Cert.DxIdeal.τ).loc Cert.DxIdeal.main_arg11)
      ∧ m' ((c.tc : Thread Cert.DxRefIdeal.nD Cert.DxRefIdeal.τ).loc Cert.DxRefIdeal.main_arg12) = m ((c.tc : Thread Cert.DxIdeal.nD Cert.DxIdeal.τ).loc Cert.DxIdeal.main_arg12)
      ∧ m' ((c.tc : Thread Cert.DxRefIdeal.nD Cert.DxRefIdeal.τ).loc Cert.DxRefIdeal.main_arg13) = m ((c.tc : Thread Cert.DxIdeal.nD Cert.DxIdeal.τ).loc Cert.DxIdeal.main_arg13)
      ∧ m' ((c.tc : Thread Cert.DxRefIdeal.nD Cert.DxRefIdeal.τ).loc Cert.DxRefIdeal.main_arg14) = m ((c.tc : Thread Cert.DxIdeal.nD Cert.DxIdeal.τ).loc Cert.DxIdeal.main_arg14)
      ∧ m' ((c.tc : Thread Cert.DxRefIdeal.nD Cert.DxRefIdeal.τ).loc Cert.DxRefIdeal.main_arg15) = m ((c.tc : Thread Cert.DxIdeal.nD Cert.DxIdeal.τ).loc Cert.DxIdeal.main_arg15)) →
    ∃ (v0 : (c : Dev Cert.DxIdeal.nD) → Buf (Elt Ideal) ((c.tc : Thread Cert.DxIdeal.nD Cert.DxIdeal.τ).loc Cert.DxIdeal.main_v18_0)) (v1 : (c : Dev Cert.DxIdeal.nD) → Buf (Elt Ideal) ((c.tc : Thread Cert.DxIdeal.nD Cert.DxIdeal.τ).loc Cert.DxIdeal.main_v18_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v18_0) = v0 c
          ∧ r.2.mem ((c.tc : Thread Cert.DxIdeal.nD Cert.DxIdeal.τ).loc Cert.DxIdeal.main_v18_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
          ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
          ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
          ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
          ∧ r.2.mem ((c.tc : Thread Cert.DxIdeal.nD Cert.DxIdeal.τ).loc Cert.DxIdeal.main_arg11) = m ((c.tc : Thread Cert.DxIdeal.nD Cert.DxIdeal.τ).loc Cert.DxIdeal.main_arg11)
          ∧ r.2.mem ((c.tc : Thread Cert.DxIdeal.nD Cert.DxIdeal.τ).loc Cert.DxIdeal.main_arg12) = m ((c.tc : Thread Cert.DxIdeal.nD Cert.DxIdeal.τ).loc Cert.DxIdeal.main_arg12)
          ∧ r.2.mem ((c.tc : Thread Cert.DxIdeal.nD Cert.DxIdeal.τ).loc Cert.DxIdeal.main_arg13) = m ((c.tc : Thread Cert.DxIdeal.nD Cert.DxIdeal.τ).loc Cert.DxIdeal.main_arg13)
          ∧ r.2.mem ((c.tc : Thread Cert.DxIdeal.nD Cert.DxIdeal.τ).loc Cert.DxIdeal.main_arg14) = m ((c.tc : Thread Cert.DxIdeal.nD Cert.DxIdeal.τ).loc Cert.DxIdeal.main_arg14)
          ∧ r.2.mem ((c.tc : Thread Cert.DxIdeal.nD Cert.DxIdeal.τ).loc Cert.DxIdeal.main_arg15) = m ((c.tc : Thread Cert.DxIdeal.nD Cert.DxIdeal.τ).loc Cert.DxIdeal.main_arg15))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v5_0) = v0 c
          ∧ r.2.mem ((c.tc : Thread Cert.DxRefIdeal.nD Cert.DxRefIdeal.τ).loc Cert.DxRefIdeal.main_v5_1) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7)
          ∧ r.2.mem ((c.tc : Thread Cert.DxRefIdeal.nD Cert.DxRefIdeal.τ).loc Cert.DxRefIdeal.main_arg8) = m' ((c.tc : Thread Cert.DxRefIdeal.nD Cert.DxRefIdeal.τ).loc Cert.DxRefIdeal.main_arg8)
          ∧ r.2.mem ((c.tc : Thread Cert.DxRefIdeal.nD Cert.DxRefIdeal.τ).loc Cert.DxRefIdeal.main_arg9) = m' ((c.tc : Thread Cert.DxRefIdeal.nD Cert.DxRefIdeal.τ).loc Cert.DxRefIdeal.main_arg9)
          ∧ r.2.mem ((c.tc : Thread Cert.DxRefIdeal.nD Cert.DxRefIdeal.τ).loc Cert.DxRefIdeal.main_arg10) = m' ((c.tc : Thread Cert.DxRefIdeal.nD Cert.DxRefIdeal.τ).loc Cert.DxRefIdeal.main_arg10)
          ∧ r.2.mem ((c.tc : Thread Cert.DxRefIdeal.nD Cert.DxRefIdeal.τ).loc Cert.DxRefIdeal.main_arg11) = m' ((c.tc : Thread Cert.DxRefIdeal.nD Cert.DxRefIdeal.τ).loc Cert.DxRefIdeal.main_arg11)
          ∧ r.2.mem ((c.tc : Thread Cert.DxRefIdeal.nD Cert.DxRefIdeal.τ).loc Cert.DxRefIdeal.main_arg12) = m' ((c.tc : Thread Cert.DxRefIdeal.nD Cert.DxRefIdeal.τ).loc Cert.DxRefIdeal.main_arg12)
          ∧ r.2.mem ((c.tc : Thread Cert.DxRefIdeal.nD Cert.DxRefIdeal.τ).loc Cert.DxRefIdeal.main_arg13) = m' ((c.tc : Thread Cert.DxRefIdeal.nD Cert.DxRefIdeal.τ).loc Cert.DxRefIdeal.main_arg13)
          ∧ r.2.mem ((c.tc : Thread Cert.DxRefIdeal.nD Cert.DxRefIdeal.τ).loc Cert.DxRefIdeal.main_arg14) = m' ((c.tc : Thread Cert.DxRefIdeal.nD Cert.DxRefIdeal.τ).loc Cert.DxRefIdeal.main_arg14)
          ∧ r.2.mem ((c.tc : Thread Cert.DxRefIdeal.nD Cert.DxRefIdeal.τ).loc Cert.DxRefIdeal.main_arg15) = m' ((c.tc : Thread Cert.DxRefIdeal.nD Cert.DxRefIdeal.τ).loc Cert.DxRefIdeal.main_arg15))

def Claim : Prop :=
  ∃ (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hDwQkv : Cert.DwQkv.Facts) (hDwQkvIdeal : Cert.DwQkvIdeal.Facts) (hDwQkvRefIdeal : Cert.DwQkvRefIdeal.Facts) (hDx : Cert.Dx.Facts) (hDxIdeal : Cert.DxIdeal.Facts) (hDxRefIdeal : Cert.DxRefIdeal.Facts) (hPre_scales_finite : Cert.Pre_scales_finite.Facts),
    quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_Dx (hDx := hDx)
    ∧ quiescent_DxIdeal (hDxIdeal := hDxIdeal)
    ∧ quiescent_DxIdeal_pre_scales_finite (hDxIdeal := hDxIdeal) (hPre_scales_finite := hPre_scales_finite)
    ∧ quiescent_DxRefIdeal (hDxRefIdeal := hDxRefIdeal)
    ∧ quiescent_DxRefIdeal_pre_scales_finite (hDxRefIdeal := hDxRefIdeal) (hPre_scales_finite := hPre_scales_finite)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
    ∧ preserves_DwQkv_DwQkvIdeal
    ∧ algebraic_DwQkvIdeal_DwQkvRefIdeal (hDwQkvIdeal := hDwQkvIdeal) (hDwQkvRefIdeal := hDwQkvRefIdeal)
    ∧ preserves_Dx_DxIdeal
    ∧ algebraic_DxIdeal_DxRefIdeal_pre_scales_finite (hDxIdeal := hDxIdeal) (hDxRefIdeal := hDxRefIdeal) (hPre_scales_finite := hPre_scales_finite)
-- ==== Pre_scales_finite.lean ====
abbrev S5x384x4608 : Shape := ⟨3, ![5, 384, 4608]⟩
abbrev S5x384 : Shape := ⟨2, ![5, 384]⟩
abbrev S5x384x3x36x128 : Shape := ⟨5, ![5, 384, 3, 36, 128]⟩
abbrev S4608 : Shape := ⟨1, ![4608]⟩
abbrev S4608x12288 : Shape := ⟨2, ![4608, 12288]⟩
abbrev S12288 : Shape := ⟨1, ![12288]⟩
abbrev S4608x3x36x128 : Shape := ⟨4, ![4608, 3, 36, 128]⟩
abbrev S3x36x128 : Shape := ⟨3, ![3, 36, 128]⟩
abbrev S5x384x12288 : Shape := ⟨3, ![5, 384, 12288]⟩
abbrev S_ : Shape := ⟨0, ![]⟩

class Facts : Prop where
  bcast_S_S5x384 : S_.BroadcastsInDim S5x384 (![] : Fin 0 → Fin S5x384.rank)

variable [Facts]

def fn {F : FTy → Type} [FloatOps F] (main_arg0 : FVec F S5x384x4608 .fp8e5m2) (main_arg1 : FVec F S5x384 .f32) (main_arg2 : FVec F S5x384x3x36x128 .fp8e5m2) (main_arg3 : FVec F S5x384 .f32) (main_arg4 : FVec F S5x384x4608 .fp8e4m3) (main_arg5 : FVec F S5x384 .f32) (main_arg6 : FVec F S5x384 .f32) (main_arg7 : FVec F S4608 .f32) (main_arg8 : FVec F S5x384 .f32) (main_arg9 : FVec F S5x384 .f32) (main_arg10 : FVec F S4608x12288 .fp8e4m3) (main_arg11 : FVec F S12288 .f32) (main_arg12 : FVec F S4608x3x36x128 .fp8e4m3) (main_arg13 : FVec F S3x36x128 .f32) (main_arg14 : FVec F S5x384x12288 .fp8e5m2) (main_arg15 : FVec F S5x384 .f32) : IVec S5x384 1 × IVec S5x384 1 × IVec S5x384 1 × IVec S5x384 1 :=
  let main_cst : FVec F S_ .f32 := constant S_ .f32 0x00000000#32
  let main_v0 : FVec F S5x384 .f32 := broadcastInDim S5x384 ![] bcast_S_S5x384 main_cst
  let main_v1 : IVec S5x384 1 := cmpf .oge main_arg3 main_v0
  let main_cst_0 : FVec F S_ .f32 := constant S_ .f32 0x7F800000#32
  let main_v2 : FVec F S5x384 .f32 := broadcastInDim S5x384 ![] bcast_S_S5x384 main_cst_0
  let main_v3 : IVec S5x384 1 := cmpf .olt main_arg3 main_v2
  let main_cst_1 : FVec F S_ .f32 := constant S_ .f32 0x00000000#32
  let main_v4 : FVec F S5x384 .f32 := broadcastInDim S5x384 ![] bcast_S_S5x384 main_cst_1
  let main_v5 : IVec S5x384 1 := cmpf .oge main_arg15 main_v4
  let main_cst_2 : FVec F S_ .f32 := constant S_ .f32 0x7F800000#32
  let main_v6 : FVec F S5x384 .f32 := broadcastInDim S5x384 ![] bcast_S_S5x384 main_cst_2
  let main_v7 : IVec S5x384 1 := cmpf .olt main_arg15 main_v6
  (main_v1, main_v3, main_v5, main_v7)
-- ==== DwOut.lean ====
abbrev S5x384x4608 : Shape := ⟨3, ![5, 384, 4608]⟩
abbrev S5x384 : Shape := ⟨2, ![5, 384]⟩
abbrev S5x384x12288 : Shape := ⟨3, ![5, 384, 12288]⟩
abbrev S12288x4608 : Shape := ⟨2, ![12288, 4608]⟩
abbrev S_ : Shape := ⟨0, ![]⟩
abbrev S5x384x1 : Shape := ⟨3, ![5, 384, 1]⟩
abbrev S5x384x8 : Shape := ⟨3, ![5, 384, 8]⟩
abbrev S5x384x256 : Shape := ⟨3, ![5, 384, 256]⟩
abbrev S256x4608 : Shape := ⟨2, ![256, 4608]⟩
abbrev S1920x4608 : Shape := ⟨2, ![1920, 4608]⟩
abbrev S256x1920 : Shape := ⟨2, ![256, 1920]⟩
abbrev S1920x1 : Shape := ⟨2, ![1920, 1]⟩
abbrev S5x384x512 : Shape := ⟨3, ![5, 384, 512]⟩
abbrev S1920x512 : Shape := ⟨2, ![1920, 512]⟩
abbrev S1920x256 : Shape := ⟨2, ![1920, 256]⟩
abbrev S256x512 : Shape := ⟨2, ![256, 512]⟩

abbrev nBuf : Space → Nat
  | .hbm => 21
  | .vmem => 10
  | .smem => 0
  | _ => 0

abbrev bufTy : (tb : Table) → Fin (tcTables nBuf tb) → BufTy
  | .hbm, ⟨0, _⟩ => ⟨S5x384x4608, .fp8e5m2⟩
  | .hbm, ⟨1, _⟩ => ⟨S5x384, .f32⟩
  | .hbm, ⟨2, _⟩ => ⟨S5x384, .f32⟩
  | .hbm, ⟨3, _⟩ => ⟨S5x384, .f32⟩
  | .hbm, ⟨4, _⟩ => ⟨S5x384, .f32⟩
  | .hbm, ⟨5, _⟩ => ⟨S5x384, .f32⟩
  | .hbm, ⟨6, _⟩ => ⟨S5x384x12288, .fp8e4m3⟩
  | .hbm, ⟨7, _⟩ => ⟨S5x384, .f32⟩
  | .hbm, ⟨8, _⟩ => ⟨S12288x4608, .f32⟩
  | .hbm, ⟨9, _⟩ => ⟨S_, .f32⟩
  | .hbm, ⟨10, _⟩ => ⟨S5x384, .f32⟩
  | .hbm, ⟨11, _⟩ => ⟨S5x384x1, .f32⟩
  | .hbm, ⟨12, _⟩ => ⟨S5x384x1, .f32⟩
  | .hbm, ⟨13, _⟩ => ⟨S5x384x1, .f32⟩
  | .hbm, ⟨14, _⟩ => ⟨S5x384x1, .f32⟩
  | .hbm, ⟨15, _⟩ => ⟨S5x384x1, .f32⟩
  | .hbm, ⟨16, _⟩ => ⟨S5x384x1, .f32⟩
  | .hbm, ⟨17, _⟩ => ⟨S5x384x1, .f32⟩
  | .hbm, ⟨18, _⟩ => ⟨S5x384x1, .f32⟩
  | .hbm, ⟨19, _⟩ => ⟨S5x384x8, .f32⟩
  | .hbm, ⟨20, _⟩ => ⟨S12288x4608, .f32⟩
  | .local _ .vmem, ⟨0, _⟩ => ⟨S5x384x256, .fp8e4m3⟩
  | .local _ .vmem, ⟨1, _⟩ => ⟨S5x384x256, .fp8e4m3⟩
  | .local _ .vmem, ⟨2, _⟩ => ⟨S5x384x4608, .fp8e5m2⟩
  | .local _ .vmem, ⟨3, _⟩ => ⟨S5x384x8, .f32⟩
  | .local _ .vmem, ⟨4, _⟩ => ⟨S256x4608, .f32⟩
  | .local _ .vmem, ⟨5, _⟩ => ⟨S256x4608, .f32⟩
  | .local _ .vmem, ⟨6, _⟩ => ⟨S256x4608, .f32⟩
  | .local _ .vmem, ⟨7, _⟩ => ⟨S256x4608, .f32⟩
  | .local _ .vmem, ⟨8, _⟩ => ⟨S1920x4608, .bf16⟩
  | .local _ .vmem, ⟨9, _⟩ => ⟨S256x1920, .bf16⟩
  | _, _ => ⟨S5x384x4608, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x384x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x384x4608 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x384x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DwOutRefIdeal.lean ====
abbrev S5x384x4608 : Shape := ⟨3, ![5, 384, 4608]⟩
abbrev S5x384 : Shape := ⟨2, ![5, 384]⟩
abbrev S5x384x12288 : Shape := ⟨3, ![5, 384, 12288]⟩
abbrev S12288x4608 : Shape := ⟨2, ![12288, 4608]⟩
abbrev S5x384x1 : Shape := ⟨3, ![5, 384, 1]⟩
abbrev S1920x12288 : Shape := ⟨2, ![1920, 12288]⟩
abbrev S1920x4608 : Shape := ⟨2, ![1920, 4608]⟩

abbrev nBuf : Space → Nat
  | .hbm => 10
  | .vmem => 6
  | .smem => 0
  | _ => 0

abbrev bufTy : (tb : Table) → Fin (tcTables nBuf tb) → BufTy
  | .hbm, ⟨0, _⟩ => ⟨S5x384x4608, .fp8e5m2⟩
  | .hbm, ⟨1, _⟩ => ⟨S5x384, .f32⟩
  | .hbm, ⟨2, _⟩ => ⟨S5x384, .f32⟩
  | .hbm, ⟨3, _⟩ => ⟨S5x384, .f32⟩
  | .hbm, ⟨4, _⟩ => ⟨S5x384, .f32⟩
  | .hbm, ⟨5, _⟩ => ⟨S5x384, .f32⟩
  | .hbm, ⟨6, _⟩ => ⟨S5x384x12288, .fp8e4m3⟩
  | .hbm, ⟨7, _⟩ => ⟨S5x384, .f32⟩
  | .hbm, ⟨8, _⟩ => ⟨S12288x4608, .f32⟩
  | .hbm, ⟨9, _⟩ => ⟨S12288x4608, .f32⟩
  | .local _ .vmem, ⟨0, _⟩ => ⟨S5x384x4608, .fp8e5m2⟩
  | .local _ .vmem, ⟨1, _⟩ => ⟨S5x384, .f32⟩
  | .local _ .vmem, ⟨2, _⟩ => ⟨S5x384x12288, .fp8e4m3⟩
  | .local _ .vmem, ⟨3, _⟩ => ⟨S5x384, .f32⟩
  | .local _ .vmem, ⟨4, _⟩ => ⟨S12288x4608, .f32⟩
  | .local _ .vmem, ⟨5, _⟩ => ⟨S12288x4608, .f32⟩
  | _, _ => ⟨S5x384x4608, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S5x384x4608 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x384x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DwIn.lean ====
abbrev S5x384 : Shape := ⟨2, ![5, 384]⟩
abbrev S5x384x4608 : Shape := ⟨3, ![5, 384, 4608]⟩
abbrev S4608 : Shape := ⟨1, ![4608]⟩
abbrev S5x384x12288 : Shape := ⟨3, ![5, 384, 12288]⟩
abbrev S4608x12288 : Shape := ⟨2, ![4608, 12288]⟩
abbrev S_ : Shape := ⟨0, ![]⟩
abbrev S5x384x1 : Shape := ⟨3, ![5, 384, 1]⟩
abbrev S5x384x8 : Shape := ⟨3, ![5, 384, 8]⟩
abbrev S4608x1 : Shape := ⟨2, ![4608, 1]⟩
abbrev S5x384x256 : Shape := ⟨3, ![5, 384, 256]⟩
abbrev S4608x256 : Shape := ⟨2, ![4608, 256]⟩
abbrev S4608x1920 : Shape := ⟨2, ![4608, 1920]⟩
abbrev S1920x256 : Shape := ⟨2, ![1920, 256]⟩
abbrev S1920x1 : Shape := ⟨2, ![1920, 1]⟩
abbrev S256x1920 : Shape := ⟨2, ![256, 1920]⟩
abbrev S512x256 : Shape := ⟨2, ![512, 256]⟩
abbrev S512x1 : Shape := ⟨2, ![512, 1]⟩
abbrev S512x1920 : Shape := ⟨2, ![512, 1920]⟩

abbrev nBuf : Space → Nat
  | .hbm => 25
  | .vmem => 12
  | .smem => 0
  | _ => 0

abbrev bufTy : (tb : Table) → Fin (tcTables nBuf tb) → BufTy
  | .hbm, ⟨0, _⟩ => ⟨S5x384, .f32⟩
  | .hbm, ⟨1, _⟩ => ⟨S5x384, .f32⟩
  | .hbm, ⟨2, _⟩ => ⟨S5x384x4608, .fp8e4m3⟩
  | .hbm, ⟨3, _⟩ => ⟨S5x384, .f32⟩
  | .hbm, ⟨4, _⟩ => ⟨S5x384, .f32⟩
  | .hbm, ⟨5, _⟩ => ⟨S4608, .f32⟩
  | .hbm, ⟨6, _⟩ => ⟨S5x384, .f32⟩
  | .hbm, ⟨7, _⟩ => ⟨S5x384, .f32⟩
  | .hbm, ⟨8, _⟩ => ⟨S5x384x12288, .fp8e5m2⟩
  | .hbm, ⟨9, _⟩ => ⟨S5x384, .f32⟩
  | .hbm, ⟨10, _⟩ => ⟨S4608x12288, .f32⟩
  | .hbm, ⟨11, _⟩ => ⟨S_, .f32⟩
  | .hbm, ⟨12, _⟩ => ⟨S5x384, .f32⟩
  | .hbm, ⟨13, _⟩ => ⟨S5x384x1, .f32⟩
  | .hbm, ⟨14, _⟩ => ⟨S5x384x1, .f32⟩
  | .hbm, ⟨15, _⟩ => ⟨S5x384x1, .f32⟩
  | .hbm, ⟨16, _⟩ => ⟨S5x384x1, .f32⟩
  | .hbm, ⟨17, _⟩ => ⟨S5x384x1, .f32⟩
  | .hbm, ⟨18, _⟩ => ⟨S5x384x1, .f32⟩
  | .hbm, ⟨19, _⟩ => ⟨S5x384x1, .f32⟩
  | .hbm, ⟨20, _⟩ => ⟨S5x384x1, .f32⟩
  | .hbm, ⟨21, _⟩ => ⟨S5x384x8, .f32⟩
  | .hbm, ⟨22, _⟩ => ⟨S5x384x1, .f32⟩
  | .hbm, ⟨23, _⟩ => ⟨S4608x1, .f32⟩
  | .hbm, ⟨24, _⟩ => ⟨S4608x12288, .f32⟩
  | .local _ .vmem, ⟨0, _⟩ => ⟨S5x384x4608, .fp8e4m3⟩
  | .local _ .vmem, ⟨1, _⟩ => ⟨S5x384x8, .f32⟩
  | .local _ .vmem, ⟨2, _⟩ => ⟨S4608x1, .f32⟩
  | .local _ .vmem, ⟨3, _⟩ => ⟨S5x384x256, .fp8e5m2⟩
  | .local _ .vmem, ⟨4, _⟩ => ⟨S5x384x256, .fp8e5m2⟩
  | .local _ .vmem, ⟨5, _⟩ => ⟨S5x384x1, .f32⟩
  | .local _ .vmem, ⟨6, _⟩ => ⟨S4608x256, .f32⟩
  | .local _ .vmem, ⟨7, _⟩ => ⟨S4608x256, .f32⟩
  | .local _ .vmem, ⟨8, _⟩ => ⟨S4608x256, .f32⟩
  | .local _ .vmem, ⟨9, _⟩ => ⟨S4608x256, .f32⟩
  | .local _ .vmem, ⟨10, _⟩ => ⟨S4608x1920, .bf16⟩
  | .local _ .vmem, ⟨11, _⟩ => ⟨S1920x256, .bf16⟩
  | _, _ => ⟨S5x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S5x384x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x384x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5x384x256 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5x384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4608x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4608x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DwInRefIdeal.lean ====
abbrev S5x384 : Shape := ⟨2, ![5, 384]⟩
abbrev S5x384x4608 : Shape := ⟨3, ![5, 384, 4608]⟩
abbrev S4608 : Shape := ⟨1, ![4608]⟩
abbrev S5x384x12288 : Shape := ⟨3, ![5, 384, 12288]⟩
abbrev S4608x12288 : Shape := ⟨2, ![4608, 12288]⟩
abbrev S4608x1 : Shape := ⟨2, ![4608, 1]⟩
abbrev S5x384x1 : Shape := ⟨3, ![5, 384, 1]⟩
abbrev S1920x4608 : Shape := ⟨2, ![1920, 4608]⟩
abbrev S1920x12288 : Shape := ⟨2, ![1920, 12288]⟩

abbrev nBuf : Space → Nat
  | .hbm => 13
  | .vmem => 7
  | .smem => 0
  | _ => 0

abbrev bufTy : (tb : Table) → Fin (tcTables nBuf tb) → BufTy
  | .hbm, ⟨0, _⟩ => ⟨S5x384, .f32⟩
  | .hbm, ⟨1, _⟩ => ⟨S5x384, .f32⟩
  | .hbm, ⟨2, _⟩ => ⟨S5x384x4608, .fp8e4m3⟩
  | .hbm, ⟨3, _⟩ => ⟨S5x384, .f32⟩
  | .hbm, ⟨4, _⟩ => ⟨S5x384, .f32⟩
  | .hbm, ⟨5, _⟩ => ⟨S4608, .f32⟩
  | .hbm, ⟨6, _⟩ => ⟨S5x384, .f32⟩
  | .hbm, ⟨7, _⟩ => ⟨S5x384, .f32⟩
  | .hbm, ⟨8, _⟩ => ⟨S5x384x12288, .fp8e5m2⟩
  | .hbm, ⟨9, _⟩ => ⟨S5x384, .f32⟩
  | .hbm, ⟨10, _⟩ => ⟨S4608x12288, .f32⟩
  | .hbm, ⟨11, _⟩ => ⟨S4608x1, .f32⟩
  | .hbm, ⟨12, _⟩ => ⟨S4608x12288, .f32⟩
  | .local _ .vmem, ⟨0, _⟩ => ⟨S5x384x4608, .fp8e4m3⟩
  | .local _ .vmem, ⟨1, _⟩ => ⟨S5x384, .f32⟩
  | .local _ .vmem, ⟨2, _⟩ => ⟨S4608x1, .f32⟩
  | .local _ .vmem, ⟨3, _⟩ => ⟨S5x384x12288, .fp8e5m2⟩
  | .local _ .vmem, ⟨4, _⟩ => ⟨S5x384, .f32⟩
  | .local _ .vmem, ⟨5, _⟩ => ⟨S4608x12288, .f32⟩
  | .local _ .vmem, ⟨6, _⟩ => ⟨S4608x12288, .f32⟩
  | _, _ => ⟨S5x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5x384x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x384x12288 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== DwQkv.lean ====
abbrev S5x384 : Shape := ⟨2, ![5, 384]⟩
abbrev S5x384x3x36x128 : Shape := ⟨5, ![5, 384, 3, 36, 128]⟩
abbrev S5x384x4608 : Shape := ⟨3, ![5, 384, 4608]⟩
abbrev S4608 : Shape := ⟨1, ![4608]⟩
abbrev S4608x3x36x128 : Shape := ⟨4, ![4608, 3, 36, 128]⟩
abbrev S_ : Shape := ⟨0, ![]⟩
abbrev S5x384x1 : Shape := ⟨3, ![5, 384, 1]⟩
abbrev S5x384x8 : Shape := ⟨3, ![5, 384, 8]⟩
abbrev S5x3x36x384x128 : Shape := ⟨5, ![5, 3, 36, 384, 128]⟩
abbrev S5x108x384x128 : Shape := ⟨4, ![5, 108, 384, 128]⟩
abbrev S3x36x4608x128 : Shape := ⟨4, ![3, 36, 4608, 128]⟩
abbrev S108x4608x128 : Shape := ⟨3, ![108, 4608, 128]⟩
abbrev S4608x1 : Shape := ⟨2, ![4608, 1]⟩
abbrev S5x2x384x128 : Shape := ⟨4, ![5, 2, 384, 128]⟩
abbrev S2x4608x128 : Shape := ⟨3, ![2, 4608, 128]⟩
abbrev S4608x1920 : Shape := ⟨2, ![4608, 1920]⟩
abbrev S1920x256 : Shape := ⟨2, ![1920, 256]⟩
abbrev S1920x1 : Shape := ⟨2, ![1920, 1]⟩
abbrev S5x384x256 : Shape := ⟨3, ![5, 384, 256]⟩
abbrev S256x1920 : Shape := ⟨2, ![256, 1920]⟩
abbrev S5x1x384x128 : Shape := ⟨4, ![5, 1, 384, 128]⟩
abbrev S5x384x128 : Shape := ⟨3, ![5, 384, 128]⟩
abbrev S1920x128 : Shape := ⟨2, ![1920, 128]⟩
abbrev S512x1 : Shape := ⟨2, ![512, 1]⟩
abbrev S512x1920 : Shape := ⟨2, ![512, 1920]⟩
abbrev S512x256 : Shape := ⟨2, ![512, 256]⟩
abbrev S1x512x128 : Shape := ⟨3, ![1, 512, 128]⟩
abbrev S512x128 : Shape := ⟨2, ![512, 128]⟩

abbrev nBuf : Space → Nat
  | .hbm => 27
  | .vmem => 11
  | .smem => 0
  | _ => 0

abbrev bufTy : (tb : Table) → Fin (tcTables nBuf tb) → BufTy
  | .hbm, ⟨0, _⟩ => ⟨S5x384, .f32⟩
  | .hbm, ⟨1, _⟩ => ⟨S5x384x3x36x128, .fp8e5m2⟩
  | .hbm, ⟨2, _⟩ => ⟨S5x384, .f32⟩
  | .hbm, ⟨3, _⟩ => ⟨S5x384x4608, .fp8e4m3⟩
  | .hbm, ⟨4, _⟩ => ⟨S5x384, .f32⟩
  | .hbm, ⟨5, _⟩ => ⟨S5x384, .f32⟩
  | .hbm, ⟨6, _⟩ => ⟨S4608, .f32⟩
  | .hbm, ⟨7, _⟩ => ⟨S5x384, .f32⟩
  | .hbm, ⟨8, _⟩ => ⟨S5x384, .f32⟩
  | .hbm, ⟨9, _⟩ => ⟨S4608x3x36x128, .f32⟩
  | .hbm, ⟨10, _⟩ => ⟨S_, .f32⟩
  | .hbm, ⟨11, _⟩ => ⟨S5x384, .f32⟩
  | .hbm, ⟨12, _⟩ => ⟨S5x384x1, .f32⟩
  | .hbm, ⟨13, _⟩ => ⟨S5x384x1, .f32⟩
  | .hbm, ⟨14, _⟩ => ⟨S5x384x1, .f32⟩
  | .hbm, ⟨15, _⟩ => ⟨S5x384x1, .f32⟩
  | .hbm, ⟨16, _⟩ => ⟨S5x384x1, .f32⟩
  | .hbm, ⟨17, _⟩ => ⟨S5x384x1, .f32⟩
  | .hbm, ⟨18, _⟩ => ⟨S5x384x1, .f32⟩
  | .hbm, ⟨19, _⟩ => ⟨S5x384x1, .f32⟩
  | .hbm, ⟨20, _⟩ => ⟨S5x384x8, .f32⟩
  | .hbm, ⟨21, _⟩ => ⟨S5x3x36x384x128, .fp8e5m2⟩
  | .hbm, ⟨22, _⟩ => ⟨S5x108x384x128, .fp8e5m2⟩
  | .hbm, ⟨23, _⟩ => ⟨S3x36x4608x128, .f32⟩
  | .hbm, ⟨24, _⟩ => ⟨S108x4608x128, .f32⟩
  | .hbm, ⟨25, _⟩ => ⟨S4608x1, .f32⟩
  | .hbm, ⟨26, _⟩ => ⟨S108x4608x128, .f32⟩
  | .local _ .vmem, ⟨0, _⟩ => ⟨S5x384x4608, .fp8e4m3⟩
  | .local _ .vmem, ⟨1, _⟩ => ⟨S5x384x8, .f32⟩
  | .local _ .vmem, ⟨2, _⟩ => ⟨S4608x1, .f32⟩
  | .local _ .vmem, ⟨3, _⟩ => ⟨S5x2x384x128, .fp8e5m2⟩
  | .local _ .vmem, ⟨4, _⟩ => ⟨S5x2x384x128, .fp8e5m2⟩
  | .local _ .vmem, ⟨5, _⟩ => ⟨S2x4608x128, .f32⟩
  | .local _ .vmem, ⟨6, _⟩ => ⟨S2x4608x128, .f32⟩
  | .local _ .vmem, ⟨7, _⟩ => ⟨S2x4608x128, .f32⟩
  | .local _ .vmem, ⟨8, _⟩ => ⟨S2x4608x128, .f32⟩
  | .local _ .vmem, ⟨9, _⟩ => ⟨S4608x1920, .bf16⟩
  | .local _ .vmem, ⟨10, _⟩ => ⟨S1920x256, .bf16⟩
  | _, _ => ⟨S5x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![54], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S5x384x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x384x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5x2x384x128 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4608x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x4608x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DwQkvRefIdeal.lean ====
abbrev S5x384 : Shape := ⟨2, ![5, 384]⟩
abbrev S5x384x3x36x128 : Shape := ⟨5, ![5, 384, 3, 36, 128]⟩
abbrev S5x384x4608 : Shape := ⟨3, ![5, 384, 4608]⟩
abbrev S4608 : Shape := ⟨1, ![4608]⟩
abbrev S4608x3x36x128 : Shape := ⟨4, ![4608, 3, 36, 128]⟩
abbrev S4608x1 : Shape := ⟨2, ![4608, 1]⟩
abbrev S5x384x13824 : Shape := ⟨3, ![5, 384, 13824]⟩
abbrev S4608x13824 : Shape := ⟨2, ![4608, 13824]⟩
abbrev S108x4608x128 : Shape := ⟨3, ![108, 4608, 128]⟩
abbrev S5x384x1 : Shape := ⟨3, ![5, 384, 1]⟩
abbrev S1920x4608 : Shape := ⟨2, ![1920, 4608]⟩
abbrev S1920x13824 : Shape := ⟨2, ![1920, 13824]⟩
abbrev S4608x108x128 : Shape := ⟨3, ![4608, 108, 128]⟩

abbrev nBuf : Space → Nat
  | .hbm => 14
  | .vmem => 7
  | .smem => 0
  | _ => 0

abbrev bufTy : (tb : Table) → Fin (tcTables nBuf tb) → BufTy
  | .hbm, ⟨0, _⟩ => ⟨S5x384, .f32⟩
  | .hbm, ⟨1, _⟩ => ⟨S5x384x3x36x128, .fp8e5m2⟩
  | .hbm, ⟨2, _⟩ => ⟨S5x384, .f32⟩
  | .hbm, ⟨3, _⟩ => ⟨S5x384x4608, .fp8e4m3⟩
  | .hbm, ⟨4, _⟩ => ⟨S5x384, .f32⟩
  | .hbm, ⟨5, _⟩ => ⟨S5x384, .f32⟩
  | .hbm, ⟨6, _⟩ => ⟨S4608, .f32⟩
  | .hbm, ⟨7, _⟩ => ⟨S5x384, .f32⟩
  | .hbm, ⟨8, _⟩ => ⟨S5x384, .f32⟩
  | .hbm, ⟨9, _⟩ => ⟨S4608x3x36x128, .f32⟩
  | .hbm, ⟨10, _⟩ => ⟨S4608x1, .f32⟩
  | .hbm, ⟨11, _⟩ => ⟨S5x384x13824, .fp8e5m2⟩
  | .hbm, ⟨12, _⟩ => ⟨S4608x13824, .f32⟩
  | .hbm, ⟨13, _⟩ => ⟨S108x4608x128, .f32⟩
  | .local _ .vmem, ⟨0, _⟩ => ⟨S5x384x4608, .fp8e4m3⟩
  | .local _ .vmem, ⟨1, _⟩ => ⟨S5x384, .f32⟩
  | .local _ .vmem, ⟨2, _⟩ => ⟨S4608x1, .f32⟩
  | .local _ .vmem, ⟨3, _⟩ => ⟨S5x384x13824, .fp8e5m2⟩
  | .local _ .vmem, ⟨4, _⟩ => ⟨S5x384, .f32⟩
  | .local _ .vmem, ⟨5, _⟩ => ⟨S4608x13824, .f32⟩
  | .local _ .vmem, ⟨6, _⟩ => ⟨S108x4608x128, .f32⟩
  | _, _ => ⟨S5x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5x384x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x384x13824 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x13824 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S108x4608x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Dx.lean ====
abbrev S5x384x4608 : Shape := ⟨3, ![5, 384, 4608]⟩
abbrev S5x384 : Shape := ⟨2, ![5, 384]⟩
abbrev S5x384x3x36x128 : Shape := ⟨5, ![5, 384, 3, 36, 128]⟩
abbrev S4608 : Shape := ⟨1, ![4608]⟩
abbrev S4608x12288 : Shape := ⟨2, ![4608, 12288]⟩
abbrev S12288 : Shape := ⟨1, ![12288]⟩
abbrev S4608x3x36x128 : Shape := ⟨4, ![4608, 3, 36, 128]⟩
abbrev S3x36x128 : Shape := ⟨3, ![3, 36, 128]⟩
abbrev S5x384x12288 : Shape := ⟨3, ![5, 384, 12288]⟩
abbrev S_ : Shape := ⟨0, ![]⟩
abbrev S5x384x1 : Shape := ⟨3, ![5, 384, 1]⟩
abbrev S5x384x8 : Shape := ⟨3, ![5, 384, 8]⟩
abbrev S5x3x36x384x128 : Shape := ⟨5, ![5, 3, 36, 384, 128]⟩
abbrev S5x108x384x128 : Shape := ⟨4, ![5, 108, 384, 128]⟩
abbrev S3x36x4608x128 : Shape := ⟨4, ![3, 36, 4608, 128]⟩
abbrev S108x4608x128 : Shape := ⟨3, ![108, 4608, 128]⟩
abbrev S1x12288 : Shape := ⟨2, ![1, 12288]⟩
abbrev S108x1x128 : Shape := ⟨3, ![108, 1, 128]⟩
abbrev S1x4608 : Shape := ⟨2, ![1, 4608]⟩
abbrev S5x128x768 : Shape := ⟨3, ![5, 128, 768]⟩
abbrev S5x128x1 : Shape := ⟨3, ![5, 128, 1]⟩
abbrev S1x768 : Shape := ⟨2, ![1, 768]⟩
abbrev S4608x768 : Shape := ⟨2, ![4608, 768]⟩
abbrev S5x6x128x128 : Shape := ⟨4, ![5, 6, 128, 128]⟩
abbrev S6x1x128 : Shape := ⟨3, ![6, 1, 128]⟩
abbrev S6x4608x128 : Shape := ⟨3, ![6, 4608, 128]⟩
abbrev S5x128x8 : Shape := ⟨3, ![5, 128, 8]⟩
abbrev S5x128x4608 : Shape := ⟨3, ![5, 128, 4608]⟩
abbrev S640x4608 : Shape := ⟨2, ![640, 4608]⟩
abbrev S8x4608 : Shape := ⟨2, ![8, 4608]⟩
abbrev S640x768 : Shape := ⟨2, ![640, 768]⟩
abbrev S640x1 : Shape := ⟨2, ![640, 1]⟩
abbrev S512x768 : Shape := ⟨2, ![512, 768]⟩
abbrev S640x512 : Shape := ⟨2, ![640, 512]⟩
abbrev S5x1x128x128 : Shape := ⟨4, ![5, 1, 128, 128]⟩
abbrev S5x128x128 : Shape := ⟨3, ![5, 128, 128]⟩
abbrev S640x128 : Shape := ⟨2, ![640, 128]⟩
abbrev S1x1x128 : Shape := ⟨3, ![1, 1, 128]⟩
abbrev S1x128 : Shape := ⟨2, ![1, 128]⟩
abbrev S1x512x128 : Shape := ⟨3, ![1, 512, 128]⟩
abbrev S512x128 : Shape := ⟨2, ![512, 128]⟩
abbrev S32x4608 : Shape := ⟨2, ![32, 4608]⟩
abbrev S1x32x4608 : Shape := ⟨3, ![1, 32, 4608]⟩
abbrev S1x32x1 : Shape := ⟨3, ![1, 32, 1]⟩
abbrev S32x1 : Shape := ⟨2, ![32, 1]⟩
abbrev S4x8x4608 : Shape := ⟨3, ![4, 8, 4608]⟩
abbrev S32 : Shape := ⟨1, ![32]⟩

abbrev nBuf : Space → Nat
  | .hbm => 37
  | .vmem => 26
  | .smem => 0
  | _ => 0

abbrev bufTy : (tb : Table) → Fin (tcTables nBuf tb) → BufTy
  | .hbm, ⟨0, _⟩ => ⟨S5x384x4608, .fp8e5m2⟩
  | .hbm, ⟨1, _⟩ => ⟨S5x384, .f32⟩
  | .hbm, ⟨2, _⟩ => ⟨S5x384x3x36x128, .fp8e5m2⟩
  | .hbm, ⟨3, _⟩ => ⟨S5x384, .f32⟩
  | .hbm, ⟨4, _⟩ => ⟨S5x384x4608, .fp8e4m3⟩
  | .hbm, ⟨5, _⟩ => ⟨S5x384, .f32⟩
  | .hbm, ⟨6, _⟩ => ⟨S5x384, .f32⟩
  | .hbm, ⟨7, _⟩ => ⟨S4608, .f32⟩
  | .hbm, ⟨8, _⟩ => ⟨S5x384, .f32⟩
  | .hbm, ⟨9, _⟩ => ⟨S5x384, .f32⟩
  | .hbm, ⟨10, _⟩ => ⟨S4608x12288, .fp8e4m3⟩
  | .hbm, ⟨11, _⟩ => ⟨S12288, .f32⟩
  | .hbm, ⟨12, _⟩ => ⟨S4608x3x36x128, .fp8e4m3⟩
  | .hbm, ⟨13, _⟩ => ⟨S3x36x128, .f32⟩
  | .hbm, ⟨14, _⟩ => ⟨S5x384x12288, .fp8e5m2⟩
  | .hbm, ⟨15, _⟩ => ⟨S5x384, .f32⟩
  | .hbm, ⟨16, _⟩ => ⟨S_, .f32⟩
  | .hbm, ⟨17, _⟩ => ⟨S5x384, .f32⟩
  | .hbm, ⟨18, _⟩ => ⟨S5x384x1, .f32⟩
  | .hbm, ⟨19, _⟩ => ⟨S5x384x1, .f32⟩
  | .hbm, ⟨20, _⟩ => ⟨S5x384x1, .f32⟩
  | .hbm, ⟨21, _⟩ => ⟨S5x384x1, .f32⟩
  | .hbm, ⟨22, _⟩ => ⟨S5x384x1, .f32⟩
  | .hbm, ⟨23, _⟩ => ⟨S5x384x1, .f32⟩
  | .hbm, ⟨24, _⟩ => ⟨S5x384x1, .f32⟩
  | .hbm, ⟨25, _⟩ => ⟨S5x384x1, .f32⟩
  | .hbm, ⟨26, _⟩ => ⟨S5x384x8, .f32⟩
  | .hbm, ⟨27, _⟩ => ⟨S5x3x36x384x128, .fp8e5m2⟩
  | .hbm, ⟨28, _⟩ => ⟨S5x108x384x128, .fp8e5m2⟩
  | .hbm, ⟨29, _⟩ => ⟨S3x36x4608x128, .fp8e4m3⟩
  | .hbm, ⟨30, _⟩ => ⟨S108x4608x128, .fp8e4m3⟩
  | .hbm, ⟨31, _⟩ => ⟨S5x384x1, .f32⟩
  | .hbm, ⟨32, _⟩ => ⟨S1x12288, .f32⟩
  | .hbm, ⟨33, _⟩ => ⟨S108x1x128, .f32⟩
  | .hbm, ⟨34, _⟩ => ⟨S1x4608, .f32⟩
  | .hbm, ⟨35, _⟩ => ⟨S5x384x4608, .bf16⟩
  | .hbm, ⟨36, _⟩ => ⟨S1x4608, .f32⟩
  | .local _ .vmem, ⟨0, _⟩ => ⟨S5x128x768, .fp8e5m2⟩
  | .local _ .vmem, ⟨1, _⟩ => ⟨S5x128x768, .fp8e5m2⟩
  | .local _ .vmem, ⟨2, _⟩ => ⟨S5x128x1, .f32⟩
  | .local _ .vmem, ⟨3, _⟩ => ⟨S5x128x1, .f32⟩
  | .local _ .vmem, ⟨4, _⟩ => ⟨S1x768, .f32⟩
  | .local _ .vmem, ⟨5, _⟩ => ⟨S1x768, .f32⟩
  | .local _ .vmem, ⟨6, _⟩ => ⟨S4608x768, .fp8e4m3⟩
  | .local _ .vmem, ⟨7, _⟩ => ⟨S4608x768, .fp8e4m3⟩
  | .local _ .vmem, ⟨8, _⟩ => ⟨S5x6x128x128, .fp8e5m2⟩
  | .local _ .vmem, ⟨9, _⟩ => ⟨S5x6x128x128, .fp8e5m2⟩
  | .local _ .vmem, ⟨10, _⟩ => ⟨S6x1x128, .f32⟩
  | .local _ .vmem, ⟨11, _⟩ => ⟨S6x1x128, .f32⟩
  | .local _ .vmem, ⟨12, _⟩ => ⟨S6x4608x128, .fp8e4m3⟩
  | .local _ .vmem, ⟨13, _⟩ => ⟨S6x4608x128, .fp8e4m3⟩
  | .local _ .vmem, ⟨14, _⟩ => ⟨S5x128x8, .f32⟩
  | .local _ .vmem, ⟨15, _⟩ => ⟨S5x128x8, .f32⟩
  | .local _ .vmem, ⟨16, _⟩ => ⟨S1x4608, .f32⟩
  | .local _ .vmem, ⟨17, _⟩ => ⟨S5x128x4608, .fp8e4m3⟩
  | .local _ .vmem, ⟨18, _⟩ => ⟨S5x128x4608, .fp8e4m3⟩
  | .local _ .vmem, ⟨19, _⟩ => ⟨S5x128x4608, .fp8e5m2⟩
  | .local _ .vmem, ⟨20, _⟩ => ⟨S5x128x4608, .fp8e5m2⟩
  | .local _ .vmem, ⟨21, _⟩ => ⟨S5x128x4608, .bf16⟩
  | .local _ .vmem, ⟨22, _⟩ => ⟨S1x4608, .f32⟩
  | .local _ .vmem, ⟨23, _⟩ => ⟨S640x4608, .f32⟩
  | .local _ .vmem, ⟨24, _⟩ => ⟨S8x4608, .f32⟩
  | .local _ .vmem, ⟨25, _⟩ => ⟨S640x768, .bf16⟩
  | _, _ => ⟨S5x384x4608, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22

abbrev nD : Nat := 1
abbrev τ : Topo := Topo.v7x

variable {F : FTy → Type} [FloatOps F]

abbrev grid0 : Pipeline.Grid := ⟨2, ![3, 34], ![false, false]⟩

def k0_cond4 (i : grid0.Coords) : BitVec 1 :=
  let arg1 : BitVec 32 := BitVec.ofNat 32 (i 1).val
  let c33_i32 : BitVec 32 := 33#32
  let v11 : BitVec 1 := Scalar.cmpi .eq arg1 c33_i32
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_8 : BitVec 32 := 0#32
  let c4_i32 : BitVec 32 := 4#32
  let v17 : BitVec 32 := Scalar.addi c0_i32_8 c4_i32
  let c1_i32 : BitVec 32 := 1#32
  ⟨c0_i32_8, v17, c1_i32⟩
def k0_mult1 (k0_t1 : Fin k0_t1_loop.trips) : BitVec 32 :=
  let c0_i32_8 : BitVec 32 := 0#32
  let c1_i32 : BitVec 32 := 1#32
  let arg18 : BitVec 32 := Scf.iv c0_i32_8 c1_i32 k0_t1
  let c32_i32 : BitVec 32 := 32#32
  let v25 : BitVec 32 := Scalar.muli arg18 c32_i32
  v25
def k0_off1 (k0_t1 : Fin k0_t1_loop.trips) : Fin 2 → Nat :=
  let c0_i32_27 : BitVec 32 := 0#32
  let c0_i32_8 : BitVec 32 := 0#32
  let c1_i32 : BitVec 32 := 1#32
  let arg18 : BitVec 32 := Scf.iv c0_i32_8 c1_i32 k0_t1
  let c32_i32 : BitVec 32 := 32#32
  let v25 : BitVec 32 := Scalar.muli arg18 c32_i32
  let v26 : BitVec 32 := v25
  let v27 : BitVec 32 := Scalar.addi c0_i32_27 v26
  let v28 : Index := Scalar.indexCast v27
  let c0 : Index := 0#32
  ![v28.toNat, 0]
def k0_off2 (k0_t1 : Fin k0_t1_loop.trips) : Fin 3 → Nat :=
  let c0_28 : Index := 0#32
  let c0_i32_8 : BitVec 32 := 0#32
  let c1_i32 : BitVec 32 := 1#32
  let arg18 : BitVec 32 := Scf.iv c0_i32_8 c1_i32 k0_t1
  let c32_i32 : BitVec 32 := 32#32
  let v25 : BitVec 32 := Scalar.muli arg18 c32_i32
  let v26 : BitVec 32 := v25
  let v30 : Index := Scalar.indexCast v26
  let c0_29 : Index := 0#32
  ![0, v30.toNat, 0]
def k0_off3 (k0_t1 : Fin k0_t1_loop.trips) : Fin 3 → Nat :=
  let c0_30 : Index := 0#32
  let c0_i32_8 : BitVec 32 := 0#32
  let c1_i32 : BitVec 32 := 1#32
  let arg18 : BitVec 32 := Scf.iv c0_i32_8 c1_i32 k0_t1
  let c32_i32 : BitVec 32 := 32#32
  let v25 : BitVec 32 := Scalar.muli arg18 c32_i32
  let v26 : BitVec 32 := v25
  let v34 : Index := Scalar.indexCast v26
  let c2 : Index := 2#32
  ![0, v34.toNat, 2]
def k0_off4 (k0_t1 : Fin k0_t1_loop.trips) : Fin 3 → Nat :=
  let c0_41 : Index := 0#32
  let c0_i32_8 : BitVec 32 := 0#32
  let c1_i32 : BitVec 32 := 1#32
  let arg18 : BitVec 32 := Scf.iv c0_i32_8 c1_i32 k0_t1
  let c32_i32 : BitVec 32 := 32#32
  let v25 : BitVec 32 := Scalar.muli arg18 c32_i32
  let v26 : BitVec 32 := v25
  let v60 : Index := Scalar.indexCast v26
  let c3 : Index := 3#32
  ![0, v60.toNat, 3]
def k0_off5 (k0_t1 : Fin k0_t1_loop.trips) : Fin 3 → Nat :=
  let c0_44 : Index := 0#32
  let c0_i32_8 : BitVec 32 := 0#32
  let c1_i32 : BitVec 32 := 1#32
  let arg18 : BitVec 32 := Scf.iv c0_i32_8 c1_i32 k0_t1
  let c32_i32 : BitVec 32 := 32#32
  let v25 : BitVec 32 := Scalar.muli arg18 c32_i32
  let v26 : BitVec 32 := v25
  let v74 : Index := Scalar.indexCast v26
  let c0_45 : Index := 0#32
  ![0, v74.toNat, 0]
@[reducible] def k0_t2_loop : Scf.Loop 32 :=
  let c0_i32_10 : BitVec 32 := 0#32
  let c4_i32_11 : BitVec 32 := 4#32
  let v18 : BitVec 32 := Scalar.addi c0_i32_10 c4_i32_11
  let c1_i32_12 : BitVec 32 := 1#32
  ⟨c0_i32_10, v18, c1_i32_12⟩
def k0_mult2 (k0_t2 : Fin k0_t2_loop.trips) : BitVec 32 :=
  let c0_i32_10 : BitVec 32 := 0#32
  let c1_i32_12 : BitVec 32 := 1#32
  let arg18 : BitVec 32 := Scf.iv c0_i32_10 c1_i32_12 k0_t2
  let c32_i32 : BitVec 32 := 32#32
  let v25 : BitVec 32 := Scalar.muli arg18 c32_i32
  v25
def k0_off6 (k0_t2 : Fin k0_t2_loop.trips) : Fin 2 → Nat :=
  let c128_i32 : BitVec 32 := 128#32
  let c0_i32_10 : BitVec 32 := 0#32
  let c1_i32_12 : BitVec 32 := 1#32
  let arg18 : BitVec 32 := Scf.iv c0_i32_10 c1_i32_12 k0_t2
  let c32_i32 : BitVec 32 := 32#32
  let v25 : BitVec 32 := Scalar.muli arg18 c32_i32
  let v26 : BitVec 32 := v25
  let v27 : BitVec 32 := Scalar.addi c128_i32 v26
  let v28 : Index := Scalar.indexCast v27
  let c0 : Index := 0#32
  ![v28.toNat, 0]
def k0_off7 (k0_t2 : Fin k0_t2_loop.trips) : Fin 3 → Nat :=
  let c1 : Index := 1#32
  let c0_i32_10 : BitVec 32 := 0#32
  let c1_i32_12 : BitVec 32 := 1#32
  let arg18 : BitVec 32 := Scf.iv c0_i32_10 c1_i32_12 k0_t2
  let c32_i32 : BitVec 32 := 32#32
  let v25 : BitVec 32 := Scalar.muli arg18 c32_i32
  let v26 : BitVec 32 := v25
  let v30 : Index := Scalar.indexCast v26
  let c0_27 : Index := 0#32
  ![1, v30.toNat, 0]
def k0_off8 (k0_t2 : Fin k0_t2_loop.trips) : Fin 3 → Nat :=
  let c1_28 : Index := 1#32
  let c0_i32_10 : BitVec 32 := 0#32
  let c1_i32_12 : BitVec 32 := 1#32
  let arg18 : BitVec 32 := Scf.iv c0_i32_10 c1_i32_12 k0_t2
  let c32_i32 : BitVec 32 := 32#32
  let v25 : BitVec 32 := Scalar.muli arg18 c32_i32
  let v26 : BitVec 32 := v25
  let v34 : Index := Scalar.indexCast v26
  let c2 : Index := 2#32
  ![1, v34.toNat, 2]
def k0_off9 (k0_t2 : Fin k0_t2_loop.trips) : Fin 3 → Nat :=
  let c1_39 : Index := 1#32
  let c0_i32_10 : BitVec 32 := 0#32
  let c1_i32_12 : BitVec 32 := 1#32
  let arg18 : BitVec 32 := Scf.iv c0_i32_10 c1_i32_12 k0_t2
  let c32_i32 : BitVec 32 := 32#32
  let v25 : BitVec 32 := Scalar.muli arg18 c32_i32
  let v26 : BitVec 32 := v25
  let v60 : Index := Scalar.indexCast v26
  let c3 : Index := 3#32
  ![1, v60.toNat, 3]
def k0_off10 (k0_t2 : Fin k0_t2_loop.trips) : Fin 3 → Nat :=
  let c1_42 : Index := 1#32
  let c0_i32_10 : BitVec 32 := 0#32
  let c1_i32_12 : BitVec 32 := 1#32
  let arg18 : BitVec 32 := Scf.iv c0_i32_10 c1_i32_12 k0_t2
  let c32_i32 : BitVec 32 := 32#32
  let v25 : BitVec 32 := Scalar.muli arg18 c32_i32
  let v26 : BitVec 32 := v25
  let v74 : Index := Scalar.indexCast v26
  let c0_43 : Index := 0#32
  ![1, v74.toNat, 0]
@[reducible] def k0_t3_loop : Scf.Loop 32 :=
  let c0_i32_14 : BitVec 32 := 0#32
  let c4_i32_15 : BitVec 32 := 4#32
  let v19 : BitVec 32 := Scalar.addi c0_i32_14 c4_i32_15
  let c1_i32_16 : BitVec 32 := 1#32
  ⟨c0_i32_14, v19, c1_i32_16⟩
def k0_mult3 (k0_t3 : Fin k0_t3_loop.trips) : BitVec 32 :=
  let c0_i32_14 : BitVec 32 := 0#32
  let c1_i32_16 : BitVec 32 := 1#32
  let arg18 : BitVec 32 := Scf.iv c0_i32_14 c1_i32_16 k0_t3
  let c32_i32 : BitVec 32 := 32#32
  let v25 : BitVec 32 := Scalar.muli arg18 c32_i32
  v25
def k0_off11 (k0_t3 : Fin k0_t3_loop.trips) : Fin 2 → Nat :=
  let c256_i32 : BitVec 32 := 256#32
  let c0_i32_14 : BitVec 32 := 0#32
  let c1_i32_16 : BitVec 32 := 1#32
  let arg18 : BitVec 32 := Scf.iv c0_i32_14 c1_i32_16 k0_t3
  let c32_i32 : BitVec 32 := 32#32
  let v25 : BitVec 32 := Scalar.muli arg18 c32_i32
  let v26 : BitVec 32 := v25
  let v27 : BitVec 32 := Scalar.addi c256_i32 v26
  let v28 : Index := Scalar.indexCast v27
  let c0 : Index := 0#32
  ![v28.toNat, 0]
def k0_off12 (k0_t3 : Fin k0_t3_loop.trips) : Fin 3 → Nat :=
  let c2 : Index := 2#32
  let c0_i32_14 : BitVec 32 := 0#32
  let c1_i32_16 : BitVec 32 := 1#32
  let arg18 : BitVec 32 := Scf.iv c0_i32_14 c1_i32_16 k0_t3
  let c32_i32 : BitVec 32 := 32#32
  let v25 : BitVec 32 := Scalar.muli arg18 c32_i32
  let v26 : BitVec 32 := v25
  let v30 : Index := Scalar.indexCast v26
  let c0_27 : Index := 0#32
  ![2, v30.toNat, 0]
def k0_off13 (k0_t3 : Fin k0_t3_loop.trips) : Fin 3 → Nat :=
  let c2_28 : Index := 2#32
  let c0_i32_14 : BitVec 32 := 0#32
  let c1_i32_16 : BitVec 32 := 1#32
  let arg18 : BitVec 32 := Scf.iv c0_i32_14 c1_i32_16 k0_t3
  let c32_i32 : BitVec 32 := 32#32
  let v25 : BitVec 32 := Scalar.muli arg18 c32_i32
  let v26 : BitVec 32 := v25
  let v34 : Index := Scalar.indexCast v26
  let c2_29 : Index := 2#32
  ![2, v34.toNat, 2]
def k0_off14 (k0_t3 : Fin k0_t3_loop.trips) : Fin 3 → Nat :=
  let c2_40 : Index := 2#32
  let c0_i32_14 : BitVec 32 := 0#32
  let c1_i32_16 : BitVec 32 := 1#32
  let arg18 : BitVec 32 := Scf.iv c0_i32_14 c1_i32_16 k0_t3
  let c32_i32 : BitVec 32 := 32#32
  let v25 : BitVec 32 := Scalar.muli arg18 c32_i32
  let v26 : BitVec 32 := v25
  let v60 : Index := Scalar.indexCast v26
  let c3 : Index := 3#32
  ![2, v60.toNat, 3]
def k0_off15 (k0_t3 : Fin k0_t3_loop.trips) : Fin 3 → Nat :=
  let c2_43 : Index := 2#32
  let c0_i32_14 : BitVec 32 := 0#32
  let c1_i32_16 : BitVec 32 := 1#32
  let arg18 : BitVec 32 := Scf.iv c0_i32_14 c1_i32_16 k0_t3
  let c32_i32 : BitVec 32 := 32#32
  let v25 : BitVec 32 := Scalar.muli arg18 c32_i32
  let v26 : BitVec 32 := v25
  let v74 : Index := Scalar.indexCast v26
  let c0_44 : Index := 0#32
  ![2, v74.toNat, 0]
@[reducible] def k0_t4_loop : Scf.Loop 32 :=
  let c0_i32_18 : BitVec 32 := 0#32
  let c4_i32_19 : BitVec 32 := 4#32
  let v20 : BitVec 32 := Scalar.addi c0_i32_18 c4_i32_19
  let c1_i32_20 : BitVec 32 := 1#32
  ⟨c0_i32_18, v20, c1_i32_20⟩
def k0_mult4 (k0_t4 : Fin k0_t4_loop.trips) : BitVec 32 :=
  let c0_i32_18 : BitVec 32 := 0#32
  let c1_i32_20 : BitVec 32 := 1#32
  let arg18 : BitVec 32 := Scf.iv c0_i32_18 c1_i32_20 k0_t4
  let c32_i32 : BitVec 32 := 32#32
  let v25 : BitVec 32 := Scalar.muli arg18 c32_i32
  v25
def k0_off16 (k0_t4 : Fin k0_t4_loop.trips) : Fin 2 → Nat :=
  let c384_i32 : BitVec 32 := 384#32
  let c0_i32_18 : BitVec 32 := 0#32
  let c1_i32_20 : BitVec 32 := 1#32
  let arg18 : BitVec 32 := Scf.iv c0_i32_18 c1_i32_20 k0_t4
  let c32_i32 : BitVec 32 := 32#32
  let v25 : BitVec 32 := Scalar.muli arg18 c32_i32
  let v26 : BitVec 32 := v25
  let v27 : BitVec 32 := Scalar.addi c384_i32 v26
  let v28 : Index := Scalar.indexCast v27
  let c0 : Index := 0#32
  ![v28.toNat, 0]
def k0_off17 (k0_t4 : Fin k0_t4_loop.trips) : Fin 3 → Nat :=
  let c3 : Index := 3#32
  let c0_i32_18 : BitVec 32 := 0#32
  let c1_i32_20 : BitVec 32 := 1#32
  let arg18 : BitVec 32 := Scf.iv c0_i32_18 c1_i32_20 k0_t4
  let c32_i32 : BitVec 32 := 32#32
  let v25 : BitVec 32 := Scalar.muli arg18 c32_i32
  let v26 : BitVec 32 := v25
  let v30 : Index := Scalar.indexCast v26
  let c0_27 : Index := 0#32
  ![3, v30.toNat, 0]
def k0_off18 (k0_t4 : Fin k0_t4_loop.trips) : Fin 3 → Nat :=
  let c3_28 : Index := 3#32
  let c0_i32_18 : BitVec 32 := 0#32
  let c1_i32_20 : BitVec 32 := 1#32
  let arg18 : BitVec 32 := Scf.iv c0_i32_18 c1_i32_20 k0_t4
  let c32_i32 : BitVec 32 := 32#32
  let v25 : BitVec 32 := Scalar.muli arg18 c32_i32
  let v26 : BitVec 32 := v25
  let v34 : Index := Scalar.indexCast v26
  let c2 : Index := 2#32
  ![3, v34.toNat, 2]
def k0_off19 (k0_t4 : Fin k0_t4_loop.trips) : Fin 3 → Nat :=
  let c3_39 : Index := 3#32
  let c0_i32_18 : BitVec 32 := 0#32
  let c1_i32_20 : BitVec 32 := 1#32
  let arg18 : BitVec 32 := Scf.iv c0_i32_18 c1_i32_20 k0_t4
  let c32_i32 : BitVec 32 := 32#32
  let v25 : BitVec 32 := Scalar.muli arg18 c32_i32
  let v26 : BitVec 32 := v25
  let v60 : Index := Scalar.indexCast v26
  let c3_40 : Index := 3#32
  ![3, v60.toNat, 3]
def k0_off20 (k0_t4 : Fin k0_t4_loop.trips) : Fin 3 → Nat :=
  let c3_43 : Index := 3#32
  let c0_i32_18 : BitVec 32 := 0#32
  let c1_i32_20 : BitVec 32 := 1#32
  let arg18 : BitVec 32 := Scf.iv c0_i32_18 c1_i32_20 k0_t4
  let c32_i32 : BitVec 32 := 32#32
  let v25 : BitVec 32 := Scalar.muli arg18 c32_i32
  let v26 : BitVec 32 := v25
  let v74 : Index := Scalar.indexCast v26
  let c0_44 : Index := 0#32
  ![3, v74.toNat, 0]
@[reducible] def k0_t5_loop : Scf.Loop 32 :=
  let c0_i32_22 : BitVec 32 := 0#32
  let c4_i32_23 : BitVec 32 := 4#32
  let v21 : BitVec 32 := Scalar.addi c0_i32_22 c4_i32_23
  let c1_i32_24 : BitVec 32 := 1#32
  ⟨c0_i32_22, v21, c1_i32_24⟩
def k0_mult5 (k0_t5 : Fin k0_t5_loop.trips) : BitVec 32 :=
  let c0_i32_22 : BitVec 32 := 0#32
  let c1_i32_24 : BitVec 32 := 1#32
  let arg18 : BitVec 32 := Scf.iv c0_i32_22 c1_i32_24 k0_t5
  let c32_i32 : BitVec 32 := 32#32
  let v25 : BitVec 32 := Scalar.muli arg18 c32_i32
  v25
def k0_off21 (k0_t5 : Fin k0_t5_loop.trips) : Fin 2 → Nat :=
  let c512_i32 : BitVec 32 := 512#32
  let c0_i32_22 : BitVec 32 := 0#32
  let c1_i32_24 : BitVec 32 := 1#32
  let arg18 : BitVec 32 := Scf.iv c0_i32_22 c1_i32_24 k0_t5
  let c32_i32 : BitVec 32 := 32#32
  let v25 : BitVec 32 := Scalar.muli arg18 c32_i32
  let v26 : BitVec 32 := v25
  let v27 : BitVec 32 := Scalar.addi c512_i32 v26
  let v28 : Index := Scalar.indexCast v27
  let c0 : Index := 0#32
  ![v28.toNat, 0]
def k0_off22 (k0_t5 : Fin k0_t5_loop.trips) : Fin 3 → Nat :=
  let c4 : Index := 4#32
  let c0_i32_22 : BitVec 32 := 0#32
  let c1_i32_24 : BitVec 32 := 1#32
  let arg18 : BitVec 32 := Scf.iv c0_i32_22 c1_i32_24 k0_t5
  let c32_i32 : BitVec 32 := 32#32
  let v25 : BitVec 32 := Scalar.muli arg18 c32_i32
  let v26 : BitVec 32 := v25
  let v30 : Index := Scalar.indexCast v26
  let c0_27 : Index := 0#32
  ![4, v30.toNat, 0]
def k0_off23 (k0_t5 : Fin k0_t5_loop.trips) : Fin 3 → Nat :=
  let c4_28 : Index := 4#32
  let c0_i32_22 : BitVec 32 := 0#32
  let c1_i32_24 : BitVec 32 := 1#32
  let arg18 : BitVec 32 := Scf.iv c0_i32_22 c1_i32_24 k0_t5
  let c32_i32 : BitVec 32 := 32#32
  let v25 : BitVec 32 := Scalar.muli arg18 c32_i32
  let v26 : BitVec 32 := v25
  let v34 : Index := Scalar.indexCast v26
  let c2 : Index := 2#32
  ![4, v34.toNat, 2]
def k0_off24 (k0_t5 : Fin k0_t5_loop.trips) : Fin 3 → Nat :=
  let c4_39 : Index := 4#32
  let c0_i32_22 : BitVec 32 := 0#32
  let c1_i32_24 : BitVec 32 := 1#32
  let arg18 : BitVec 32 := Scf.iv c0_i32_22 c1_i32_24 k0_t5
  let c32_i32 : BitVec 32 := 32#32
  let v25 : BitVec 32 := Scalar.muli arg18 c32_i32
  let v26 : BitVec 32 := v25
  let v60 : Index := Scalar.indexCast v26
  let c3 : Index := 3#32
  ![4, v60.toNat, 3]
def k0_off25 (k0_t5 : Fin k0_t5_loop.trips) : Fin 3 → Nat :=
  let c4_42 : Index := 4#32
  let c0_i32_22 : BitVec 32 := 0#32
  let c1_i32_24 : BitVec 32 := 1#32
  let arg18 : BitVec 32 := Scf.iv c0_i32_22 c1_i32_24 k0_t5
  let c32_i32 : BitVec 32 := 32#32
  let v25 : BitVec 32 := Scalar.muli arg18 c32_i32
  let v26 : BitVec 32 := v25
  let v74 : Index := Scalar.indexCast v26
  let c0_43 : Index := 0#32
  ![4, v74.toNat, 0]
def k0_cond6 (i : grid0.Coords) : BitVec 1 :=
  let arg0 : BitVec 32 := BitVec.ofNat 32 (i 0).val
  let c2_i32 : BitVec 32 := 2#32
  let v22 : BitVec 1 := Scalar.cmpi .eq arg0 c2_i32
  let v23 : BitVec 32 := Scalar.extui v22
  let c0_i32_26 : BitVec 32 := 0#32
  let v24 : BitVec 1 := Scalar.cmpi .ne v23 c0_i32_26
  v24

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![c0_i32.toNat, arg0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![c0_i32.toNat, v0.toNat]

def cc0_transform_4 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, arg0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x128x768 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4608x768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S5x6x128x128 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S6x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S6x4608x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S5x128x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x4608 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S5x128x4608 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S5x128x4608 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S5x128x4608 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x4608 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== DxRefIdeal.lean ====
abbrev S5x384x4608 : Shape := ⟨3, ![5, 384, 4608]⟩
abbrev S5x384 : Shape := ⟨2, ![5, 384]⟩
abbrev S5x384x3x36x128 : Shape := ⟨5, ![5, 384, 3, 36, 128]⟩
abbrev S4608 : Shape := ⟨1, ![4608]⟩
abbrev S4608x12288 : Shape := ⟨2, ![4608, 12288]⟩
abbrev S12288 : Shape := ⟨1, ![12288]⟩
abbrev S4608x3x36x128 : Shape := ⟨4, ![4608, 3, 36, 128]⟩
abbrev S3x36x128 : Shape := ⟨3, ![3, 36, 128]⟩
abbrev S5x384x12288 : Shape := ⟨3, ![5, 384, 12288]⟩
abbrev S5x384x13824 : Shape := ⟨3, ![5, 384, 13824]⟩
abbrev S1x4608 : Shape := ⟨2, ![1, 4608]⟩
abbrev S1x12288 : Shape := ⟨2, ![1, 12288]⟩
abbrev S4608x13824 : Shape := ⟨2, ![4608, 13824]⟩
abbrev S1x13824 : Shape := ⟨2, ![1, 13824]⟩
abbrev S1920x12288 : Shape := ⟨2, ![1920, 12288]⟩
abbrev S1920x4608 : Shape := ⟨2, ![1920, 4608]⟩
abbrev S1920x1 : Shape := ⟨2, ![1920, 1]⟩
abbrev S1920x13824 : Shape := ⟨2, ![1920, 13824]⟩
abbrev S1920 : Shape := ⟨1, ![1920]⟩

abbrev nBuf : Space → Nat
  | .hbm => 23
  | .vmem => 16
  | .smem => 0
  | _ => 0

abbrev bufTy : (tb : Table) → Fin (tcTables nBuf tb) → BufTy
  | .hbm, ⟨0, _⟩ => ⟨S5x384x4608, .fp8e5m2⟩
  | .hbm, ⟨1, _⟩ => ⟨S5x384, .f32⟩
  | .hbm, ⟨2, _⟩ => ⟨S5x384x3x36x128, .fp8e5m2⟩
  | .hbm, ⟨3, _⟩ => ⟨S5x384, .f32⟩
  | .hbm, ⟨4, _⟩ => ⟨S5x384x4608, .fp8e4m3⟩
  | .hbm, ⟨5, _⟩ => ⟨S5x384, .f32⟩
  | .hbm, ⟨6, _⟩ => ⟨S5x384, .f32⟩
  | .hbm, ⟨7, _⟩ => ⟨S4608, .f32⟩
  | .hbm, ⟨8, _⟩ => ⟨S5x384, .f32⟩
  | .hbm, ⟨9, _⟩ => ⟨S5x384, .f32⟩
  | .hbm, ⟨10, _⟩ => ⟨S4608x12288, .fp8e4m3⟩
  | .hbm, ⟨11, _⟩ => ⟨S12288, .f32⟩
  | .hbm, ⟨12, _⟩ => ⟨S4608x3x36x128, .fp8e4m3⟩
  | .hbm, ⟨13, _⟩ => ⟨S3x36x128, .f32⟩
  | .hbm, ⟨14, _⟩ => ⟨S5x384x12288, .fp8e5m2⟩
  | .hbm, ⟨15, _⟩ => ⟨S5x384, .f32⟩
  | .hbm, ⟨16, _⟩ => ⟨S5x384x13824, .fp8e5m2⟩
  | .hbm, ⟨17, _⟩ => ⟨S1x4608, .f32⟩
  | .hbm, ⟨18, _⟩ => ⟨S1x12288, .f32⟩
  | .hbm, ⟨19, _⟩ => ⟨S4608x13824, .fp8e4m3⟩
  | .hbm, ⟨20, _⟩ => ⟨S1x13824, .f32⟩
  | .hbm, ⟨21, _⟩ => ⟨S5x384x4608, .bf16⟩
  | .hbm, ⟨22, _⟩ => ⟨S1x4608, .f32⟩
  | .local _ .vmem, ⟨0, _⟩ => ⟨S5x384x4608, .fp8e5m2⟩
  | .local _ .vmem, ⟨1, _⟩ => ⟨S5x384, .f32⟩
  | .local _ .vmem, ⟨2, _⟩ => ⟨S5x384x13824, .fp8e5m2⟩
  | .local _ .vmem, ⟨3, _⟩ => ⟨S5x384, .f32⟩
  | .local _ .vmem, ⟨4, _⟩ => ⟨S5x384x4608, .fp8e4m3⟩
  | .local _ .vmem, ⟨5, _⟩ => ⟨S5x384, .f32⟩
  | .local _ .vmem, ⟨6, _⟩ => ⟨S5x384, .f32⟩
  | .local _ .vmem, ⟨7, _⟩ => ⟨S1x4608, .f32⟩
  | .local _ .vmem, ⟨8, _⟩ => ⟨S4608x12288, .fp8e4m3⟩
  | .local _ .vmem, ⟨9, _⟩ => ⟨S1x12288, .f32⟩
  | .local _ .vmem, ⟨10, _⟩ => ⟨S4608x13824, .fp8e4m3⟩
  | .local _ .vmem, ⟨11, _⟩ => ⟨S1x13824, .f32⟩
  | .local _ .vmem, ⟨12, _⟩ => ⟨S5x384x12288, .fp8e5m2⟩
  | .local _ .vmem, ⟨13, _⟩ => ⟨S5x384, .f32⟩
  | .local _ .vmem, ⟨14, _⟩ => ⟨S5x384x4608, .bf16⟩
  | .local _ .vmem, ⟨15, _⟩ => ⟨S1x4608, .f32⟩
  | _, _ => ⟨S5x384x4608, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S5x384x4608 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x384x13824 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x384x4608 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4608 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4608x12288 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x12288 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4608x13824 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x13824 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5x384x12288 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S5x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S5x384x4608 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x4608 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.DxLoop.lean ====
module

public import proofs.«01_k».proof.Proof.Gen.DxIdeal.Frame
public import proofs.«01_k».proof.Proof.Gen.DxIdeal.Loops
public import Idealize.ShloMosaic.Lib.VecWindow

@[expose] public section

set_option maxRecDepth 16384

noncomputable section

namespace Cert.DxIdeal.Run

open Cert.DxIdeal Cert.DxIdeal.Gen
open Idealize.ShloMosaic Idealize.ShloMosaic.TcCoe Idealize.ShloMosaic.Tactic

variable {F : FTy → Type} [FloatOps F]

/-! ## The twenty groups of 32 rows, as plain functions of the blocks -/

/-- Where group `j` of 32 rows starts in a block of 5 x 128 rows: batch `j / 4`, row `32 (j % 4)`, column `o`. -/
abbrev off3 (j o : ℕ) : Fin 3 → ℕ := ![j / 4, 32 * (j % 4), o]

theorem inb_acc (j : ℕ) (h : j < 20) : ∀ a, (![32 * j, 0] : Fin 2 → ℕ) a + S32x4608.size a ≤ S640x4608.size a := by
  intro a; fin_cases a <;> simp <;> omega
theorem inb_blk (j : ℕ) (h : j < 20) : ∀ a, off3 j 0 a + S1x32x4608.size a ≤ S5x128x4608.size a := by
  intro a; fin_cases a <;> simp <;> omega
theorem inb_tok (j o : ℕ) (h : j < 20) (ho : o < 8) : ∀ a, off3 j o a + S1x32x1.size a ≤ S5x128x8.size a := by
  intro a; fin_cases a <;> simp <;> omega

/-- One group's rows of the result: from the rows of the accumulator, the normalised activations, their token factors,
    the scale of the norm and the incoming gradient. -/
def dxVal (acc : Vec F S32x4608 .f32) (xh : Vec F S1x32x4608 .fp8e4m3) (t2 t3 t0 : Vec F S1x32x1 .f32) (ga : Vec F S1x4608 .f32)
    (dy : Vec F S1x32x4608 .fp8e5m2) : FVec F S1x32x4608 .bf16 :=
  k0_pay8 (k0_pay67 xh t2) (k0_pay69 acc ga) (k0_pay70 acc ga) (k0_pay71 acc xh t2 ga) (k0_pay72 t3) dy t0

section Rows
variable (x9 : Vec F S5x128x8 .f32) (x10 : Vec F S1x4608 .f32) (x11 : Vec F S5x128x4608 .fp8e4m3) (x12 : Vec F S5x128x4608 .fp8e5m2)
  (x15 : Vec F S640x4608 .f32)

/-- Group `j`'s rows of the result. -/
def dxRow (j : Fin 20) : FVec F S1x32x4608 .bf16 :=
  dxVal (VecWindow.window x15 ![32 * j.val, 0] S32x4608.size (inb_acc j j.isLt)) (VecWindow.window x11 (off3 j 0) S1x32x4608.size (inb_blk j j.isLt))
    (VecWindow.window x9 (off3 j 2) S1x32x1.size (inb_tok j 2 j.isLt (by decide))) (VecWindow.window x9 (off3 j 3) S1x32x1.size (inb_tok j 3 j.isLt (by decide)))
    (VecWindow.window x9 (off3 j 0) S1x32x1.size (inb_tok j 0 j.isLt (by decide))) x10 (VecWindow.window x12 (off3 j 0) S1x32x4608.size (inb_blk j j.isLt))

/-- The partial sums for the scale's gradient, after group `j` is added. -/
def dgStep (j : Fin 20) (g : Vec F S8x4608 .f32) : Vec F S8x4608 .f32 :=
  k0_pay68 (VecWindow.window x15 ![32 * j.val, 0] S32x4608.size (inb_acc j j.isLt)) (VecWindow.window x11 (off3 j 0) S1x32x4608.size (inb_blk j j.isLt))
    (VecWindow.window x9 (off3 j 2) S1x32x1.size (inb_tok j 2 j.isLt (by decide))) g

/-- The partial sums after the first `j` groups. -/
def dgA (g : Vec F S8x4608 .f32) : (j : ℕ) → j ≤ 20 → Vec F S8x4608 .f32
  | 0, _ => g
  | j + 1, h => dgStep x9 x11 x15 ⟨j, h⟩ (dgA g j (Nat.le_of_succ_le h))

/-- The stores of the first `j` groups' rows, newest first. -/
abbrev rowPieces (j : ℕ) (h : j ≤ 20) : List (View.Piece (Elt F) S5x128x4608 .bf16) :=
  View.tilePieces (s := S5x128x4608) S1x32x4608.size (fun j : Fin 20 => off3 j 0) (fun j => inb_blk j j.isLt) (dxRow x9 x10 x11 x12 x15) j h

end Rows

/-! ## One loop of four trips, whatever its own name -/

/-- A loop whose trip `k` stores group `4b + k`'s rows, and adds the group to the partial sums, stores four groups and adds them. -/
theorem loop_of {v16 : View sig .tc .vmem S8x4608 .f32} (G16 : v16.ty.Contents (Elt F))
    (x9 : Vec F S5x128x8 .f32) (x10 : Vec F S1x4608 .f32) (x11 : Vec F S5x128x4608 .fp8e4m3) (x12 : Vec F S5x128x4608 .fp8e5m2)
    (x15 : Vec F S640x4608 .f32) (g : Vec F S8x4608 .f32) (b : ℕ) (hb : b < 5)
    (pb : ℕ → List (View.Piece (Elt F) S5x128x4608 .bf16) × List (View.Piece (Elt F) S8x4608 .f32)) (h0 : pb 0 = ([], []))
    (hs : ∀ (k : ℕ) (hk : k < 4), pb (k + 1)
      = (⟨Rect.unit (s := S5x128x4608) (off3 (4 * b + k) 0) S1x32x4608.size (inb_blk _ (by omega)), dxRow x9 x10 x11 x12 x15 ⟨4 * b + k, by omega⟩⟩ :: (pb k).1,
         ⟨Rect.unit (s := S8x4608) ![0, 0] S8x4608.size inb_S8x4608_S8x4608_0_0, dgStep x9 x11 x15 ⟨4 * b + k, by omega⟩ (v16.read (Elt F) (v16.writes (Elt F) G16 (pb k).2))⟩ :: (pb k).2))
    (hg : v16.read (Elt F) G16 = dgA x9 x11 x15 g (4 * b) (by omega)) :
    (pb 4).1 ++ rowPieces x9 x10 x11 x12 x15 (4 * b) (by omega) = rowPieces x9 x10 x11 x12 x15 (4 * b + 4) (by omega)
      ∧ ∃ tl, (pb 4).2 = ⟨Rect.unit (s := S8x4608) ![0, 0] S8x4608.size inb_S8x4608_S8x4608_0_0, dgA x9 x11 x15 g (4 * b + 4) (by omega)⟩ :: tl := by
  have key : ∀ (k : ℕ) (hk : k ≤ 4), (pb k).1 ++ rowPieces x9 x10 x11 x12 x15 (4 * b) (by omega) = rowPieces x9 x10 x11 x12 x15 (4 * b + k) (by omega)
      ∧ v16.read (Elt F) (v16.writes (Elt F) G16 (pb k).2) = dgA x9 x11 x15 g (4 * b + k) (by omega) := by
    intro k
    induction k with
    | zero => intro _; rw [h0]; exact ⟨rfl, hg⟩
    | succ k ih =>
      intro hk
      obtain ⟨i1, i2⟩ := ih (by omega)
      rw [hs k (by omega)]
      refine ⟨?_, ?_⟩
      · rw [List.cons_append, i1]; rfl
      · refine (View.read_writes_full v16 G16 (off := ![0, 0]) inb_S8x4608_S8x4608_0_0 _ _).trans ?_
        rw [i2]; rfl
  refine ⟨(key 4 (le_refl _)).1, ?_⟩
  rw [hs 3 (by omega)]
  exact ⟨_, congrArg (fun w => (⟨Rect.unit (s := S8x4608) ![0, 0] S8x4608.size inb_S8x4608_S8x4608_0_0, w⟩ : View.Piece (Elt F) S8x4608 .f32) :: (pb 3).2) (by rw [(key 3 (by omega)).2]; rfl)⟩

/-- One trip's stored rows, at offsets known in closed form. -/
theorem row_eq {v9 : View sig .tc .vmem S5x128x8 .f32} {v10 : View sig .tc .vmem S1x4608 .f32} {v11 : View sig .tc .vmem S5x128x4608 .fp8e4m3}
    {v12 : View sig .tc .vmem S5x128x4608 .fp8e5m2} {v15 : View sig .tc .vmem S640x4608 .f32}
    (X9 : v9.ty.Contents (Elt F)) (X10 : v10.ty.Contents (Elt F)) (X11 : v11.ty.Contents (Elt F)) (X12 : v12.ty.Contents (Elt F)) (X15 : v15.ty.Contents (Elt F))
    (j : Fin 20) {o1 : Fin 2 → ℕ} {o2 o3 o4 o5 : Fin 3 → ℕ} (e1 : o1 = ![32 * j.val, 0]) (e2 : o2 = off3 j 0) (e3 : o3 = off3 j 2) (e4 : o4 = off3 j 3)
    (e5 : o5 = off3 j 0) (i1 : ∀ a, o1 a + S32x4608.size a ≤ S640x4608.size a) (i2 : ∀ a, o2 a + S1x32x4608.size a ≤ S5x128x4608.size a)
    (i3 : ∀ a, o3 a + S1x32x1.size a ≤ S5x128x8.size a) (i4 : ∀ a, o4 a + S1x32x1.size a ≤ S5x128x8.size a) (i5 : ∀ a, o5 a + S1x32x1.size a ≤ S5x128x8.size a) :
    (⟨Rect.unit (s := S5x128x4608) o2 S1x32x4608.size i2, dxVal (v15.readAt (Elt F) (Rect.unit (s := S640x4608) o1 S32x4608.size i1).toLoadRect X15)
        (v11.readAt (Elt F) (Rect.unit (s := S5x128x4608) o2 S1x32x4608.size i2).toLoadRect X11) (v9.readAt (Elt F) (Rect.unit (s := S5x128x8) o3 S1x32x1.size i3).toLoadRect X9)
        (v9.readAt (Elt F) (Rect.unit (s := S5x128x8) o4 S1x32x1.size i4).toLoadRect X9) (v9.readAt (Elt F) (Rect.unit (s := S5x128x8) o5 S1x32x1.size i5).toLoadRect X9)
        (v10.readAt (Elt F) (Rect.unit (s := S1x4608) ![0, 0] S1x4608.size inb_S1x4608_S1x4608_0_0).toLoadRect X10)
        (v12.readAt (Elt F) (Rect.unit (s := S5x128x4608) o2 S1x32x4608.size i2).toLoadRect X12)⟩ : View.Piece (Elt F) S5x128x4608 .bf16)
      = ⟨Rect.unit (s := S5x128x4608) (off3 j 0) S1x32x4608.size (inb_blk j j.isLt),
          dxRow (v9.read (Elt F) X9) (v10.read (Elt F) X10) (v11.read (Elt F) X11) (v12.read (Elt F) X12) (v15.read (Elt F) X15) j⟩ := by
  subst e1 e2 e3 e4 e5
  rw [View.readAt_full v10 X10 (off := ![0, 0]) inb_S1x4608_S1x4608_0_0]
  rfl

/-- One trip's new partial sums, at offsets known in closed form. -/
theorem sum_eq {v9 : View sig .tc .vmem S5x128x8 .f32} {v11 : View sig .tc .vmem S5x128x4608 .fp8e4m3}
    {v15 : View sig .tc .vmem S640x4608 .f32} {v16 : View sig .tc .vmem S8x4608 .f32}
    (X9 : v9.ty.Contents (Elt F)) (X11 : v11.ty.Contents (Elt F)) (X15 : v15.ty.Contents (Elt F)) (f16 : v16.ty.Contents (Elt F))
    (j : Fin 20) {o1 : Fin 2 → ℕ} {o2 o3 : Fin 3 → ℕ} (e1 : o1 = ![32 * j.val, 0]) (e2 : o2 = off3 j 0) (e3 : o3 = off3 j 2)
    (i1 : ∀ a, o1 a + S32x4608.size a ≤ S640x4608.size a) (i2 : ∀ a, o2 a + S1x32x4608.size a ≤ S5x128x4608.size a)
    (i3 : ∀ a, o3 a + S1x32x1.size a ≤ S5x128x8.size a) :
    k0_pay68 (v15.readAt (Elt F) (Rect.unit (s := S640x4608) o1 S32x4608.size i1).toLoadRect X15)
        (v11.readAt (Elt F) (Rect.unit (s := S5x128x4608) o2 S1x32x4608.size i2).toLoadRect X11) (v9.readAt (Elt F) (Rect.unit (s := S5x128x8) o3 S1x32x1.size i3).toLoadRect X9)
        (v16.readAt (Elt F) (Rect.unit (s := S8x4608) ![0, 0] S8x4608.size inb_S8x4608_S8x4608_0_0).toLoadRect f16)
      = dgStep (v9.read (Elt F) X9) (v11.read (Elt F) X11) (v15.read (Elt F) X15) j (v16.read (Elt F) f16) := by
  subst e1 e2 e3
  rw [View.readAt_full v16 f16 (off := ![0, 0]) inb_S8x4608_S8x4608_0_0]
  rfl

/-- The closed forms of the offsets agree with group `4b + k`'s. -/
theorem off3_eq (b k o : ℕ) (hk : k < 4) : (![b, 32 * k, o] : Fin 3 → ℕ) = off3 (4 * b + k) o := by
  have h1 : (4 * b + k) / 4 = b := by omega
  have h2 : (4 * b + k) % 4 = k := by omega
  simp only [off3, h1, h2]

/-! ## The five loops -/

variable (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole) (h4 : k0_cond4 i = 1#1)
  (X9 : BufTy.Contents (Elt F) arg9.view.ty) (X10 : BufTy.Contents (Elt F) arg10.view.ty) (X11 : BufTy.Contents (Elt F) arg11.view.ty)
  (X12 : BufTy.Contents (Elt F) arg12.view.ty) (X15 : BufTy.Contents (Elt F) arg15.view.ty)
  (G13 : BufTy.Contents (Elt F) arg13.view.ty) (G16 : BufTy.Contents (Elt F) arg16.view.ty) (g : Vec F S8x4608 .f32)

/-- The first loop stores the rows of batch 0's four groups and adds them to the partial sums. -/
theorem loop1 (hg : arg16.view.read (Elt F) G16 = dgA (arg9.view.read (Elt F) X9) (arg11.view.read (Elt F) X11) (arg15.view.read (Elt F) X15) g 0 (by decide)) :
    (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).1 ++ rowPieces (arg9.view.read (Elt F) X9) (arg10.view.read (Elt F) X10) (arg11.view.read (Elt F) X11) (arg12.view.read (Elt F) X12) (arg15.view.read (Elt F) X15) 0 (by decide) = rowPieces (arg9.view.read (Elt F) X9) (arg10.view.read (Elt F) X10) (arg11.view.read (Elt F) X11) (arg12.view.read (Elt F) X12) (arg15.view.read (Elt F) X15) 4 (by decide)
      ∧ ∃ tl, (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).2
        = ⟨Rect.unit (s := S8x4608) ![0, 0] S8x4608.size inb_S8x4608_S8x4608_0_0, dgA (arg9.view.read (Elt F) X9) (arg11.view.read (Elt F) X11) (arg15.view.read (Elt F) X15) g 4 (by decide)⟩ :: tl := by
  refine loop_of (v16 := arg16.view) G16 _ _ _ _ _ g 0 (by decide) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16) rfl (fun k hk => ?_) hg
  have hk : k < k0_t1_loop.trips := hk
  refine (pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 ⟨k, hk⟩).trans ?_
  generalize pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 k = pk
  have r1 := row_eq X9 X10 X11 X12 X15 (⟨4 * 0 + k, by omega⟩ : Fin 20) ((k0_off1_eq ⟨k, hk⟩).trans (congrArg (fun n : ℕ => (![n, 0] : Fin 2 → ℕ)) (by show 32 * k = 32 * (4 * 0 + k); omega))) ((k0_off2_eq ⟨k, hk⟩).trans (off3_eq 0 k 0 hk)) ((k0_off3_eq ⟨k, hk⟩).trans (off3_eq 0 k 2 hk)) ((k0_off4_eq ⟨k, hk⟩).trans (off3_eq 0 k 3 hk)) ((k0_off5_eq ⟨k, hk⟩).trans (off3_eq 0 k 0 hk))
    (k0_off1_inb i ⟨k, hk⟩ h4) (k0_off2_inb i ⟨k, hk⟩ h4) (k0_off3_inb i ⟨k, hk⟩ h4) (k0_off4_inb i ⟨k, hk⟩ h4) (k0_off5_inb i ⟨k, hk⟩ h4)
  have r2 := sum_eq X9 X11 X15 (arg16.view.writes (Elt F) G16 pk.2) (⟨4 * 0 + k, by omega⟩ : Fin 20) ((k0_off1_eq ⟨k, hk⟩).trans (congrArg (fun n : ℕ => (![n, 0] : Fin 2 → ℕ)) (by show 32 * k = 32 * (4 * 0 + k); omega))) ((k0_off2_eq ⟨k, hk⟩).trans (off3_eq 0 k 0 hk)) ((k0_off3_eq ⟨k, hk⟩).trans (off3_eq 0 k 2 hk))
    (k0_off1_inb i ⟨k, hk⟩ h4) (k0_off2_inb i ⟨k, hk⟩ h4) (k0_off3_inb i ⟨k, hk⟩ h4)
  unfold tripL_k0_t1 trip_k0_t1
  refine Prod.ext ?_ ?_
  · exact congrArg (· :: pk.1) r1
  · exact congrArg (fun w => (⟨Rect.unit (s := S8x4608) ![0, 0] S8x4608.size inb_S8x4608_S8x4608_0_0, w⟩ : View.Piece (Elt F) S8x4608 .f32) :: pk.2) r2

/-- The second loop stores the rows of batch 1's four groups and adds them to the partial sums. -/
theorem loop2 (hg : arg16.view.read (Elt F) G16 = dgA (arg9.view.read (Elt F) X9) (arg11.view.read (Elt F) X11) (arg15.view.read (Elt F) X15) g 4 (by decide)) :
    (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).1 ++ rowPieces (arg9.view.read (Elt F) X9) (arg10.view.read (Elt F) X10) (arg11.view.read (Elt F) X11) (arg12.view.read (Elt F) X12) (arg15.view.read (Elt F) X15) 4 (by decide) = rowPieces (arg9.view.read (Elt F) X9) (arg10.view.read (Elt F) X10) (arg11.view.read (Elt F) X11) (arg12.view.read (Elt F) X12) (arg15.view.read (Elt F) X15) 8 (by decide)
      ∧ ∃ tl, (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).2
        = ⟨Rect.unit (s := S8x4608) ![0, 0] S8x4608.size inb_S8x4608_S8x4608_0_0, dgA (arg9.view.read (Elt F) X9) (arg11.view.read (Elt F) X11) (arg15.view.read (Elt F) X15) g 8 (by decide)⟩ :: tl := by
  refine loop_of (v16 := arg16.view) G16 _ _ _ _ _ g 1 (by decide) (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16) rfl (fun k hk => ?_) hg
  have hk : k < k0_t2_loop.trips := hk
  refine (pb_k0_t2_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 ⟨k, hk⟩).trans ?_
  generalize pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 k = pk
  have r1 := row_eq X9 X10 X11 X12 X15 (⟨4 * 1 + k, by omega⟩ : Fin 20) ((k0_off6_eq ⟨k, hk⟩).trans (congrArg (fun n : ℕ => (![n, 0] : Fin 2 → ℕ)) (by show 32 * k + 128 = 32 * (4 * 1 + k); omega))) ((k0_off7_eq ⟨k, hk⟩).trans (off3_eq 1 k 0 hk)) ((k0_off8_eq ⟨k, hk⟩).trans (off3_eq 1 k 2 hk)) ((k0_off9_eq ⟨k, hk⟩).trans (off3_eq 1 k 3 hk)) ((k0_off10_eq ⟨k, hk⟩).trans (off3_eq 1 k 0 hk))
    (k0_off6_inb i ⟨k, hk⟩ h4) (k0_off7_inb i ⟨k, hk⟩ h4) (k0_off8_inb i ⟨k, hk⟩ h4) (k0_off9_inb i ⟨k, hk⟩ h4) (k0_off10_inb i ⟨k, hk⟩ h4)
  have r2 := sum_eq X9 X11 X15 (arg16.view.writes (Elt F) G16 pk.2) (⟨4 * 1 + k, by omega⟩ : Fin 20) ((k0_off6_eq ⟨k, hk⟩).trans (congrArg (fun n : ℕ => (![n, 0] : Fin 2 → ℕ)) (by show 32 * k + 128 = 32 * (4 * 1 + k); omega))) ((k0_off7_eq ⟨k, hk⟩).trans (off3_eq 1 k 0 hk)) ((k0_off8_eq ⟨k, hk⟩).trans (off3_eq 1 k 2 hk))
    (k0_off6_inb i ⟨k, hk⟩ h4) (k0_off7_inb i ⟨k, hk⟩ h4) (k0_off8_inb i ⟨k, hk⟩ h4)
  unfold tripL_k0_t2 trip_k0_t2
  refine Prod.ext ?_ ?_
  · exact congrArg (· :: pk.1) r1
  · exact congrArg (fun w => (⟨Rect.unit (s := S8x4608) ![0, 0] S8x4608.size inb_S8x4608_S8x4608_0_0, w⟩ : View.Piece (Elt F) S8x4608 .f32) :: pk.2) r2

/-- The third loop stores the rows of batch 2's four groups and adds them to the partial sums. -/
theorem loop3 (hg : arg16.view.read (Elt F) G16 = dgA (arg9.view.read (Elt F) X9) (arg11.view.read (Elt F) X11) (arg15.view.read (Elt F) X15) g 8 (by decide)) :
    (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).1 ++ rowPieces (arg9.view.read (Elt F) X9) (arg10.view.read (Elt F) X10) (arg11.view.read (Elt F) X11) (arg12.view.read (Elt F) X12) (arg15.view.read (Elt F) X15) 8 (by decide) = rowPieces (arg9.view.read (Elt F) X9) (arg10.view.read (Elt F) X10) (arg11.view.read (Elt F) X11) (arg12.view.read (Elt F) X12) (arg15.view.read (Elt F) X15) 12 (by decide)
      ∧ ∃ tl, (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).2
        = ⟨Rect.unit (s := S8x4608) ![0, 0] S8x4608.size inb_S8x4608_S8x4608_0_0, dgA (arg9.view.read (Elt F) X9) (arg11.view.read (Elt F) X11) (arg15.view.read (Elt F) X15) g 12 (by decide)⟩ :: tl := by
  refine loop_of (v16 := arg16.view) G16 _ _ _ _ _ g 2 (by decide) (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16) rfl (fun k hk => ?_) hg
  have hk : k < k0_t3_loop.trips := hk
  refine (pb_k0_t3_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 ⟨k, hk⟩).trans ?_
  generalize pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 k = pk
  have r1 := row_eq X9 X10 X11 X12 X15 (⟨4 * 2 + k, by omega⟩ : Fin 20) ((k0_off11_eq ⟨k, hk⟩).trans (congrArg (fun n : ℕ => (![n, 0] : Fin 2 → ℕ)) (by show 32 * k + 256 = 32 * (4 * 2 + k); omega))) ((k0_off12_eq ⟨k, hk⟩).trans (off3_eq 2 k 0 hk)) ((k0_off13_eq ⟨k, hk⟩).trans (off3_eq 2 k 2 hk)) ((k0_off14_eq ⟨k, hk⟩).trans (off3_eq 2 k 3 hk)) ((k0_off15_eq ⟨k, hk⟩).trans (off3_eq 2 k 0 hk))
    (k0_off11_inb i ⟨k, hk⟩ h4) (k0_off12_inb i ⟨k, hk⟩ h4) (k0_off13_inb i ⟨k, hk⟩ h4) (k0_off14_inb i ⟨k, hk⟩ h4) (k0_off15_inb i ⟨k, hk⟩ h4)
  have r2 := sum_eq X9 X11 X15 (arg16.view.writes (Elt F) G16 pk.2) (⟨4 * 2 + k, by omega⟩ : Fin 20) ((k0_off11_eq ⟨k, hk⟩).trans (congrArg (fun n : ℕ => (![n, 0] : Fin 2 → ℕ)) (by show 32 * k + 256 = 32 * (4 * 2 + k); omega))) ((k0_off12_eq ⟨k, hk⟩).trans (off3_eq 2 k 0 hk)) ((k0_off13_eq ⟨k, hk⟩).trans (off3_eq 2 k 2 hk))
    (k0_off11_inb i ⟨k, hk⟩ h4) (k0_off12_inb i ⟨k, hk⟩ h4) (k0_off13_inb i ⟨k, hk⟩ h4)
  unfold tripL_k0_t3 trip_k0_t3
  refine Prod.ext ?_ ?_
  · exact congrArg (· :: pk.1) r1
  · exact congrArg (fun w => (⟨Rect.unit (s := S8x4608) ![0, 0] S8x4608.size inb_S8x4608_S8x4608_0_0, w⟩ : View.Piece (Elt F) S8x4608 .f32) :: pk.2) r2

/-- The fourth loop stores the rows of batch 3's four groups and adds them to the partial sums. -/
theorem loop4 (hg : arg16.view.read (Elt F) G16 = dgA (arg9.view.read (Elt F) X9) (arg11.view.read (Elt F) X11) (arg15.view.read (Elt F) X15) g 12 (by decide)) :
    (pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).1 ++ rowPieces (arg9.view.read (Elt F) X9) (arg10.view.read (Elt F) X10) (arg11.view.read (Elt F) X11) (arg12.view.read (Elt F) X12) (arg15.view.read (Elt F) X15) 12 (by decide) = rowPieces (arg9.view.read (Elt F) X9) (arg10.view.read (Elt F) X10) (arg11.view.read (Elt F) X11) (arg12.view.read (Elt F) X12) (arg15.view.read (Elt F) X15) 16 (by decide)
      ∧ ∃ tl, (pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).2
        = ⟨Rect.unit (s := S8x4608) ![0, 0] S8x4608.size inb_S8x4608_S8x4608_0_0, dgA (arg9.view.read (Elt F) X9) (arg11.view.read (Elt F) X11) (arg15.view.read (Elt F) X15) g 16 (by decide)⟩ :: tl := by
  refine loop_of (v16 := arg16.view) G16 _ _ _ _ _ g 3 (by decide) (pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16) rfl (fun k hk => ?_) hg
  have hk : k < k0_t4_loop.trips := hk
  refine (pb_k0_t4_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 ⟨k, hk⟩).trans ?_
  generalize pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 k = pk
  have r1 := row_eq X9 X10 X11 X12 X15 (⟨4 * 3 + k, by omega⟩ : Fin 20) ((k0_off16_eq ⟨k, hk⟩).trans (congrArg (fun n : ℕ => (![n, 0] : Fin 2 → ℕ)) (by show 32 * k + 384 = 32 * (4 * 3 + k); omega))) ((k0_off17_eq ⟨k, hk⟩).trans (off3_eq 3 k 0 hk)) ((k0_off18_eq ⟨k, hk⟩).trans (off3_eq 3 k 2 hk)) ((k0_off19_eq ⟨k, hk⟩).trans (off3_eq 3 k 3 hk)) ((k0_off20_eq ⟨k, hk⟩).trans (off3_eq 3 k 0 hk))
    (k0_off16_inb i ⟨k, hk⟩ h4) (k0_off17_inb i ⟨k, hk⟩ h4) (k0_off18_inb i ⟨k, hk⟩ h4) (k0_off19_inb i ⟨k, hk⟩ h4) (k0_off20_inb i ⟨k, hk⟩ h4)
  have r2 := sum_eq X9 X11 X15 (arg16.view.writes (Elt F) G16 pk.2) (⟨4 * 3 + k, by omega⟩ : Fin 20) ((k0_off16_eq ⟨k, hk⟩).trans (congrArg (fun n : ℕ => (![n, 0] : Fin 2 → ℕ)) (by show 32 * k + 384 = 32 * (4 * 3 + k); omega))) ((k0_off17_eq ⟨k, hk⟩).trans (off3_eq 3 k 0 hk)) ((k0_off18_eq ⟨k, hk⟩).trans (off3_eq 3 k 2 hk))
    (k0_off16_inb i ⟨k, hk⟩ h4) (k0_off17_inb i ⟨k, hk⟩ h4) (k0_off18_inb i ⟨k, hk⟩ h4)
  unfold tripL_k0_t4 trip_k0_t4
  refine Prod.ext ?_ ?_
  · exact congrArg (· :: pk.1) r1
  · exact congrArg (fun w => (⟨Rect.unit (s := S8x4608) ![0, 0] S8x4608.size inb_S8x4608_S8x4608_0_0, w⟩ : View.Piece (Elt F) S8x4608 .f32) :: pk.2) r2

/-- The fifth loop stores the rows of batch 4's four groups and adds them to the partial sums. -/
theorem loop5 (hg : arg16.view.read (Elt F) G16 = dgA (arg9.view.read (Elt F) X9) (arg11.view.read (Elt F) X11) (arg15.view.read (Elt F) X15) g 16 (by decide)) :
    (pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).1 ++ rowPieces (arg9.view.read (Elt F) X9) (arg10.view.read (Elt F) X10) (arg11.view.read (Elt F) X11) (arg12.view.read (Elt F) X12) (arg15.view.read (Elt F) X15) 16 (by decide) = rowPieces (arg9.view.read (Elt F) X9) (arg10.view.read (Elt F) X10) (arg11.view.read (Elt F) X11) (arg12.view.read (Elt F) X12) (arg15.view.read (Elt F) X15) 20 (by decide)
      ∧ ∃ tl, (pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).2
        = ⟨Rect.unit (s := S8x4608) ![0, 0] S8x4608.size inb_S8x4608_S8x4608_0_0, dgA (arg9.view.read (Elt F) X9) (arg11.view.read (Elt F) X11) (arg15.view.read (Elt F) X15) g 20 (by decide)⟩ :: tl := by
  refine loop_of (v16 := arg16.view) G16 _ _ _ _ _ g 4 (by decide) (pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16) rfl (fun k hk => ?_) hg
  have hk : k < k0_t5_loop.trips := hk
  refine (pb_k0_t5_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 ⟨k, hk⟩).trans ?_
  generalize pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 k = pk
  have r1 := row_eq X9 X10 X11 X12 X15 (⟨4 * 4 + k, by omega⟩ : Fin 20) ((k0_off21_eq ⟨k, hk⟩).trans (congrArg (fun n : ℕ => (![n, 0] : Fin 2 → ℕ)) (by show 32 * k + 512 = 32 * (4 * 4 + k); omega))) ((k0_off22_eq ⟨k, hk⟩).trans (off3_eq 4 k 0 hk)) ((k0_off23_eq ⟨k, hk⟩).trans (off3_eq 4 k 2 hk)) ((k0_off24_eq ⟨k, hk⟩).trans (off3_eq 4 k 3 hk)) ((k0_off25_eq ⟨k, hk⟩).trans (off3_eq 4 k 0 hk))
    (k0_off21_inb i ⟨k, hk⟩ h4) (k0_off22_inb i ⟨k, hk⟩ h4) (k0_off23_inb i ⟨k, hk⟩ h4) (k0_off24_inb i ⟨k, hk⟩ h4) (k0_off25_inb i ⟨k, hk⟩ h4)
  have r2 := sum_eq X9 X11 X15 (arg16.view.writes (Elt F) G16 pk.2) (⟨4 * 4 + k, by omega⟩ : Fin 20) ((k0_off21_eq ⟨k, hk⟩).trans (congrArg (fun n : ℕ => (![n, 0] : Fin 2 → ℕ)) (by show 32 * k + 512 = 32 * (4 * 4 + k); omega))) ((k0_off22_eq ⟨k, hk⟩).trans (off3_eq 4 k 0 hk)) ((k0_off23_eq ⟨k, hk⟩).trans (off3_eq 4 k 2 hk))
    (k0_off21_inb i ⟨k, hk⟩ h4) (k0_off22_inb i ⟨k, hk⟩ h4) (k0_off23_inb i ⟨k, hk⟩ h4)
  unfold tripL_k0_t5 trip_k0_t5
  refine Prod.ext ?_ ?_
  · exact congrArg (· :: pk.1) r1
  · exact congrArg (fun w => (⟨Rect.unit (s := S8x4608) ![0, 0] S8x4608.size inb_S8x4608_S8x4608_0_0, w⟩ : View.Piece (Elt F) S8x4608 .f32) :: pk.2) r2

end Cert.DxIdeal.Run

end
-- ==== Proof.DxRunA.lean ====
module

public import proofs.«01_k».proof.Proof.Gen.DxIdeal.Frame
public import proofs.«01_k».proof.Proof.Gen.DxIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.DxIdeal.Run

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first chunk of the mlp's contraction. -/
abbrev cond1 (i : grid0.Coords) : Prop := (Scalar.cmpi .ne (Scalar.extui (Scalar.cmpi .eq (BitVec.ofNat 32 (i 1).val) 0#32)) 0#32) = 1#1
/-- A later chunk of the mlp's contraction. -/
abbrev cond2 (i : grid0.Coords) : Prop := (Scalar.cmpi .ne (Scalar.extui (Scalar.andi (Scalar.cmpi .sgt (BitVec.ofNat 32 (i 1).val) 0#32) (Scalar.cmpi .slt (BitVec.ofNat 32 (i 1).val) 16#32))) 0#32) = 1#1
/-- A chunk of the attention's contraction. -/
abbrev cond3 (i : grid0.Coords) : Prop := (Scalar.cmpi .ne (Scalar.extui (Scalar.cmpi .sge (BitVec.ofNat 32 (i 1).val) 16#32)) 0#32) = 1#1
/-- The first tile of tokens. -/
abbrev cond5 (i : grid0.Coords) : Prop := (Scalar.cmpi .ne (Scalar.extui (Scalar.cmpi .eq (BitVec.ofNat 32 (i 0).val) 0#32)) 0#32) = 1#1

set_option maxHeartbeats 8000000 in
/-- The body at the first chunk: what it stores in the accumulator and in the operand scratch, and that it runs. -/
def runA (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : cond1 i) (h2 : ¬cond2 i) (h3 : ¬cond3 i) (h4 : ¬k0_cond4 i = 1#1)
    (x2 : Vec F S5x128x768 .fp8e5m2) (x3 : Vec F S5x128x1 .f32) (x4 : Vec F S1x768 .f32) (x5 : Vec F S4608x768 .fp8e4m3)  :
    Σ' (L15 : List (View.Piece (Elt F) S640x4608 .f32)), { L17 : List (View.Piece (Elt F) S640x768 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg15 fullShare d) ∗ (∃ d, owns (c : Thread nD τ) arg17 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f2, %hf2, H2⟩, ⟨%f3, %hf3, H3⟩, ⟨%f4, %hf4, H4⟩, ⟨%f5, %hf5, H5⟩, ⟨%d15, %f15, -, H15⟩, ⟨%d17, %f17, -, H17⟩, Hk⟩
    obtain rfl := harg2.eq_unread hf2; obtain rfl := harg3.eq_unread hf3; obtain rfl := harg4.eq_unread hf4; obtain rfl := harg5.eq_unread hf5
    sl_exec (disch := first | sl_exact h1 | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H15]
    · iexists _; iexact H15
    iexists _; iexact H17

end Cert.DxIdeal.Run

end
-- ==== Proof.DxRunC.lean ====
module

public import proofs.«01_k».proof.Proof.Gen.DxIdeal.Frame
public import proofs.«01_k».proof.Proof.Gen.DxIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.DxRunA

@[expose] public section

set_option maxRecDepth 16384

noncomputable section

namespace Cert.DxIdeal.Run

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a chunk of the attention but the last: what it stores over the accumulator and in the operand scratch. -/
def runC (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : ¬k0_cond4 i = 1#1)
    (x6 : Vec F S5x6x128x128 .fp8e5m2) (x7 : Vec F S6x1x128 .f32) (x8 : Vec F S6x4608x128 .fp8e4m3) (x9 : Vec F S5x128x8 .f32) (x15 : Vec F S640x4608 .f32)  :
    Σ' (L15 : List (View.Piece (Elt F) S640x4608 .f32)), { L17 : List (View.Piece (Elt F) S640x768 .bf16) //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg15 fullShare x15 ∗ (∃ d, owns (c : Thread nD τ) arg17 fullShare d)
            ∗ (iprop(owns (c : Thread nD τ) arg6 fullShare x6 ∗ owns (c : Thread nD τ) arg7 fullShare x7 ∗ owns (c : Thread nD τ) arg8 fullShare x8 ∗ owns (c : Thread nD τ) arg9 fullShare x9 ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f6, %hf6, H6⟩, ⟨%f7, %hf7, H7⟩, ⟨%f8, %hf8, H8⟩, ⟨%f9, %hf9, H9⟩, ⟨%f15, %hf15, H15⟩, ⟨%d17, %f17, -, H17⟩, Hk⟩
    obtain rfl := harg6.eq_unread hf6; obtain rfl := harg7.eq_unread hf7; obtain rfl := harg8.eq_unread hf8; obtain rfl := harg9.eq_unread hf9; obtain rfl := harg15.eq_unread hf15
    sl_exec (disch := first | sl_exact h1 | sl_exact h2 | sl_exact h3 | sl_exact h4)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H15]
    · iexists _; iexact H15
    iexists _; iexact H17

end Cert.DxIdeal.Run

end
-- ==== Proof.DxRunD.lean ====
module

public import proofs.«01_k».proof.Proof.Gen.DxIdeal.Frame
public import proofs.«01_k».proof.Proof.Gen.DxIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.DxRunA

@[expose] public section

set_option maxRecDepth 16384

noncomputable section

namespace Cert.DxIdeal.Run

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the last chunk of the first tile of tokens: the last attention chunk, then the five loops over rows. -/
def runD (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : cond5 i) (h6 : ¬k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (f13 : BufTy.Contents (Elt F) arg13.view.ty) :
    Σ' (L15 : List (View.Piece (Elt F) S640x4608 .f32)), Σ' (L17 : List (View.Piece (Elt F) S640x768 .bf16)), Σ' (L16 : List (View.Piece (Elt F) S8x4608 .f32)), { F13 : BufTy.Contents (Elt F) arg13.view.ty //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg15 fullShare x15 ∗ (∃ d, owns (c : Thread nD τ) arg17 fullShare d) ∗ (∃ d, owns (c : Thread nD τ) arg16 fullShare d) ∗ (arg13.view.loc (c : Thread nD τ) ↦[arg13.view.set]{fullShare} f13)
            ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17) ∗ (∃ f, arg16.view.loc (c : Thread nD τ) ↦[arg16.view.set]{fullShare} arg16.view.writes (Elt F) f L16) ∗ (arg13.view.loc (c : Thread nD τ) ↦[arg13.view.set]{fullShare} F13)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%d17, %f17, -, H17⟩, ⟨%d16, %f16, -, H16⟩, H13, Hk⟩
    obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg15.eq_unread hf15
    sl_exec (disch := first | sl_exact h1 | sl_exact h2 | sl_exact h3 | sl_exact h4 | sl_exact h5 | sl_exact h6)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H15]
    · iexists _; iexact H15
    isplitl [H17]
    · iexists _; iexact H17
    isplitl [H16]
    · iexists _; iexact H16
    iexact H13

end Cert.DxIdeal.Run

end
-- ==== Proof.DxRunE.lean ====
module

public import proofs.«01_k».proof.Proof.Gen.DxIdeal.Frame
public import proofs.«01_k».proof.Proof.Gen.DxIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.DxRunA

@[expose] public section

set_option maxRecDepth 16384

noncomputable section

namespace Cert.DxIdeal.Run

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the last chunk of the middle tile of tokens. -/
def runE (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : ¬cond5 i) (h6 : ¬k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (x16 : Vec F S8x4608 .f32) (f13 : BufTy.Contents (Elt F) arg13.view.ty) :
    Σ' (L15 : List (View.Piece (Elt F) S640x4608 .f32)), Σ' (L17 : List (View.Piece (Elt F) S640x768 .bf16)), Σ' (L16 : List (View.Piece (Elt F) S8x4608 .f32)), { F13 : BufTy.Contents (Elt F) arg13.view.ty //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg15 fullShare x15 ∗ (∃ d, owns (c : Thread nD τ) arg17 fullShare d) ∗ owns (c : Thread nD τ) arg16 fullShare x16 ∗ (arg13.view.loc (c : Thread nD τ) ↦[arg13.view.set]{fullShare} f13)
            ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17) ∗ (∃ f, arg16.view.loc (c : Thread nD τ) ↦[arg16.view.set]{fullShare} arg16.view.writes (Elt F) f L16) ∗ (arg13.view.loc (c : Thread nD τ) ↦[arg13.view.set]{fullShare} F13)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%d17, %f17, -, H17⟩, ⟨%f16, %hf16, H16⟩, H13, Hk⟩
    obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg15.eq_unread hf15; obtain rfl := harg16.eq_unread hf16
    sl_exec (disch := first | sl_exact h1 | sl_exact h2 | sl_exact h3 | sl_exact h4 | sl_exact h5 | sl_exact h6)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H15]
    · iexists _; iexact H15
    isplitl [H17]
    · iexists _; iexact H17
    isplitl [H16]
    · iexists _; iexact H16
    iexact H13

end Cert.DxIdeal.Run

end
-- ==== Proof.DxRunF.lean ====
module

public import proofs.«01_k».proof.Proof.Gen.DxIdeal.Frame
public import proofs.«01_k».proof.Proof.Gen.DxIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.DxRunA

@[expose] public section

set_option maxRecDepth 16384

noncomputable section

namespace Cert.DxIdeal.Run

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the last chunk of the last tile of tokens, which also stores the sum over the rows of partial sums. -/
def runF (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : ¬cond5 i) (h6 : k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (x16 : Vec F S8x4608 .f32) (f13 : BufTy.Contents (Elt F) arg13.view.ty) :
    Σ' (L15 : List (View.Piece (Elt F) S640x4608 .f32)), Σ' (L17 : List (View.Piece (Elt F) S640x768 .bf16)), Σ' (L16 : List (View.Piece (Elt F) S8x4608 .f32)), Σ' (L14 : List (View.Piece (Elt F) S1x4608 .f32)), { F13 : BufTy.Contents (Elt F) arg13.view.ty //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg15 fullShare x15 ∗ (∃ d, owns (c : Thread nD τ) arg17 fullShare d) ∗ owns (c : Thread nD τ) arg16 fullShare x16 ∗ (∃ d, owns (c : Thread nD τ) arg14 fullShare d) ∗ (arg13.view.loc (c : Thread nD τ) ↦[arg13.view.set]{fullShare} f13)
            ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17) ∗ (∃ f, arg16.view.loc (c : Thread nD τ) ↦[arg16.view.set]{fullShare} arg16.view.writes (Elt F) f L16) ∗ (∃ f, arg14.view.loc (c : Thread nD τ) ↦[arg14.view.set]{fullShare} arg14.view.writes (Elt F) f L14) ∗ (arg13.view.loc (c : Thread nD τ) ↦[arg13.view.set]{fullShare} F13)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%d17, %f17, -, H17⟩, ⟨%f16, %hf16, H16⟩, ⟨%d14, %f14, -, H14⟩, H13, Hk⟩
    obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg15.eq_unread hf15; obtain rfl := harg16.eq_unread hf16
    sl_exec (disch := first | sl_exact h1 | sl_exact h2 | sl_exact h3 | sl_exact h4 | sl_exact h5 | sl_exact h6)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H15]
    · iexists _; iexact H15
    isplitl [H17]
    · iexists _; iexact H17
    isplitl [H16]
    · iexists _; iexact H16
    isplitl [H14]
    · iexists _; iexact H14
    iexact H13

end Cert.DxIdeal.Run

end
-- ==== Proof.DxPoint.lean ====
module

public import proofs.«01_k».proof.Proof.DxLoop
public import proofs.«01_k».proof.Proof.DxRunC
public import proofs.«01_k».proof.Proof.DxRunD
public import proofs.«01_k».proof.Proof.DxRunE
public import proofs.«01_k».proof.Proof.DxRunF

@[expose] public section

set_option maxRecDepth 16384

noncomputable section

namespace Cert.DxIdeal.Run

open Cert.DxIdeal Cert.DxIdeal.Gen
open Idealize.ShloMosaic Idealize.ShloMosaic.TcCoe Idealize.ShloMosaic.Tactic

variable {F : FTy → Type} [FloatOps F]

/-- The five loops one after the other: the twenty groups' rows are stored, and the partial sums take all twenty groups. -/
theorem five (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole) (h4 : k0_cond4 i = 1#1)
    (X9 : BufTy.Contents (Elt F) arg9.view.ty) (X10 : BufTy.Contents (Elt F) arg10.view.ty) (X11 : BufTy.Contents (Elt F) arg11.view.ty)
    (X12 : BufTy.Contents (Elt F) arg12.view.ty) (X15 : BufTy.Contents (Elt F) arg15.view.ty)
    (G13 : BufTy.Contents (Elt F) arg13.view.ty) (G1 G2 G3 G4 G5 : BufTy.Contents (Elt F) arg16.view.ty) (g : Vec F S8x4608 .f32)
    (hg : arg16.view.read (Elt F) G1 = g)
    (p1 : List (View.Piece (Elt F) S5x128x4608 .bf16) × List (View.Piece (Elt F) S8x4608 .f32)) (e1 : p1 = pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G1 (Scf.trips (0#32) (Scalar.addi 0#32 4#32) 1#32))
    (hG2 : ∀ w tl, p1.2 = (⟨Rect.unit (s := S8x4608) ![0, 0] S8x4608.size inb_S8x4608_S8x4608_0_0, w⟩ : View.Piece (Elt F) S8x4608 .f32) :: tl → arg16.view.read (Elt F) G2 = w)
    (p2 : List (View.Piece (Elt F) S5x128x4608 .bf16) × List (View.Piece (Elt F) S8x4608 .f32)) (e2 : p2 = pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p1.1)) G2 (Scf.trips (0#32) (Scalar.addi 0#32 4#32) 1#32))
    (hG3 : ∀ w tl, p2.2 = (⟨Rect.unit (s := S8x4608) ![0, 0] S8x4608.size inb_S8x4608_S8x4608_0_0, w⟩ : View.Piece (Elt F) S8x4608 .f32) :: tl → arg16.view.read (Elt F) G3 = w)
    (p3 : List (View.Piece (Elt F) S5x128x4608 .bf16) × List (View.Piece (Elt F) S8x4608 .f32)) (e3 : p3 = pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p2.1 ++ (p1.1))) G3 (Scf.trips (0#32) (Scalar.addi 0#32 4#32) 1#32))
    (hG4 : ∀ w tl, p3.2 = (⟨Rect.unit (s := S8x4608) ![0, 0] S8x4608.size inb_S8x4608_S8x4608_0_0, w⟩ : View.Piece (Elt F) S8x4608 .f32) :: tl → arg16.view.read (Elt F) G4 = w)
    (p4 : List (View.Piece (Elt F) S5x128x4608 .bf16) × List (View.Piece (Elt F) S8x4608 .f32)) (e4 : p4 = pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p3.1 ++ (p2.1 ++ (p1.1)))) G4 (Scf.trips (0#32) (Scalar.addi 0#32 4#32) 1#32))
    (hG5 : ∀ w tl, p4.2 = (⟨Rect.unit (s := S8x4608) ![0, 0] S8x4608.size inb_S8x4608_S8x4608_0_0, w⟩ : View.Piece (Elt F) S8x4608 .f32) :: tl → arg16.view.read (Elt F) G5 = w)
    (p5 : List (View.Piece (Elt F) S5x128x4608 .bf16) × List (View.Piece (Elt F) S8x4608 .f32)) (e5 : p5 = pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p4.1 ++ (p3.1 ++ (p2.1 ++ (p1.1))))) G5 (Scf.trips (0#32) (Scalar.addi 0#32 4#32) 1#32)) :
    p5.1 ++ (p4.1 ++ (p3.1 ++ (p2.1 ++ (p1.1)))) = rowPieces (arg9.view.read (Elt F) X9) (arg10.view.read (Elt F) X10) (arg11.view.read (Elt F) X11) (arg12.view.read (Elt F) X12) (arg15.view.read (Elt F) X15) 20 (le_refl _)
      ∧ ∃ tl, p5.2 = (⟨Rect.unit (s := S8x4608) ![0, 0] S8x4608.size inb_S8x4608_S8x4608_0_0, dgA (arg9.view.read (Elt F) X9) (arg11.view.read (Elt F) X11) (arg15.view.read (Elt F) X15) g 20 (le_refl _)⟩ : View.Piece (Elt F) S8x4608 .f32) :: tl := by
  obtain ⟨a1, t1, b1⟩ := loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G1 g hg
  rw [← e1] at a1 b1
  obtain ⟨a2, t2, b2⟩ := loop2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p1.1)) G2 g (hG2 _ _ b1)
  rw [← e2] at a2 b2
  obtain ⟨a3, t3, b3⟩ := loop3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p2.1 ++ (p1.1))) G3 g (hG3 _ _ b2)
  rw [← e3] at a3 b3
  obtain ⟨a4, t4, b4⟩ := loop4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p3.1 ++ (p2.1 ++ (p1.1)))) G4 g (hG4 _ _ b3)
  rw [← e4] at a4 b4
  obtain ⟨a5, t5, b5⟩ := loop5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p4.1 ++ (p3.1 ++ (p2.1 ++ (p1.1))))) G5 g (hG5 _ _ b4)
  rw [← e5] at a5 b5
  refine ⟨?_, t5, b5⟩
  have a1' : p1.1 = rowPieces (arg9.view.read (Elt F) X9) (arg10.view.read (Elt F) X10) (arg11.view.read (Elt F) X11) (arg12.view.read (Elt F) X12) (arg15.view.read (Elt F) X15) 4 (by decide) := (List.append_nil _).symm.trans a1
  rw [a1', a2, a3, a4, a5]

/-- The same, the partial sums read through the stores made so far over what the point began with, after first being cleared. -/
theorem fiveD (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole) (h4 : k0_cond4 i = 1#1)
    (X9 : BufTy.Contents (Elt F) arg9.view.ty) (X10 : BufTy.Contents (Elt F) arg10.view.ty) (X11 : BufTy.Contents (Elt F) arg11.view.ty)
    (X12 : BufTy.Contents (Elt F) arg12.view.ty) (X15 : BufTy.Contents (Elt F) arg15.view.ty)
    (G13 : BufTy.Contents (Elt F) arg13.view.ty) (J : BufTy.Contents (Elt F) arg16.view.ty) (H : List (View.Piece (Elt F) S8x4608 .f32)) (g : Vec F S8x4608 .f32)
    (hg : arg16.view.read (Elt F) (arg16.view.writes (Elt F) J H) = g)
    (p1 : List (View.Piece (Elt F) S5x128x4608 .bf16) × List (View.Piece (Elt F) S8x4608 .f32)) (e1 : p1 = pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 (arg16.view.writes (Elt F) J H) (Scf.trips (0#32) (Scalar.addi 0#32 4#32) 1#32))
    (p2 : List (View.Piece (Elt F) S5x128x4608 .bf16) × List (View.Piece (Elt F) S8x4608 .f32)) (e2 : p2 = pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p1.1)) (arg16.view.writes (Elt F) J (p1.2 ++ H)) (Scf.trips (0#32) (Scalar.addi 0#32 4#32) 1#32))
    (p3 : List (View.Piece (Elt F) S5x128x4608 .bf16) × List (View.Piece (Elt F) S8x4608 .f32)) (e3 : p3 = pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p2.1 ++ (p1.1))) (arg16.view.writes (Elt F) J (p2.2 ++ (p1.2 ++ H))) (Scf.trips (0#32) (Scalar.addi 0#32 4#32) 1#32))
    (p4 : List (View.Piece (Elt F) S5x128x4608 .bf16) × List (View.Piece (Elt F) S8x4608 .f32)) (e4 : p4 = pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p3.1 ++ (p2.1 ++ (p1.1)))) (arg16.view.writes (Elt F) J (p3.2 ++ (p2.2 ++ (p1.2 ++ H)))) (Scf.trips (0#32) (Scalar.addi 0#32 4#32) 1#32))
    (p5 : List (View.Piece (Elt F) S5x128x4608 .bf16) × List (View.Piece (Elt F) S8x4608 .f32)) (e5 : p5 = pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p4.1 ++ (p3.1 ++ (p2.1 ++ (p1.1))))) (arg16.view.writes (Elt F) J (p4.2 ++ (p3.2 ++ (p2.2 ++ (p1.2 ++ H))))) (Scf.trips (0#32) (Scalar.addi 0#32 4#32) 1#32)) :
    p5.1 ++ (p4.1 ++ (p3.1 ++ (p2.1 ++ (p1.1)))) = rowPieces (arg9.view.read (Elt F) X9) (arg10.view.read (Elt F) X10) (arg11.view.read (Elt F) X11) (arg12.view.read (Elt F) X12) (arg15.view.read (Elt F) X15) 20 (le_refl _)
      ∧ ∃ tl, p5.2 = (⟨Rect.unit (s := S8x4608) ![0, 0] S8x4608.size inb_S8x4608_S8x4608_0_0, dgA (arg9.view.read (Elt F) X9) (arg11.view.read (Elt F) X11) (arg15.view.read (Elt F) X15) g 20 (le_refl _)⟩ : View.Piece (Elt F) S8x4608 .f32) :: tl :=
  five c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 (arg16.view.writes (Elt F) J H) (arg16.view.writes (Elt F) J (p1.2 ++ H)) (arg16.view.writes (Elt F) J (p2.2 ++ (p1.2 ++ H))) (arg16.view.writes (Elt F) J (p3.2 ++ (p2.2 ++ (p1.2 ++ H)))) (arg16.view.writes (Elt F) J (p4.2 ++ (p3.2 ++ (p2.2 ++ (p1.2 ++ H))))) g hg p1 e1
    (fun w tl h => (congrArg (fun l => arg16.view.read (Elt F) (arg16.view.writes (Elt F) J (l ++ (H)))) h).trans (View.read_writes_full arg16.view J (off := ![0, 0]) inb_S8x4608_S8x4608_0_0 w (tl ++ (H)))) p2 e2
    (fun w tl h => (congrArg (fun l => arg16.view.read (Elt F) (arg16.view.writes (Elt F) J (l ++ (p1.2 ++ (H))))) h).trans (View.read_writes_full arg16.view J (off := ![0, 0]) inb_S8x4608_S8x4608_0_0 w (tl ++ (p1.2 ++ (H))))) p3 e3
    (fun w tl h => (congrArg (fun l => arg16.view.read (Elt F) (arg16.view.writes (Elt F) J (l ++ (p2.2 ++ (p1.2 ++ (H)))))) h).trans (View.read_writes_full arg16.view J (off := ![0, 0]) inb_S8x4608_S8x4608_0_0 w (tl ++ (p2.2 ++ (p1.2 ++ (H)))))) p4 e4
    (fun w tl h => (congrArg (fun l => arg16.view.read (Elt F) (arg16.view.writes (Elt F) J (l ++ (p3.2 ++ (p2.2 ++ (p1.2 ++ (H))))))) h).trans (View.read_writes_full arg16.view J (off := ![0, 0]) inb_S8x4608_S8x4608_0_0 w (tl ++ (p3.2 ++ (p2.2 ++ (p1.2 ++ (H))))))) p5 e5

/-- The same, the partial sums read through the stores made so far over what the point began with. -/
theorem fiveE (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole) (h4 : k0_cond4 i = 1#1)
    (X9 : BufTy.Contents (Elt F) arg9.view.ty) (X10 : BufTy.Contents (Elt F) arg10.view.ty) (X11 : BufTy.Contents (Elt F) arg11.view.ty)
    (X12 : BufTy.Contents (Elt F) arg12.view.ty) (X15 : BufTy.Contents (Elt F) arg15.view.ty)
    (G13 : BufTy.Contents (Elt F) arg13.view.ty) (J : BufTy.Contents (Elt F) arg16.view.ty) (g : Vec F S8x4608 .f32)
    (hg : arg16.view.read (Elt F) J = g)
    (p1 : List (View.Piece (Elt F) S5x128x4608 .bf16) × List (View.Piece (Elt F) S8x4608 .f32)) (e1 : p1 = pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 J (Scf.trips (0#32) (Scalar.addi 0#32 4#32) 1#32))
    (p2 : List (View.Piece (Elt F) S5x128x4608 .bf16) × List (View.Piece (Elt F) S8x4608 .f32)) (e2 : p2 = pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p1.1)) (arg16.view.writes (Elt F) J (p1.2)) (Scf.trips (0#32) (Scalar.addi 0#32 4#32) 1#32))
    (p3 : List (View.Piece (Elt F) S5x128x4608 .bf16) × List (View.Piece (Elt F) S8x4608 .f32)) (e3 : p3 = pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p2.1 ++ (p1.1))) (arg16.view.writes (Elt F) J (p2.2 ++ (p1.2))) (Scf.trips (0#32) (Scalar.addi 0#32 4#32) 1#32))
    (p4 : List (View.Piece (Elt F) S5x128x4608 .bf16) × List (View.Piece (Elt F) S8x4608 .f32)) (e4 : p4 = pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p3.1 ++ (p2.1 ++ (p1.1)))) (arg16.view.writes (Elt F) J (p3.2 ++ (p2.2 ++ (p1.2)))) (Scf.trips (0#32) (Scalar.addi 0#32 4#32) 1#32))
    (p5 : List (View.Piece (Elt F) S5x128x4608 .bf16) × List (View.Piece (Elt F) S8x4608 .f32)) (e5 : p5 = pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p4.1 ++ (p3.1 ++ (p2.1 ++ (p1.1))))) (arg16.view.writes (Elt F) J (p4.2 ++ (p3.2 ++ (p2.2 ++ (p1.2))))) (Scf.trips (0#32) (Scalar.addi 0#32 4#32) 1#32)) :
    p5.1 ++ (p4.1 ++ (p3.1 ++ (p2.1 ++ (p1.1)))) = rowPieces (arg9.view.read (Elt F) X9) (arg10.view.read (Elt F) X10) (arg11.view.read (Elt F) X11) (arg12.view.read (Elt F) X12) (arg15.view.read (Elt F) X15) 20 (le_refl _)
      ∧ ∃ tl, p5.2 = (⟨Rect.unit (s := S8x4608) ![0, 0] S8x4608.size inb_S8x4608_S8x4608_0_0, dgA (arg9.view.read (Elt F) X9) (arg11.view.read (Elt F) X11) (arg15.view.read (Elt F) X15) g 20 (le_refl _)⟩ : View.Piece (Elt F) S8x4608 .f32) :: tl :=
  five c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 J (arg16.view.writes (Elt F) J (p1.2)) (arg16.view.writes (Elt F) J (p2.2 ++ (p1.2))) (arg16.view.writes (Elt F) J (p3.2 ++ (p2.2 ++ (p1.2)))) (arg16.view.writes (Elt F) J (p4.2 ++ (p3.2 ++ (p2.2 ++ (p1.2))))) g hg p1 e1
    (fun w tl h => (congrArg (fun l => arg16.view.read (Elt F) (arg16.view.writes (Elt F) J (l))) h).trans (View.read_writes_full arg16.view J (off := ![0, 0]) inb_S8x4608_S8x4608_0_0 w (tl))) p2 e2
    (fun w tl h => (congrArg (fun l => arg16.view.read (Elt F) (arg16.view.writes (Elt F) J (l ++ (p1.2)))) h).trans (View.read_writes_full arg16.view J (off := ![0, 0]) inb_S8x4608_S8x4608_0_0 w (tl ++ (p1.2)))) p3 e3
    (fun w tl h => (congrArg (fun l => arg16.view.read (Elt F) (arg16.view.writes (Elt F) J (l ++ (p2.2 ++ (p1.2))))) h).trans (View.read_writes_full arg16.view J (off := ![0, 0]) inb_S8x4608_S8x4608_0_0 w (tl ++ (p2.2 ++ (p1.2))))) p4 e4
    (fun w tl h => (congrArg (fun l => arg16.view.read (Elt F) (arg16.view.writes (Elt F) J (l ++ (p3.2 ++ (p2.2 ++ (p1.2)))))) h).trans (View.read_writes_full arg16.view J (off := ![0, 0]) inb_S8x4608_S8x4608_0_0 w (tl ++ (p3.2 ++ (p2.2 ++ (p1.2)))))) p5 e5

/-- The last chunks of attention leave the same stores into the accumulator, whichever case the point is in (C). -/
theorem runC_acc  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : ¬k0_cond4 i = 1#1)
    (x6 : Vec F S5x6x128x128 .fp8e5m2) (x7 : Vec F S6x1x128 .f32) (x8 : Vec F S6x4608x128 .fp8e4m3) (x9 : Vec F S5x128x8 .f32) (x15 : Vec F S640x4608 .f32)   : (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 x6 x7 x8 x9 x15).1 = runD.sl.H15_9 c arg6 harg6 arg7 harg7 arg8 harg8 arg9 harg9 arg15 harg15 arg17 x6 x7 x8 x9 x15 := rfl

/-- The last chunks of attention leave the same stores into the accumulator, whichever case the point is in (D). -/
theorem runD_acc  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : cond5 i) (h6 : ¬k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (f13 : BufTy.Contents (Elt F) arg13.view.ty)  : (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 f13).1 = runD.sl.H15_9 c arg6 harg6 arg7 harg7 arg8 harg8 arg9 harg9 arg15 harg15 arg17 x6 x7 x8 x9 x15 := rfl

/-- The last chunks of attention leave the same stores into the accumulator, whichever case the point is in (E). -/
theorem runE_acc  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : ¬cond5 i) (h6 : ¬k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (x16 : Vec F S8x4608 .f32) (f13 : BufTy.Contents (Elt F) arg13.view.ty)  : (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).1 = runD.sl.H15_9 c arg6 harg6 arg7 harg7 arg8 harg8 arg9 harg9 arg15 harg15 arg17 x6 x7 x8 x9 x15 := rfl

/-- The last chunks of attention leave the same stores into the accumulator, whichever case the point is in (F). -/
theorem runF_acc  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : ¬cond5 i) (h6 : k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (x16 : Vec F S8x4608 .f32) (f13 : BufTy.Contents (Elt F) arg13.view.ty)  : (runF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).1 = runD.sl.H15_9 c arg6 harg6 arg7 harg7 arg8 harg8 arg9 harg9 arg15 harg15 arg17 x6 x7 x8 x9 x15 := rfl

/-- What the last point of a tile leaves in the result's block and the partial sums (case D). -/
theorem runD_rows  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : cond5 i) (h6 : ¬k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (f13 : BufTy.Contents (Elt F) arg13.view.ty)  :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 f13).2.2.2.1 = arg13.view.writes (Elt F) f13 (rowPieces x9 x10 x11 x12 (arg15.view.read (Elt F) (arg15.view.writes (Elt F) arg15.view.junk (runD.sl.H15_9 c arg6 harg6 arg7 harg7 arg8 harg8 arg9 harg9 arg15 harg15 arg17 x6 x7 x8 x9 x15))) 20 (le_refl _))
      ∧ ∃ tl, (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 f13).2.2.1 = (⟨Rect.unit (s := S8x4608) ![0, 0] S8x4608.size inb_S8x4608_S8x4608_0_0, dgA x9 x11 (arg15.view.read (Elt F) (arg15.view.writes (Elt F) arg15.view.junk (runD.sl.H15_9 c arg6 harg6 arg7 harg7 arg8 harg8 arg9 harg9 arg15 harg15 arg17 x6 x7 x8 x9 x15))) k0_pay7 20 (le_refl _)⟩ : View.Piece (Elt F) S8x4608 .f32) :: tl := by
  have e := fiveD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 (harg9.unread x9) (harg10.unread x10) (harg11.unread x11) (harg12.unread x12)
    (arg15.view.writes (Elt F) arg15.view.junk (runD.sl.H15_9 c arg6 harg6 arg7 harg7 arg8 harg8 arg9 harg9 arg15 harg15 arg17 x6 x7 x8 x9 x15)) f13 arg16.view.junk runD.sl.H16_1 (k0_pay7) (View.read_writes_full arg16.view _ (off := ![0, 0]) inb_S8x4608_S8x4608_0_0 _ _) _ rfl _ rfl _ rfl _ rfl _ rfl
  rw [harg9.read_unread, harg10.read_unread, harg11.read_unread, harg12.read_unread] at e
  exact ⟨congrArg (arg13.view.writes (Elt F) f13) e.1, e.2.choose ++ _, congrArg (· ++ _) e.2.choose_spec⟩

/-- What the last point of a tile leaves in the result's block and the partial sums (case E). -/
theorem runE_rows  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : ¬cond5 i) (h6 : ¬k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (x16 : Vec F S8x4608 .f32) (f13 : BufTy.Contents (Elt F) arg13.view.ty)  :
    (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).2.2.2.1 = arg13.view.writes (Elt F) f13 (rowPieces x9 x10 x11 x12 (arg15.view.read (Elt F) (arg15.view.writes (Elt F) arg15.view.junk (runD.sl.H15_9 c arg6 harg6 arg7 harg7 arg8 harg8 arg9 harg9 arg15 harg15 arg17 x6 x7 x8 x9 x15))) 20 (le_refl _))
      ∧ ∃ tl, (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).2.2.1 = (⟨Rect.unit (s := S8x4608) ![0, 0] S8x4608.size inb_S8x4608_S8x4608_0_0, dgA x9 x11 (arg15.view.read (Elt F) (arg15.view.writes (Elt F) arg15.view.junk (runD.sl.H15_9 c arg6 harg6 arg7 harg7 arg8 harg8 arg9 harg9 arg15 harg15 arg17 x6 x7 x8 x9 x15))) x16 20 (le_refl _)⟩ : View.Piece (Elt F) S8x4608 .f32) :: tl := by
  have e := fiveE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 (harg9.unread x9) (harg10.unread x10) (harg11.unread x11) (harg12.unread x12)
    (arg15.view.writes (Elt F) arg15.view.junk (runD.sl.H15_9 c arg6 harg6 arg7 harg7 arg8 harg8 arg9 harg9 arg15 harg15 arg17 x6 x7 x8 x9 x15)) f13 (harg16.unread x16) (x16) (harg16.read_unread x16) _ rfl _ rfl _ rfl _ rfl _ rfl
  rw [harg9.read_unread, harg10.read_unread, harg11.read_unread, harg12.read_unread] at e
  exact ⟨congrArg (arg13.view.writes (Elt F) f13) e.1, e.2.choose ++ _, congrArg (· ++ _) e.2.choose_spec⟩

/-- What the last point of a tile leaves in the result's block and the partial sums (case F). -/
theorem runF_rows  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : ¬cond5 i) (h6 : k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (x16 : Vec F S8x4608 .f32) (f13 : BufTy.Contents (Elt F) arg13.view.ty)  :
    (runF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).2.2.2.2.1 = arg13.view.writes (Elt F) f13 (rowPieces x9 x10 x11 x12 (arg15.view.read (Elt F) (arg15.view.writes (Elt F) arg15.view.junk (runD.sl.H15_9 c arg6 harg6 arg7 harg7 arg8 harg8 arg9 harg9 arg15 harg15 arg17 x6 x7 x8 x9 x15))) 20 (le_refl _))
      ∧ ∃ tl, (runF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).2.2.1 = (⟨Rect.unit (s := S8x4608) ![0, 0] S8x4608.size inb_S8x4608_S8x4608_0_0, dgA x9 x11 (arg15.view.read (Elt F) (arg15.view.writes (Elt F) arg15.view.junk (runD.sl.H15_9 c arg6 harg6 arg7 harg7 arg8 harg8 arg9 harg9 arg15 harg15 arg17 x6 x7 x8 x9 x15))) x16 20 (le_refl _)⟩ : View.Piece (Elt F) S8x4608 .f32) :: tl := by
  have e := fiveE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 (harg9.unread x9) (harg10.unread x10) (harg11.unread x11) (harg12.unread x12)
    (arg15.view.writes (Elt F) arg15.view.junk (runD.sl.H15_9 c arg6 harg6 arg7 harg7 arg8 harg8 arg9 harg9 arg15 harg15 arg17 x6 x7 x8 x9 x15)) f13 (harg16.unread x16) (x16) (harg16.read_unread x16) _ rfl _ rfl _ rfl _ rfl _ rfl
  rw [harg9.read_unread, harg10.read_unread, harg11.read_unread, harg12.read_unread] at e
  exact ⟨congrArg (arg13.view.writes (Elt F) f13) e.1, e.2.choose ++ _, congrArg (· ++ _) e.2.choose_spec⟩

/-- At the very last point the scale's gradient is the column sums of the partial sums. -/
theorem runF_sum  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : ¬cond5 i) (h6 : k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (x16 : Vec F S8x4608 .f32) (f13 : BufTy.Contents (Elt F) arg13.view.ty)  :
    (runF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).2.2.2.1 = [⟨Rect.unit (s := S1x4608) ![0, 0] S1x4608.size inb_S1x4608_S1x4608_0_0, k0_pay13 (dgA x9 x11 (arg15.view.read (Elt F) (arg15.view.writes (Elt F) arg15.view.junk (runD.sl.H15_9 c arg6 harg6 arg7 harg7 arg8 harg8 arg9 harg9 arg15 harg15 arg17 x6 x7 x8 x9 x15))) x16 20 (le_refl _))⟩] := by
  obtain ⟨tl, e⟩ := (runF_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).2
  have e' : arg16.view.readAt (Elt F) (Rect.unit (s := S8x4608) ![0, 0] S8x4608.size inb_S8x4608_S8x4608_0_0).toLoadRect (arg16.view.writes (Elt F) (harg16.unread x16) (runF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).2.2.1) = dgA x9 x11 (arg15.view.read (Elt F) (arg15.view.writes (Elt F) arg15.view.junk (runD.sl.H15_9 c arg6 harg6 arg7 harg7 arg8 harg8 arg9 harg9 arg15 harg15 arg17 x6 x7 x8 x9 x15))) x16 20 (le_refl _) := by
    rw [e]; exact View.readAt_writes_full arg16.view _ (off := ![0, 0]) (off' := ![0, 0]) inb_S8x4608_S8x4608_0_0 inb_S8x4608_S8x4608_0_0 _ _
  exact congrArg (fun w => [(⟨Rect.unit (s := S1x4608) ![0, 0] S1x4608.size inb_S1x4608_S1x4608_0_0, k0_pay13 w⟩ : View.Piece (Elt F) S1x4608 .f32)]) e'

end Cert.DxIdeal.Run

end
-- ==== Proof.DxRunB.lean ====
module

public import proofs.«01_k».proof.Proof.Gen.DxIdeal.Frame
public import proofs.«01_k».proof.Proof.Gen.DxIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.DxRunA

@[expose] public section

set_option maxRecDepth 16384

noncomputable section

namespace Cert.DxIdeal.Run

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a later chunk of the mlp: what it stores over the accumulator and in the operand scratch. -/
def runB (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : cond2 i) (h3 : ¬cond3 i) (h4 : ¬k0_cond4 i = 1#1)
    (x2 : Vec F S5x128x768 .fp8e5m2) (x3 : Vec F S5x128x1 .f32) (x4 : Vec F S1x768 .f32) (x5 : Vec F S4608x768 .fp8e4m3) (x15 : Vec F S640x4608 .f32)  :
    Σ' (L15 : List (View.Piece (Elt F) S640x4608 .f32)), { L17 : List (View.Piece (Elt F) S640x768 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg15 fullShare x15 ∗ (∃ d, owns (c : Thread nD τ) arg17 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f2, %hf2, H2⟩, ⟨%f3, %hf3, H3⟩, ⟨%f4, %hf4, H4⟩, ⟨%f5, %hf5, H5⟩, ⟨%f15, %hf15, H15⟩, ⟨%d17, %f17, -, H17⟩, Hk⟩
    obtain rfl := harg2.eq_unread hf2; obtain rfl := harg3.eq_unread hf3; obtain rfl := harg4.eq_unread hf4; obtain rfl := harg5.eq_unread hf5; obtain rfl := harg15.eq_unread hf15
    sl_exec (disch := first | sl_exact h1 | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H15]
    · iexists _; iexact H15
    iexists _; iexact H17

end Cert.DxIdeal.Run

end
-- ==== Proof.DxFrame.lean ====
module

public import proofs.«01_k».proof.Proof.DxPoint
public import proofs.«01_k».proof.Proof.DxRunA
public import proofs.«01_k».proof.Proof.DxRunB
public import proofs.«01_k».proof.Proof.Gen.DxIdeal.Frame
public import Idealize.ShloMosaic.Lib.Claim

@[expose] public section

set_option maxRecDepth 16384

noncomputable section

namespace Cert.DxIdeal.Run

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, in closed form -/

/-- The first chunk: the first of a tile's 34 points. -/
theorem hcond1 : ∀ t : Fin cfg0.N, cond1 (grid0.coords t) ↔ t.val % 34 = 0 := (by decide +kernel : ∀ t : Fin grid0.N, cond1 (grid0.coords t) ↔ t.val % 34 = 0)
/-- The mlp's later chunks: points 1 to 15. -/
theorem hcond2 : ∀ t : Fin cfg0.N, cond2 (grid0.coords t) ↔ (0 < t.val % 34 ∧ t.val % 34 < 16) := (by decide +kernel : ∀ t : Fin grid0.N, cond2 (grid0.coords t) ↔ (0 < t.val % 34 ∧ t.val % 34 < 16))
/-- The attention's chunks: points 16 to 33. -/
theorem hcond3 : ∀ t : Fin cfg0.N, cond3 (grid0.coords t) ↔ 16 ≤ t.val % 34 := (by decide +kernel : ∀ t : Fin grid0.N, cond3 (grid0.coords t) ↔ 16 ≤ t.val % 34)
/-- The last point of a tile. -/
theorem hcond4 : ∀ t : Fin cfg0.N, k0_cond4 (grid0.coords t) = 1#1 ↔ t.val % 34 = 33 := (by decide +kernel : ∀ t : Fin grid0.N, k0_cond4 (grid0.coords t) = 1#1 ↔ t.val % 34 = 33)
/-- The first tile. -/
theorem hcond5 : ∀ t : Fin cfg0.N, cond5 (grid0.coords t) ↔ t.val < 34 := (by decide +kernel : ∀ t : Fin grid0.N, cond5 (grid0.coords t) ↔ t.val < 34)
/-- The last tile. -/
theorem hcond6 : ∀ t : Fin cfg0.N, k0_cond6 (grid0.coords t) = 1#1 ↔ 68 ≤ t.val := (by decide +kernel : ∀ t : Fin grid0.N, k0_cond6 (grid0.coords t) = 1#1 ↔ 68 ≤ t.val)

/-- The result's window is idle but at the last point of a tile. -/
theorem idle11 : ∀ t : Fin cfg0.N, cfg0.idle 11 (cfg0.grid.coords t) = !decide (t.val % 34 = 33) := (by decide +kernel : ∀ t : Fin grid0.N, idle0 11 (grid0.coords t) = !decide (t.val % 34 = 33))
/-- The scale's gradient's window is idle but at the grid's last point. -/
theorem idle12 : ∀ t : Fin cfg0.N, cfg0.idle 12 (cfg0.grid.coords t) = !decide (t.val % 102 = 101) := (by decide +kernel : ∀ t : Fin grid0.N, idle0 12 (grid0.coords t) = !decide (t.val % 102 = 101))

/-! ## The staging buffers and scratch, named -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)
abbrev ms0_8 (t : Fin cfg0.N) := win0_8.stage (cfg0.slots t 8)
abbrev hs0_8 (t : Fin cfg0.N) : (ms0_8 t).IsWhole := hstage0_8 ((cfg0.slots t 8).cast nbuf0_8)
abbrev ms0_9 (t : Fin cfg0.N) := win0_9.stage (cfg0.slots t 9)
abbrev hs0_9 (t : Fin cfg0.N) : (ms0_9 t).IsWhole := hstage0_9 ((cfg0.slots t 9).cast nbuf0_9)
abbrev ms0_10 (t : Fin cfg0.N) := win0_10.stage (cfg0.slots t 10)
abbrev hs0_10 (t : Fin cfg0.N) : (ms0_10 t).IsWhole := hstage0_10 ((cfg0.slots t 10).cast nbuf0_10)
abbrev ms0_11 (t : Fin cfg0.N) := win0_11.stage (cfg0.slots t 11)
abbrev hs0_11 (t : Fin cfg0.N) : (ms0_11 t).IsWhole := hstage0_11 ((cfg0.slots t 11).cast nbuf0_11)
abbrev ms0_12 (t : Fin cfg0.N) := win0_12.stage (cfg0.slots t 12)
abbrev hs0_12 (t : Fin cfg0.N) : (ms0_12 t).IsWhole := hstage0_12 ((cfg0.slots t 12).cast nbuf0_12)
abbrev scM0_0 : Memref sig .tc .vmem S640x4608 .f32 := Memref.whole cc0_scratch0
abbrev scM0_1 : Memref sig .tc .vmem S8x4608 .f32 := Memref.whole cc0_scratch1
abbrev scM0_2 : Memref sig .tc .vmem S640x768 .bf16 := Memref.whole cc0_scratch2
abbrev VS0_0 : View sig .tc .vmem S640x4608 .f32 := (scM0_0).view
abbrev VS0_1 : View sig .tc .vmem S8x4608 .f32 := (scM0_1).view
/-- One staging buffer of the result, through which its contents are stated. -/
abbrev VO0_11 : View sig .tc .vmem S5x128x4608 .bf16 := (Memref.whole cc0_stg11_0 : Memref sig .tc .vmem S5x128x4608 .bf16).view

theorem PhiA0_eq (c : Dev nD) : Pipeline.ΦA spec0 c = (iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) : sProp 𝕄) := by
  unfold Pipeline.ΦA; rw [scopedRest0_eq]
  simp only [scM0_0, scM0_1, scM0_2, owns_whole]; try rfl

/-- Case A's nine stores tile the accumulator. -/
theorem coverA (c : Dev nD) (t : Fin cfg0.N) (h1 : cond1 (grid0.coords t)) (h2 : ¬cond2 (grid0.coords t)) (h3 : ¬cond3 (grid0.coords t)) (h4 : ¬k0_cond4 (grid0.coords t) = 1#1) (y : S640x4608.Idx) : ∃ pc ∈ (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h1 h2 h3 h4 (iblk m c 0 t) (iblk m c 1 t) (iblk m c 2 t) (iblk m c 3 t)).1, y ∈ pc.1.set :=
  View.cover_of_tiledL (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h1 h2 h3 h4 (iblk m c 0 t) (iblk m c 1 t) (iblk m c 2 t) (iblk m c 3 t)).1 S640x512.size (by sl_kernel_rfl) y

/-- Case B's nine stores tile the accumulator. -/
theorem coverB (c : Dev nD) (t : Fin cfg0.N) (h1 : ¬cond1 (grid0.coords t)) (h2 : cond2 (grid0.coords t)) (h3 : ¬cond3 (grid0.coords t)) (h4 : ¬k0_cond4 (grid0.coords t) = 1#1) (x15 : Vec F S640x4608 .f32) (y : S640x4608.Idx) : ∃ pc ∈ (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h1 h2 h3 h4 (iblk m c 0 t) (iblk m c 1 t) (iblk m c 2 t) (iblk m c 3 t) x15).1, y ∈ pc.1.set :=
  View.cover_of_tiledL (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h1 h2 h3 h4 (iblk m c 0 t) (iblk m c 1 t) (iblk m c 2 t) (iblk m c 3 t) x15).1 S640x512.size (by sl_kernel_rfl) y

/-- Case C's nine stores tile the accumulator. -/
theorem coverC (c : Dev nD) (t : Fin cfg0.N)  (x15 : Vec F S640x4608 .f32) (y : S640x4608.Idx) : ∃ pc ∈ (runD.sl.H15_9 c (ms0_4 t) (hs0_4 t) (ms0_5 t) (hs0_5 t) (ms0_6 t) (hs0_6 t) (ms0_7 t) (hs0_7 t) scM0_0 (Memref.isWhole_whole _) scM0_2 (iblk m c 4 t) (iblk m c 5 t) (iblk m c 6 t) (iblk m c 7 t) x15), y ∈ pc.1.set :=
  View.cover_of_tiledL (runD.sl.H15_9 c (ms0_4 t) (hs0_4 t) (ms0_5 t) (hs0_5 t) (ms0_6 t) (hs0_6 t) (ms0_7 t) (hs0_7 t) scM0_0 (Memref.isWhole_whole _) scM0_2 (iblk m c 4 t) (iblk m c 5 t) (iblk m c 6 t) (iblk m c 7 t) x15) S640x512.size (by sl_kernel_rfl) y

/-- The twenty groups' rows tile the result's block. -/
theorem coverRows (x9 : Vec F S5x128x8 .f32) (x10 : Vec F S1x4608 .f32) (x11 : Vec F S5x128x4608 .fp8e4m3) (x12 : Vec F S5x128x4608 .fp8e5m2) (x15 : Vec F S640x4608 .f32) (y : S5x128x4608.Idx) :
    ∃ pc ∈ rowPieces x9 x10 x11 x12 x15 20 (le_refl _), y ∈ pc.1.set :=
  View.cover_of_tiledL (rowPieces x9 x10 x11 x12 x15 20 (le_refl _)) S1x32x4608.size (by sl_kernel_rfl) y

/-! ## What the accumulators hold, point by point -/

/-- The accumulator after point `t`, which finds it at `x15`. -/
def accOut (c : Dev nD) (t : Fin cfg0.N) (x15 : Vec F S640x4608 .f32) : Vec F S640x4608 .f32 :=
  if h0 : t.val % 34 = 0 then VS0_0.read (Elt F) (VS0_0.writes (Elt F) VS0_0.junk (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond1 t).mpr h0) (fun h => by have := (hcond2 t).mp h; omega) (fun h => by have := (hcond3 t).mp h; omega) (fun h => by have := (hcond4 t).mp h; omega) (iblk m c 0 t) (iblk m c 1 t) (iblk m c 2 t) (iblk m c 3 t)).1)
  else if h1 : t.val % 34 < 16 then VS0_0.read (Elt F) (VS0_0.writes (Elt F) VS0_0.junk (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond1 t).mp h)) ((hcond2 t).mpr ⟨by omega, h1⟩) (fun h => by have := (hcond3 t).mp h; omega) (fun h => by have := (hcond4 t).mp h; omega) (iblk m c 0 t) (iblk m c 1 t) (iblk m c 2 t) (iblk m c 3 t) x15).1)
  else VS0_0.read (Elt F) (VS0_0.writes (Elt F) VS0_0.junk (runD.sl.H15_9 c (ms0_4 t) (hs0_4 t) (ms0_5 t) (hs0_5 t) (ms0_6 t) (hs0_6 t) (ms0_7 t) (hs0_7 t) scM0_0 (Memref.isWhole_whole _) scM0_2 (iblk m c 4 t) (iblk m c 5 t) (iblk m c 6 t) (iblk m c 7 t) x15))

/-- The partial sums for the scale's gradient after point `t`, which finds them at `x16`, the accumulator then at `a`. -/
def dgOut (c : Dev nD) (t : Fin cfg0.N) (a : Vec F S640x4608 .f32) (x16 : Vec F S8x4608 .f32) : Vec F S8x4608 .f32 :=
  if t.val % 34 = 33 then dgA (iblk m c 7 t) (iblk m c 9 t) a (if t.val < 34 then k0_pay7 else x16) 20 (le_refl _) else x16

/-- The two accumulators before point `n`. -/
def stB (c : Dev nD) : (n : ℕ) → n ≤ cfg0.N → Vec F S640x4608 .f32 × Vec F S8x4608 .f32
  | 0, _ => (VS0_0.read (Elt F) VS0_0.junk, VS0_1.read (Elt F) VS0_1.junk)
  | n + 1, h => (accOut m c ⟨n, h⟩ (stB c n (Nat.le_of_succ_le h)).1,
      dgOut m c ⟨n, h⟩ (accOut m c ⟨n, h⟩ (stB c n (Nat.le_of_succ_le h)).1) (stB c n (Nat.le_of_succ_le h)).2)

/-- The invariant before point `n`: the accumulators at their contents (anything before they are first stored), the rest at some state. -/
def PhiS (c : Dev nD) (n : ℕ) (h : n ≤ cfg0.N) : sProp 𝕄 :=
  iprop(iprop((∃ d, iprop(⌜1 ≤ n → d = (stB m c n h).1⌝ ∗ owns (c : Thread nD τ) scM0_0 fullShare d)) ∗ (∃ d, iprop(⌜34 ≤ n → d = (stB m c n h).2⌝ ∗ owns (c : Thread nD τ) scM0_1 fullShare d)) ∗ (∃ d, owns (c : Thread nD τ) scM0_2 fullShare d)) ∗ (∃ r, prngReg c r))

/-! ## The pipeline's proof data -/

/-- The proof data: each input's buffer at its block, the result's and the scale's gradient's at what the accumulators give. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => VO0_11.read (Elt F) (VO0_11.writes (Elt F) VO0_11.junk (rowPieces (iblk m c 7 t) (iblk m c 8 t) (iblk m c 9 t) (iblk m c 10 t) (stB m c (t.val + 1) t.isLt).1 20 (le_refl _)))
    | ⟨12, _⟩ => k0_pay13 (stB m c (t.val + 1) t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = VO0_11.read (Elt F) (VO0_11.writes (Elt F) VO0_11.junk (rowPieces (iblk m c 7 t) (iblk m c 8 t) (iblk m c 9 t) (iblk m c 10 t) (stB m c (t.val + 1) t.isLt).1 20 (le_refl _))) := by dsimp only [dats]
theorem after0_12 (c : Dev nD) (t : Fin cfg0.N) : (dats m 0 c).after 12 t = k0_pay13 (stB m c (t.val + 1) t.isLt).2 := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t ∗ (dats m 0 c).leavesExact 12 t)

theorem leaves0_live (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem leaves1_live (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem leaves2_live (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
theorem leaves3_live (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem leaves4_live (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]
theorem leaves5_live (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]
theorem leaves6_live (c : Dev nD) (t : Fin cfg0.N) : (dats m 0 c).leavesExact 6 t = owns (c : Thread nD τ) (ms0_6 t) fullShare (iblk m c 6 t) := by
  unfold Dat.leavesExact; rw [show cfg0.idle 6 (cfg0.grid.coords t) = false from rfl, after0_6]
theorem leaves7_live (c : Dev nD) (t : Fin cfg0.N) : (dats m 0 c).leavesExact 7 t = owns (c : Thread nD τ) (ms0_7 t) fullShare (iblk m c 7 t) := by
  unfold Dat.leavesExact; rw [show cfg0.idle 7 (cfg0.grid.coords t) = false from rfl, after0_7]
theorem leaves8_live (c : Dev nD) (t : Fin cfg0.N) : (dats m 0 c).leavesExact 8 t = owns (c : Thread nD τ) (ms0_8 t) fullShare (iblk m c 8 t) := by
  unfold Dat.leavesExact; rw [show cfg0.idle 8 (cfg0.grid.coords t) = false from rfl, after0_8]
theorem leaves9_live (c : Dev nD) (t : Fin cfg0.N) : (dats m 0 c).leavesExact 9 t = owns (c : Thread nD τ) (ms0_9 t) fullShare (iblk m c 9 t) := by
  unfold Dat.leavesExact; rw [show cfg0.idle 9 (cfg0.grid.coords t) = false from rfl, after0_9]
theorem leaves10_live (c : Dev nD) (t : Fin cfg0.N) : (dats m 0 c).leavesExact 10 t = owns (c : Thread nD τ) (ms0_10 t) fullShare (iblk m c 10 t) := by
  unfold Dat.leavesExact; rw [show cfg0.idle 10 (cfg0.grid.coords t) = false from rfl, after0_10]
theorem leaves11_idle (c : Dev nD) (t : Fin cfg0.N) (h : ¬t.val % 34 = 33) :
    (dats m 0 c).leavesExact 11 t = iprop(∃ d, owns (c : Thread nD τ) (ms0_11 t) fullShare ((dats m 0 c).before 11 t d)) :=
  (dats m 0 c).leavesExact_idle 11 t ((idle11 t).trans (by rw [decide_eq_false h]; rfl)) (Bool.eq_false_iff.mpr fun hf => h ((flush0_11 t).mp hf))
theorem leaves12_idle (c : Dev nD) (t : Fin cfg0.N) (h : ¬t.val % 102 = 101) :
    (dats m 0 c).leavesExact 12 t = iprop(∃ d, owns (c : Thread nD τ) (ms0_12 t) fullShare ((dats m 0 c).before 12 t d)) :=
  (dats m 0 c).leavesExact_idle 12 t ((idle12 t).trans (by rw [decide_eq_false h]; rfl)) (Bool.eq_false_iff.mpr fun hf => h ((flush0_12 t).mp hf))
theorem leaves11_live (c : Dev nD) (t : Fin cfg0.N) (h : t.val % 34 = 33) :
    (dats m 0 c).leavesExact 11 t = owns (c : Thread nD τ) (ms0_11 t) fullShare (VO0_11.read (Elt F) (VO0_11.writes (Elt F) VO0_11.junk (rowPieces (iblk m c 7 t) (iblk m c 8 t) (iblk m c 9 t) (iblk m c 10 t) (stB m c (t.val + 1) t.isLt).1 20 (le_refl _)))) := by
  unfold Dat.leavesExact
  rw [show cfg0.idle 11 (cfg0.grid.coords t) = false from (idle11 t).trans (by rw [decide_eq_true h]; rfl), after0_11]
theorem leaves12_live (c : Dev nD) (t : Fin cfg0.N) (h : t.val % 102 = 101) :
    (dats m 0 c).leavesExact 12 t = owns (c : Thread nD τ) (ms0_12 t) fullShare (k0_pay13 (stB m c (t.val + 1) t.isLt).2) := by
  unfold Dat.leavesExact
  rw [show cfg0.idle 12 (cfg0.grid.coords t) = false from (idle12 t).trans (by rw [decide_eq_true h]; rfl), after0_12]

theorem owns_some (c : Dev nD) {sh : Shape} {e : EltTy} (a : Memref sig .tc .vmem sh e) (X : sh.Idx → Elt F e) :
    owns (c : Thread nD τ) a fullShare X ⊢ (iprop(∃ f, a.view.loc (c : Thread nD τ) ↦[a.view.set]{fullShare} f) : sProp 𝕄) := by
  unfold owns; iintro ⟨%f, -, H⟩; iexists f; iexact H

theorem stB_succ_fst (c : Dev nD) (t : Fin cfg0.N) : (stB m c (t.val + 1) t.isLt).1 = accOut m c t (stB m c t.val (Nat.le_of_lt t.isLt)).1 := rfl
theorem stB_succ_snd (c : Dev nD) (t : Fin cfg0.N) : (stB m c (t.val + 1) t.isLt).2 = dgOut m c t (stB m c (t.val + 1) t.isLt).1 (stB m c t.val (Nat.le_of_lt t.isLt)).2 := rfl

set_option maxHeartbeats 6400000 in
/-- The body at a point of case A. -/
theorem bodyA (c : Dev nD) (t : Fin cfg0.N) (h0 : t.val % 34 = 0) :
    bodyPre m c t ⊢ wp frame (wpE (defs₀ (F := F)) Variants.none c none) Set.univ (bodyAt0 t) (fun _ => bodyPost m c t) := by
  have hN : t.val < 102 := lt_of_lt_of_eq t.isLt (show cfg0.N = 102 from N_0)
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, leaves0_live, leaves1_live, leaves2_live, leaves3_live, leaves4_live, leaves5_live, leaves6_live, leaves7_live, leaves8_live, leaves9_live, leaves10_live]
  rw [show (dats m 0 c).Φ t.succ = PhiS m c (t.val + 1) t.isLt from rfl, PhiS_castSucc m c t]
  rw [leaves11_idle m c t (by omega), leaves12_idle m c t (by omega)]
  unfold PhiS
  iintro ⟨⟨⟨⟨%a, %ha, HS0⟩, ⟨%g, %hg, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond1 t).mpr h0) (fun h => by have := (hcond2 t).mp h; omega) (fun h => by have := (hcond3 t).mp h; omega) (fun h => by have := (hcond4 t).mp h; omega) (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [HS0]; · iexists _; iexact HS0
  isplitl [HS2]; · iexact HS2
  iintro ⟨H0, H1, H2, H3, ⟨%e0, HS0⟩, ⟨%e2, HS2⟩⟩
  have eacc : (stB m c (t.val + 1) t.isLt).1 = _ := (stB_succ_fst m c t).trans (dif_pos h0)
  isplitl [HS0 HS1 HS2 Hg]
  · isplitl [HS0 HS1 HS2]
    · isplitl [HS0]
      · iexists (stB m c (t.val + 1) t.isLt).1; isplitr
        swap
        · unfold owns; iexists _; isplitr
          swap; · iexact HS0
          ipureintro; exact ((View.read_writes_of_cover _ _ _ _ _ (coverA m c t ((hcond1 t).mpr h0) (fun h => by have := (hcond2 t).mp h; omega) (fun h => by have := (hcond3 t).mp h; omega) (fun h => by have := (hcond4 t).mp h; omega)))).trans eacc.symm
        ipureintro; exact fun _ => rfl
      isplitl [HS1]
      · iexists g; isplitr
        swap; · iexact HS1
        ipureintro; intro h; exact (hg (by omega)).trans ((stB_succ_snd m c t).trans (if_neg (by omega))).symm
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 6400000 in
/-- The body at a point of case B. -/
theorem bodyB (c : Dev nD) (t : Fin cfg0.N) (h0 : ¬t.val % 34 = 0) (h1 : t.val % 34 < 16) :
    bodyPre m c t ⊢ wp frame (wpE (defs₀ (F := F)) Variants.none c none) Set.univ (bodyAt0 t) (fun _ => bodyPost m c t) := by
  have hN : t.val < 102 := lt_of_lt_of_eq t.isLt (show cfg0.N = 102 from N_0)
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, leaves0_live, leaves1_live, leaves2_live, leaves3_live, leaves4_live, leaves5_live, leaves6_live, leaves7_live, leaves8_live, leaves9_live, leaves10_live]
  rw [show (dats m 0 c).Φ t.succ = PhiS m c (t.val + 1) t.isLt from rfl, PhiS_castSucc m c t]
  rw [leaves11_idle m c t (by omega), leaves12_idle m c t (by omega)]
  unfold PhiS
  iintro ⟨⟨⟨⟨%a, %ha, HS0⟩, ⟨%g, %hg, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
  obtain rfl := ha (by omega)
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond1 t).mp h)) ((hcond2 t).mpr ⟨by omega, h1⟩) (fun h => by have := (hcond3 t).mp h; omega) (fun h => by have := (hcond4 t).mp h; omega) (iblk m c 0 t) (iblk m c 1 t) (iblk m c 2 t) (iblk m c 3 t) (stB m c t.val (Nat.le_of_lt t.isLt)).1).2.2 Set.univ _)
  isplitl [H0]; · iexact H0
  isplitl [H1]; · iexact H1
  isplitl [H2]; · iexact H2
  isplitl [H3]; · iexact H3
  isplitl [HS0]; · iexact HS0
  isplitl [HS2]; · iexact HS2
  iintro ⟨H0, H1, H2, H3, ⟨%e0, HS0⟩, ⟨%e2, HS2⟩⟩
  have eacc : (stB m c (t.val + 1) t.isLt).1 = _ := (stB_succ_fst m c t).trans ((dif_neg h0).trans (dif_pos h1))
  isplitl [HS0 HS1 HS2 Hg]
  · isplitl [HS0 HS1 HS2]
    · isplitl [HS0]
      · iexists (stB m c (t.val + 1) t.isLt).1; isplitr
        swap
        · unfold owns; iexists _; isplitr
          swap; · iexact HS0
          ipureintro; exact ((View.read_writes_of_cover _ _ _ _ _ (coverB m c t (fun h => h0 ((hcond1 t).mp h)) ((hcond2 t).mpr ⟨by omega, h1⟩) (fun h => by have := (hcond3 t).mp h; omega) (fun h => by have := (hcond4 t).mp h; omega) _))).trans eacc.symm
        ipureintro; exact fun _ => rfl
      isplitl [HS1]
      · iexists g; isplitr
        swap; · iexact HS1
        ipureintro; intro h; exact (hg (by omega)).trans ((stB_succ_snd m c t).trans (if_neg (by omega))).symm
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 6400000 in
/-- The body at a point of case C. -/
theorem bodyC (c : Dev nD) (t : Fin cfg0.N) (h0 : ¬t.val % 34 = 0) (h1 : ¬t.val % 34 < 16) (h2 : ¬t.val % 34 = 33) :
    bodyPre m c t ⊢ wp frame (wpE (defs₀ (F := F)) Variants.none c none) Set.univ (bodyAt0 t) (fun _ => bodyPost m c t) := by
  have hN : t.val < 102 := lt_of_lt_of_eq t.isLt (show cfg0.N = 102 from N_0)
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, leaves0_live, leaves1_live, leaves2_live, leaves3_live, leaves4_live, leaves5_live, leaves6_live, leaves7_live, leaves8_live, leaves9_live, leaves10_live]
  rw [show (dats m 0 c).Φ t.succ = PhiS m c (t.val + 1) t.isLt from rfl, PhiS_castSucc m c t]
  rw [leaves11_idle m c t (by omega), leaves12_idle m c t (by omega)]
  unfold PhiS
  iintro ⟨⟨⟨⟨%a, %ha, HS0⟩, ⟨%g, %hg, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
  obtain rfl := ha (by omega)
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) (fun h => by have := (hcond4 t).mp h; omega) (iblk m c 4 t) (iblk m c 5 t) (iblk m c 6 t) (iblk m c 7 t) (stB m c t.val (Nat.le_of_lt t.isLt)).1).2.2 Set.univ _)
  isplitl [H4]; · iexact H4
  isplitl [H5]; · iexact H5
  isplitl [H6]; · iexact H6
  isplitl [H7]; · iexact H7
  isplitl [HS0]; · iexact HS0
  isplitl [HS2]; · iexact HS2
  iintro ⟨H4, H5, H6, H7, ⟨%e0, HS0⟩, ⟨%e2, HS2⟩⟩
  have eacc : (stB m c (t.val + 1) t.isLt).1 = _ := (stB_succ_fst m c t).trans ((dif_neg (by omega)).trans (dif_neg (by omega)))
  isplitl [HS0 HS1 HS2 Hg]
  · isplitl [HS0 HS1 HS2]
    · isplitl [HS0]
      · iexists (stB m c (t.val + 1) t.isLt).1; isplitr
        swap
        · unfold owns; iexists _; isplitr
          swap; · iexact HS0
          ipureintro; exact (((congrArg (fun l => VS0_0.read (Elt F) (VS0_0.writes (Elt F) _ l)) (runC_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) (fun h => by have := (hcond4 t).mp h; omega) (iblk m c 4 t) (iblk m c 5 t) (iblk m c 6 t) (iblk m c 7 t) (stB m c t.val (Nat.le_of_lt t.isLt)).1)).trans (View.read_writes_of_cover _ _ _ _ _ (coverC m c t _)))).trans eacc.symm
        ipureintro; exact fun _ => rfl
      isplitl [HS1]
      · iexists g; isplitr
        swap; · iexact HS1
        ipureintro; intro h; exact (hg (by omega)).trans ((stB_succ_snd m c t).trans (if_neg (by omega))).symm
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 6400000 in
/-- The body at a point of case D. -/
theorem bodyD (c : Dev nD) (t : Fin cfg0.N) (h2 : t.val % 34 = 33) (h3 : t.val < 34) :
    bodyPre m c t ⊢ wp frame (wpE (defs₀ (F := F)) Variants.none c none) Set.univ (bodyAt0 t) (fun _ => bodyPost m c t) := by
  have hN : t.val < 102 := lt_of_lt_of_eq t.isLt (show cfg0.N = 102 from N_0)
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, leaves0_live, leaves1_live, leaves2_live, leaves3_live, leaves4_live, leaves5_live, leaves6_live, leaves7_live, leaves8_live, leaves9_live, leaves10_live]
  rw [show (dats m 0 c).Φ t.succ = PhiS m c (t.val + 1) t.isLt from rfl, PhiS_castSucc m c t]
  rw [leaves11_live m c t (by omega), leaves12_idle m c t (by omega)]
  unfold PhiS
  iintro ⟨⟨⟨⟨%a, %ha, HS0⟩, ⟨%g, %hg, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  obtain rfl := ha (by omega)
  icases (owns_some c _ _) $$ H11 with ⟨%f13, H11⟩
  iapply ((runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) ((hcond5 t).mpr h3) (fun h => by have := (hcond6 t).mp h; omega) (iblk m c 4 t) (iblk m c 5 t) (iblk m c 6 t) (iblk m c 7 t) (iblk m c 8 t) (iblk m c 9 t) (iblk m c 10 t) (stB m c t.val (Nat.le_of_lt t.isLt)).1 f13).2.2.2.2 Set.univ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS2]; · iexact HS2
  isplitl [HS1]; · iexists _; iexact HS1
  isplitl [H11]; · iexact H11
  iintro ⟨H4, H5, H6, H7, H8, H9, H10, ⟨%e0, HS0⟩, ⟨%e2, HS2⟩, ⟨%e1, HS1⟩, H11⟩
  obtain ⟨er, tl, es⟩ := runD_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) ((hcond5 t).mpr h3) (fun h => by have := (hcond6 t).mp h; omega) (iblk m c 4 t) (iblk m c 5 t) (iblk m c 6 t) (iblk m c 7 t) (iblk m c 8 t) (iblk m c 9 t) (iblk m c 10 t) (stB m c t.val (Nat.le_of_lt t.isLt)).1 f13
  have eacc : (stB m c (t.val + 1) t.isLt).1 = _ := (stB_succ_fst m c t).trans ((dif_neg (by omega)).trans (dif_neg (by omega)))
  have edg : (stB m c (t.val + 1) t.isLt).2 = dgA (iblk m c 7 t) (iblk m c 9 t) (stB m c (t.val + 1) t.isLt).1 k0_pay7 20 (le_refl _) :=
    (stB_succ_snd m c t).trans ((if_pos h2).trans (congrArg (fun g => dgA (iblk m c 7 t) (iblk m c 9 t) (stB m c (t.val + 1) t.isLt).1 g 20 (le_refl _)) (if_pos h3)))
  isplitl [HS0 HS1 HS2 Hg]
  · isplitl [HS0 HS1 HS2]
    · isplitl [HS0]
      · iexists (stB m c (t.val + 1) t.isLt).1; isplitr
        swap
        · unfold owns; iexists _; isplitr
          swap; · iexact HS0
          ipureintro; exact (((congrArg (fun l => VS0_0.read (Elt F) (VS0_0.writes (Elt F) _ l)) (runD_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) ((hcond5 t).mpr h3) (fun h => by have := (hcond6 t).mp h; omega) (iblk m c 4 t) (iblk m c 5 t) (iblk m c 6 t) (iblk m c 7 t) (iblk m c 8 t) (iblk m c 9 t) (iblk m c 10 t) (stB m c t.val (Nat.le_of_lt t.isLt)).1 f13)).trans (View.read_writes_of_cover _ _ _ _ _ (coverC m c t _)))).trans eacc.symm
        ipureintro; exact fun _ => rfl
      isplitl [HS1]
      · iexists (stB m c (t.val + 1) t.isLt).2; isplitr
        swap
        · unfold owns; iexists _; isplitr
          swap; · iexact HS1
          ipureintro; rw [edg, eacc]; exact (congrArg (fun l => VS0_1.read (Elt F) (VS0_1.writes (Elt F) _ l)) es).trans (View.read_writes_full VS0_1 _ (off := ![0, 0]) inb_S8x4608_S8x4608_0_0 _ tl)
        ipureintro; exact fun _ => rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; rw [er, eacc]; exact View.read_writes_of_cover _ _ _ _ _ (coverRows _ _ _ _ _)
  iexact H12

set_option maxHeartbeats 6400000 in
/-- The body at a point of case E. -/
theorem bodyE (c : Dev nD) (t : Fin cfg0.N) (h2 : t.val % 34 = 33) (h3 : ¬t.val < 34) (h4 : ¬68 ≤ t.val) :
    bodyPre m c t ⊢ wp frame (wpE (defs₀ (F := F)) Variants.none c none) Set.univ (bodyAt0 t) (fun _ => bodyPost m c t) := by
  have hN : t.val < 102 := lt_of_lt_of_eq t.isLt (show cfg0.N = 102 from N_0)
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, leaves0_live, leaves1_live, leaves2_live, leaves3_live, leaves4_live, leaves5_live, leaves6_live, leaves7_live, leaves8_live, leaves9_live, leaves10_live]
  rw [show (dats m 0 c).Φ t.succ = PhiS m c (t.val + 1) t.isLt from rfl, PhiS_castSucc m c t]
  rw [leaves11_live m c t (by omega), leaves12_idle m c t (by omega)]
  unfold PhiS
  iintro ⟨⟨⟨⟨%a, %ha, HS0⟩, ⟨%g, %hg, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  obtain rfl := ha (by omega)
  obtain rfl := hg (by omega)
  icases (owns_some c _ _) $$ H11 with ⟨%f13, H11⟩
  iapply ((runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) (fun h => h3 ((hcond5 t).mp h)) (fun h => h4 ((hcond6 t).mp h)) (iblk m c 4 t) (iblk m c 5 t) (iblk m c 6 t) (iblk m c 7 t) (iblk m c 8 t) (iblk m c 9 t) (iblk m c 10 t) (stB m c t.val (Nat.le_of_lt t.isLt)).1 (stB m c t.val (Nat.le_of_lt t.isLt)).2 f13).2.2.2.2 Set.univ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS2]; · iexact HS2
  isplitl [HS1]; · iexact HS1
  isplitl [H11]; · iexact H11
  iintro ⟨H4, H5, H6, H7, H8, H9, H10, ⟨%e0, HS0⟩, ⟨%e2, HS2⟩, ⟨%e1, HS1⟩, H11⟩
  obtain ⟨er, tl, es⟩ := runE_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) (fun h => h3 ((hcond5 t).mp h)) (fun h => h4 ((hcond6 t).mp h)) (iblk m c 4 t) (iblk m c 5 t) (iblk m c 6 t) (iblk m c 7 t) (iblk m c 8 t) (iblk m c 9 t) (iblk m c 10 t) (stB m c t.val (Nat.le_of_lt t.isLt)).1 (stB m c t.val (Nat.le_of_lt t.isLt)).2 f13
  have eacc : (stB m c (t.val + 1) t.isLt).1 = _ := (stB_succ_fst m c t).trans ((dif_neg (by omega)).trans (dif_neg (by omega)))
  have edg : (stB m c (t.val + 1) t.isLt).2 = dgA (iblk m c 7 t) (iblk m c 9 t) (stB m c (t.val + 1) t.isLt).1 (stB m c t.val (Nat.le_of_lt t.isLt)).2 20 (le_refl _) :=
    (stB_succ_snd m c t).trans ((if_pos h2).trans (congrArg (fun g => dgA (iblk m c 7 t) (iblk m c 9 t) (stB m c (t.val + 1) t.isLt).1 g 20 (le_refl _)) (if_neg h3)))
  isplitl [HS0 HS1 HS2 Hg]
  · isplitl [HS0 HS1 HS2]
    · isplitl [HS0]
      · iexists (stB m c (t.val + 1) t.isLt).1; isplitr
        swap
        · unfold owns; iexists _; isplitr
          swap; · iexact HS0
          ipureintro; exact (((congrArg (fun l => VS0_0.read (Elt F) (VS0_0.writes (Elt F) _ l)) (runE_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) (fun h => h3 ((hcond5 t).mp h)) (fun h => h4 ((hcond6 t).mp h)) (iblk m c 4 t) (iblk m c 5 t) (iblk m c 6 t) (iblk m c 7 t) (iblk m c 8 t) (iblk m c 9 t) (iblk m c 10 t) (stB m c t.val (Nat.le_of_lt t.isLt)).1 (stB m c t.val (Nat.le_of_lt t.isLt)).2 f13)).trans (View.read_writes_of_cover _ _ _ _ _ (coverC m c t _)))).trans eacc.symm
        ipureintro; exact fun _ => rfl
      isplitl [HS1]
      · iexists (stB m c (t.val + 1) t.isLt).2; isplitr
        swap
        · unfold owns; iexists _; isplitr
          swap; · iexact HS1
          ipureintro; rw [edg, eacc]; exact (congrArg (fun l => VS0_1.read (Elt F) (VS0_1.writes (Elt F) _ l)) es).trans (View.read_writes_full VS0_1 _ (off := ![0, 0]) inb_S8x4608_S8x4608_0_0 _ tl)
        ipureintro; exact fun _ => rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; rw [er, eacc]; exact View.read_writes_of_cover _ _ _ _ _ (coverRows _ _ _ _ _)
  iexact H12

set_option maxHeartbeats 6400000 in
/-- The body at a point of case F. -/
theorem bodyF (c : Dev nD) (t : Fin cfg0.N) (h2 : t.val % 34 = 33) (h3 : ¬t.val < 34) (h4 : 68 ≤ t.val) :
    bodyPre m c t ⊢ wp frame (wpE (defs₀ (F := F)) Variants.none c none) Set.univ (bodyAt0 t) (fun _ => bodyPost m c t) := by
  have hN : t.val < 102 := lt_of_lt_of_eq t.isLt (show cfg0.N = 102 from N_0)
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, leaves0_live, leaves1_live, leaves2_live, leaves3_live, leaves4_live, leaves5_live, leaves6_live, leaves7_live, leaves8_live, leaves9_live, leaves10_live]
  rw [show (dats m 0 c).Φ t.succ = PhiS m c (t.val + 1) t.isLt from rfl, PhiS_castSucc m c t]
  rw [leaves11_live m c t (by omega), leaves12_live m c t (by omega)]
  unfold PhiS
  iintro ⟨⟨⟨⟨%a, %ha, HS0⟩, ⟨%g, %hg, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  obtain rfl := ha (by omega)
  obtain rfl := hg (by omega)
  icases (owns_some c _ _) $$ H11 with ⟨%f13, H11⟩
  iapply ((runF c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) (fun h => h3 ((hcond5 t).mp h)) ((hcond6 t).mpr h4) (iblk m c 4 t) (iblk m c 5 t) (iblk m c 6 t) (iblk m c 7 t) (iblk m c 8 t) (iblk m c 9 t) (iblk m c 10 t) (stB m c t.val (Nat.le_of_lt t.isLt)).1 (stB m c t.val (Nat.le_of_lt t.isLt)).2 f13).2.2.2.2.2 Set.univ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS2]; · iexact HS2
  isplitl [HS1]; · iexact HS1
  isplitl [H12]
  · icases H12 with ⟨%d12, H12⟩; iexists _; iexact H12
  isplitl [H11]; · iexact H11
  iintro ⟨H4, H5, H6, H7, H8, H9, H10, ⟨%e0, HS0⟩, ⟨%e2, HS2⟩, ⟨%e1, HS1⟩, ⟨%e12, H12⟩, H11⟩
  obtain ⟨er, tl, es⟩ := runF_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) (fun h => h3 ((hcond5 t).mp h)) ((hcond6 t).mpr h4) (iblk m c 4 t) (iblk m c 5 t) (iblk m c 6 t) (iblk m c 7 t) (iblk m c 8 t) (iblk m c 9 t) (iblk m c 10 t) (stB m c t.val (Nat.le_of_lt t.isLt)).1 (stB m c t.val (Nat.le_of_lt t.isLt)).2 f13
  have eacc : (stB m c (t.val + 1) t.isLt).1 = _ := (stB_succ_fst m c t).trans ((dif_neg (by omega)).trans (dif_neg (by omega)))
  have edg : (stB m c (t.val + 1) t.isLt).2 = dgA (iblk m c 7 t) (iblk m c 9 t) (stB m c (t.val + 1) t.isLt).1 (stB m c t.val (Nat.le_of_lt t.isLt)).2 20 (le_refl _) :=
    (stB_succ_snd m c t).trans ((if_pos h2).trans (congrArg (fun g => dgA (iblk m c 7 t) (iblk m c 9 t) (stB m c (t.val + 1) t.isLt).1 g 20 (le_refl _)) (if_neg h3)))
  isplitl [HS0 HS1 HS2 Hg]
  · isplitl [HS0 HS1 HS2]
    · isplitl [HS0]
      · iexists (stB m c (t.val + 1) t.isLt).1; isplitr
        swap
        · unfold owns; iexists _; isplitr
          swap; · iexact HS0
          ipureintro; exact (((congrArg (fun l => VS0_0.read (Elt F) (VS0_0.writes (Elt F) _ l)) (runF_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) (fun h => h3 ((hcond5 t).mp h)) ((hcond6 t).mpr h4) (iblk m c 4 t) (iblk m c 5 t) (iblk m c 6 t) (iblk m c 7 t) (iblk m c 8 t) (iblk m c 9 t) (iblk m c 10 t) (stB m c t.val (Nat.le_of_lt t.isLt)).1 (stB m c t.val (Nat.le_of_lt t.isLt)).2 f13)).trans (View.read_writes_of_cover _ _ _ _ _ (coverC m c t _)))).trans eacc.symm
        ipureintro; exact fun _ => rfl
      isplitl [HS1]
      · iexists (stB m c (t.val + 1) t.isLt).2; isplitr
        swap
        · unfold owns; iexists _; isplitr
          swap; · iexact HS1
          ipureintro; rw [edg, eacc]; exact (congrArg (fun l => VS0_1.read (Elt F) (VS0_1.writes (Elt F) _ l)) es).trans (View.read_writes_full VS0_1 _ (off := ![0, 0]) inb_S8x4608_S8x4608_0_0 _ tl)
        ipureintro; exact fun _ => rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; rw [er, eacc]; exact View.read_writes_of_cover _ _ _ _ _ (coverRows _ _ _ _ _)
  unfold owns; iexists _; isplitr
  swap; · iexact H12
  ipureintro
  refine (congrArg (fun l => (ms0_12 t).view.read (Elt F) ((ms0_12 t).view.writes (Elt F) _ l)) (runF_sum c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) (fun h => h3 ((hcond5 t).mp h)) ((hcond6 t).mpr h4) (iblk m c 4 t) (iblk m c 5 t) (iblk m c 6 t) (iblk m c 7 t) (iblk m c 8 t) (iblk m c 9 t) (iblk m c 10 t) (stB m c t.val (Nat.le_of_lt t.isLt)).1 (stB m c t.val (Nat.le_of_lt t.isLt)).2 f13)).trans ((View.read_writes_full (ms0_12 t).view _ (off := ![0, 0]) inb_S1x4608_S1x4608_0_0 _ []).trans ?_)
  rw [edg, eacc]

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 34 = 0
  · exact bodyA m c t h0
  by_cases h1 : t.val % 34 < 16
  · exact bodyB m c t h0 h1
  by_cases h2 : t.val % 34 = 33
  · by_cases h3 : t.val < 34
    · exact bodyD m c t h2 h3
    by_cases h4 : 68 ≤ t.val
    · exact bodyF m c t h2 h3 h4
    · exact bodyE m c t h2 h3 h4
  · exact bodyC m c t h0 h1 h2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%a, HS0⟩, ⟨%g, HS1⟩, HS2⟩, Hg⟩
  isplitl [HS0 HS1 HS2]
  · isplitl [HS0]
    · iexists a; isplitr
      swap; · iexact HS0
      ipureintro; intro h; omega
    isplitl [HS1]
    · iexists g; isplitr
      swap; · iexact HS1
      ipureintro; intro h; omega
    iexact HS2
  iexact Hg

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N (le_refl _) from rfl, PhiA0_eq]
  unfold PhiS
  iintro ⟨⟨⟨%a, -, HS0⟩, ⟨%g, -, HS1⟩, HS2⟩, Hg⟩
  isplitl [HS0 HS1 HS2]
  · isplitl [HS0]
    · iexists a; iexact HS0
    isplitl [HS1]
    · iexists g; iexact HS1
    iexact HS2
  iexact Hg

/-! ## The run and the frame -/

set_option backward.isDefEq.respectTransparency.types false in
/-- The launch: the pipeline's arrays end at what the proof data computes, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The program terminates without a fault, its argument arrays unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.DxIdeal.Run

end
-- ==== Proof.DxBLoop.lean ====
module

public import proofs.«01_k».proof.Proof.Gen.Dx.Frame
public import proofs.«01_k».proof.Proof.Gen.Dx.Loops
public import Idealize.ShloMosaic.Lib.VecWindow

@[expose] public section

set_option maxRecDepth 16384

noncomputable section

namespace Cert.Dx.Run

open Cert.Dx Cert.Dx.Gen
open Idealize.ShloMosaic Idealize.ShloMosaic.TcCoe Idealize.ShloMosaic.Tactic

variable {F : FTy → Type} [FloatOps F]

/-! ## The twenty groups of 32 rows, as plain functions of the blocks -/

/-- Where group `j` of 32 rows starts in a block of 5 x 128 rows: batch `j / 4`, row `32 (j % 4)`, column `o`. -/
abbrev off3 (j o : ℕ) : Fin 3 → ℕ := ![j / 4, 32 * (j % 4), o]

theorem inb_acc (j : ℕ) (h : j < 20) : ∀ a, (![32 * j, 0] : Fin 2 → ℕ) a + S32x4608.size a ≤ S640x4608.size a := by
  intro a; fin_cases a <;> simp <;> omega
theorem inb_blk (j : ℕ) (h : j < 20) : ∀ a, off3 j 0 a + S1x32x4608.size a ≤ S5x128x4608.size a := by
  intro a; fin_cases a <;> simp <;> omega
theorem inb_tok (j o : ℕ) (h : j < 20) (ho : o < 8) : ∀ a, off3 j o a + S1x32x1.size a ≤ S5x128x8.size a := by
  intro a; fin_cases a <;> simp <;> omega

/-- One group's rows of the result: from the rows of the accumulator, the normalised activations, their token factors,
    the scale of the norm and the incoming gradient. -/
def dxVal (acc : Vec F S32x4608 .f32) (xh : Vec F S1x32x4608 .fp8e4m3) (t2 t3 t0 : Vec F S1x32x1 .f32) (ga : Vec F S1x4608 .f32)
    (dy : Vec F S1x32x4608 .fp8e5m2) : FVec F S1x32x4608 .bf16 :=
  k0_pay8 (k0_pay67 xh t2) (k0_pay69 acc ga) (k0_pay70 acc ga) (k0_pay71 acc xh t2 ga) (k0_pay72 t3) dy t0

section Rows
variable (x9 : Vec F S5x128x8 .f32) (x10 : Vec F S1x4608 .f32) (x11 : Vec F S5x128x4608 .fp8e4m3) (x12 : Vec F S5x128x4608 .fp8e5m2)
  (x15 : Vec F S640x4608 .f32)

/-- Group `j`'s rows of the result. -/
def dxRow (j : Fin 20) : FVec F S1x32x4608 .bf16 :=
  dxVal (VecWindow.window x15 ![32 * j.val, 0] S32x4608.size (inb_acc j j.isLt)) (VecWindow.window x11 (off3 j 0) S1x32x4608.size (inb_blk j j.isLt))
    (VecWindow.window x9 (off3 j 2) S1x32x1.size (inb_tok j 2 j.isLt (by decide))) (VecWindow.window x9 (off3 j 3) S1x32x1.size (inb_tok j 3 j.isLt (by decide)))
    (VecWindow.window x9 (off3 j 0) S1x32x1.size (inb_tok j 0 j.isLt (by decide))) x10 (VecWindow.window x12 (off3 j 0) S1x32x4608.size (inb_blk j j.isLt))

/-- The partial sums for the scale's gradient, after group `j` is added. -/
def dgStep (j : Fin 20) (g : Vec F S8x4608 .f32) : Vec F S8x4608 .f32 :=
  k0_pay68 (VecWindow.window x15 ![32 * j.val, 0] S32x4608.size (inb_acc j j.isLt)) (VecWindow.window x11 (off3 j 0) S1x32x4608.size (inb_blk j j.isLt))
    (VecWindow.window x9 (off3 j 2) S1x32x1.size (inb_tok j 2 j.isLt (by decide))) g

/-- The partial sums after the first `j` groups. -/
def dgA (g : Vec F S8x4608 .f32) : (j : ℕ) → j ≤ 20 → Vec F S8x4608 .f32
  | 0, _ => g
  | j + 1, h => dgStep x9 x11 x15 ⟨j, h⟩ (dgA g j (Nat.le_of_succ_le h))

/-- The stores of the first `j` groups' rows, newest first. -/
abbrev rowPieces (j : ℕ) (h : j ≤ 20) : List (View.Piece (Elt F) S5x128x4608 .bf16) :=
  View.tilePieces (s := S5x128x4608) S1x32x4608.size (fun j : Fin 20 => off3 j 0) (fun j => inb_blk j j.isLt) (dxRow x9 x10 x11 x12 x15) j h

end Rows

/-! ## One loop of four trips, whatever its own name -/

/-- A loop whose trip `k` stores group `4b + k`'s rows, and adds the group to the partial sums, stores four groups and adds them. -/
theorem loop_of {v16 : View sig .tc .vmem S8x4608 .f32} (G16 : v16.ty.Contents (Elt F))
    (x9 : Vec F S5x128x8 .f32) (x10 : Vec F S1x4608 .f32) (x11 : Vec F S5x128x4608 .fp8e4m3) (x12 : Vec F S5x128x4608 .fp8e5m2)
    (x15 : Vec F S640x4608 .f32) (g : Vec F S8x4608 .f32) (b : ℕ) (hb : b < 5)
    (pb : ℕ → List (View.Piece (Elt F) S5x128x4608 .bf16) × List (View.Piece (Elt F) S8x4608 .f32)) (h0 : pb 0 = ([], []))
    (hs : ∀ (k : ℕ) (hk : k < 4), pb (k + 1)
      = (⟨Rect.unit (s := S5x128x4608) (off3 (4 * b + k) 0) S1x32x4608.size (inb_blk _ (by omega)), dxRow x9 x10 x11 x12 x15 ⟨4 * b + k, by omega⟩⟩ :: (pb k).1,
         ⟨Rect.unit (s := S8x4608) ![0, 0] S8x4608.size inb_S8x4608_S8x4608_0_0, dgStep x9 x11 x15 ⟨4 * b + k, by omega⟩ (v16.read (Elt F) (v16.writes (Elt F) G16 (pb k).2))⟩ :: (pb k).2))
    (hg : v16.read (Elt F) G16 = dgA x9 x11 x15 g (4 * b) (by omega)) :
    (pb 4).1 ++ rowPieces x9 x10 x11 x12 x15 (4 * b) (by omega) = rowPieces x9 x10 x11 x12 x15 (4 * b + 4) (by omega)
      ∧ ∃ tl, (pb 4).2 = ⟨Rect.unit (s := S8x4608) ![0, 0] S8x4608.size inb_S8x4608_S8x4608_0_0, dgA x9 x11 x15 g (4 * b + 4) (by omega)⟩ :: tl := by
  have key : ∀ (k : ℕ) (hk : k ≤ 4), (pb k).1 ++ rowPieces x9 x10 x11 x12 x15 (4 * b) (by omega) = rowPieces x9 x10 x11 x12 x15 (4 * b + k) (by omega)
      ∧ v16.read (Elt F) (v16.writes (Elt F) G16 (pb k).2) = dgA x9 x11 x15 g (4 * b + k) (by omega) := by
    intro k
    induction k with
    | zero => intro _; rw [h0]; exact ⟨rfl, hg⟩
    | succ k ih =>
      intro hk
      obtain ⟨i1, i2⟩ := ih (by omega)
      rw [hs k (by omega)]
      refine ⟨?_, ?_⟩
      · rw [List.cons_append, i1]; rfl
      · refine (View.read_writes_full v16 G16 (off := ![0, 0]) inb_S8x4608_S8x4608_0_0 _ _).trans ?_
        rw [i2]; rfl
  refine ⟨(key 4 (le_refl _)).1, ?_⟩
  rw [hs 3 (by omega)]
  exact ⟨_, congrArg (fun w => (⟨Rect.unit (s := S8x4608) ![0, 0] S8x4608.size inb_S8x4608_S8x4608_0_0, w⟩ : View.Piece (Elt F) S8x4608 .f32) :: (pb 3).2) (by rw [(key 3 (by omega)).2]; rfl)⟩

/-- One trip's stored rows, at offsets known in closed form. -/
theorem row_eq {v9 : View sig .tc .vmem S5x128x8 .f32} {v10 : View sig .tc .vmem S1x4608 .f32} {v11 : View sig .tc .vmem S5x128x4608 .fp8e4m3}
    {v12 : View sig .tc .vmem S5x128x4608 .fp8e5m2} {v15 : View sig .tc .vmem S640x4608 .f32}
    (X9 : v9.ty.Contents (Elt F)) (X10 : v10.ty.Contents (Elt F)) (X11 : v11.ty.Contents (Elt F)) (X12 : v12.ty.Contents (Elt F)) (X15 : v15.ty.Contents (Elt F))
    (j : Fin 20) {o1 : Fin 2 → ℕ} {o2 o3 o4 o5 : Fin 3 → ℕ} (e1 : o1 = ![32 * j.val, 0]) (e2 : o2 = off3 j 0) (e3 : o3 = off3 j 2) (e4 : o4 = off3 j 3)
    (e5 : o5 = off3 j 0) (i1 : ∀ a, o1 a + S32x4608.size a ≤ S640x4608.size a) (i2 : ∀ a, o2 a + S1x32x4608.size a ≤ S5x128x4608.size a)
    (i3 : ∀ a, o3 a + S1x32x1.size a ≤ S5x128x8.size a) (i4 : ∀ a, o4 a + S1x32x1.size a ≤ S5x128x8.size a) (i5 : ∀ a, o5 a + S1x32x1.size a ≤ S5x128x8.size a) :
    (⟨Rect.unit (s := S5x128x4608) o2 S1x32x4608.size i2, dxVal (v15.readAt (Elt F) (Rect.unit (s := S640x4608) o1 S32x4608.size i1).toLoadRect X15)
        (v11.readAt (Elt F) (Rect.unit (s := S5x128x4608) o2 S1x32x4608.size i2).toLoadRect X11) (v9.readAt (Elt F) (Rect.unit (s := S5x128x8) o3 S1x32x1.size i3).toLoadRect X9)
        (v9.readAt (Elt F) (Rect.unit (s := S5x128x8) o4 S1x32x1.size i4).toLoadRect X9) (v9.readAt (Elt F) (Rect.unit (s := S5x128x8) o5 S1x32x1.size i5).toLoadRect X9)
        (v10.readAt (Elt F) (Rect.unit (s := S1x4608) ![0, 0] S1x4608.size inb_S1x4608_S1x4608_0_0).toLoadRect X10)
        (v12.readAt (Elt F) (Rect.unit (s := S5x128x4608) o2 S1x32x4608.size i2).toLoadRect X12)⟩ : View.Piece (Elt F) S5x128x4608 .bf16)
      = ⟨Rect.unit (s := S5x128x4608) (off3 j 0) S1x32x4608.size (inb_blk j j.isLt),
          dxRow (v9.read (Elt F) X9) (v10.read (Elt F) X10) (v11.read (Elt F) X11) (v12.read (Elt F) X12) (v15.read (Elt F) X15) j⟩ := by
  subst e1 e2 e3 e4 e5
  rw [View.readAt_full v10 X10 (off := ![0, 0]) inb_S1x4608_S1x4608_0_0]
  rfl

/-- One trip's new partial sums, at offsets known in closed form. -/
theorem sum_eq {v9 : View sig .tc .vmem S5x128x8 .f32} {v11 : View sig .tc .vmem S5x128x4608 .fp8e4m3}
    {v15 : View sig .tc .vmem S640x4608 .f32} {v16 : View sig .tc .vmem S8x4608 .f32}
    (X9 : v9.ty.Contents (Elt F)) (X11 : v11.ty.Contents (Elt F)) (X15 : v15.ty.Contents (Elt F)) (f16 : v16.ty.Contents (Elt F))
    (j : Fin 20) {o1 : Fin 2 → ℕ} {o2 o3 : Fin 3 → ℕ} (e1 : o1 = ![32 * j.val, 0]) (e2 : o2 = off3 j 0) (e3 : o3 = off3 j 2)
    (i1 : ∀ a, o1 a + S32x4608.size a ≤ S640x4608.size a) (i2 : ∀ a, o2 a + S1x32x4608.size a ≤ S5x128x4608.size a)
    (i3 : ∀ a, o3 a + S1x32x1.size a ≤ S5x128x8.size a) :
    k0_pay68 (v15.readAt (Elt F) (Rect.unit (s := S640x4608) o1 S32x4608.size i1).toLoadRect X15)
        (v11.readAt (Elt F) (Rect.unit (s := S5x128x4608) o2 S1x32x4608.size i2).toLoadRect X11) (v9.readAt (Elt F) (Rect.unit (s := S5x128x8) o3 S1x32x1.size i3).toLoadRect X9)
        (v16.readAt (Elt F) (Rect.unit (s := S8x4608) ![0, 0] S8x4608.size inb_S8x4608_S8x4608_0_0).toLoadRect f16)
      = dgStep (v9.read (Elt F) X9) (v11.read (Elt F) X11) (v15.read (Elt F) X15) j (v16.read (Elt F) f16) := by
  subst e1 e2 e3
  rw [View.readAt_full v16 f16 (off := ![0, 0]) inb_S8x4608_S8x4608_0_0]
  rfl

/-- The closed forms of the offsets agree with group `4b + k`'s. -/
theorem off3_eq (b k o : ℕ) (hk : k < 4) : (![b, 32 * k, o] : Fin 3 → ℕ) = off3 (4 * b + k) o := by
  have h1 : (4 * b + k) / 4 = b := by omega
  have h2 : (4 * b + k) % 4 = k := by omega
  simp only [off3, h1, h2]

/-! ## The five loops -/

variable (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole) (h4 : k0_cond4 i = 1#1)
  (X9 : BufTy.Contents (Elt F) arg9.view.ty) (X10 : BufTy.Contents (Elt F) arg10.view.ty) (X11 : BufTy.Contents (Elt F) arg11.view.ty)
  (X12 : BufTy.Contents (Elt F) arg12.view.ty) (X15 : BufTy.Contents (Elt F) arg15.view.ty)
  (G13 : BufTy.Contents (Elt F) arg13.view.ty) (G16 : BufTy.Contents (Elt F) arg16.view.ty) (g : Vec F S8x4608 .f32)

/-- The first loop stores the rows of batch 0's four groups and adds them to the partial sums. -/
theorem loop1 (hg : arg16.view.read (Elt F) G16 = dgA (arg9.view.read (Elt F) X9) (arg11.view.read (Elt F) X11) (arg15.view.read (Elt F) X15) g 0 (by decide)) :
    (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).1 ++ rowPieces (arg9.view.read (Elt F) X9) (arg10.view.read (Elt F) X10) (arg11.view.read (Elt F) X11) (arg12.view.read (Elt F) X12) (arg15.view.read (Elt F) X15) 0 (by decide) = rowPieces (arg9.view.read (Elt F) X9) (arg10.view.read (Elt F) X10) (arg11.view.read (Elt F) X11) (arg12.view.read (Elt F) X12) (arg15.view.read (Elt F) X15) 4 (by decide)
      ∧ ∃ tl, (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).2
        = ⟨Rect.unit (s := S8x4608) ![0, 0] S8x4608.size inb_S8x4608_S8x4608_0_0, dgA (arg9.view.read (Elt F) X9) (arg11.view.read (Elt F) X11) (arg15.view.read (Elt F) X15) g 4 (by decide)⟩ :: tl := by
  refine loop_of (v16 := arg16.view) G16 _ _ _ _ _ g 0 (by decide) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16) rfl (fun k hk => ?_) hg
  have hk : k < k0_t1_loop.trips := hk
  refine (pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 ⟨k, hk⟩).trans ?_
  generalize pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 k = pk
  have r1 := row_eq X9 X10 X11 X12 X15 (⟨4 * 0 + k, by omega⟩ : Fin 20) ((k0_off1_eq ⟨k, hk⟩).trans (congrArg (fun n : ℕ => (![n, 0] : Fin 2 → ℕ)) (by show 32 * k = 32 * (4 * 0 + k); omega))) ((k0_off2_eq ⟨k, hk⟩).trans (off3_eq 0 k 0 hk)) ((k0_off3_eq ⟨k, hk⟩).trans (off3_eq 0 k 2 hk)) ((k0_off4_eq ⟨k, hk⟩).trans (off3_eq 0 k 3 hk)) ((k0_off5_eq ⟨k, hk⟩).trans (off3_eq 0 k 0 hk))
    (k0_off1_inb i ⟨k, hk⟩ h4) (k0_off2_inb i ⟨k, hk⟩ h4) (k0_off3_inb i ⟨k, hk⟩ h4) (k0_off4_inb i ⟨k, hk⟩ h4) (k0_off5_inb i ⟨k, hk⟩ h4)
  have r2 := sum_eq X9 X11 X15 (arg16.view.writes (Elt F) G16 pk.2) (⟨4 * 0 + k, by omega⟩ : Fin 20) ((k0_off1_eq ⟨k, hk⟩).trans (congrArg (fun n : ℕ => (![n, 0] : Fin 2 → ℕ)) (by show 32 * k = 32 * (4 * 0 + k); omega))) ((k0_off2_eq ⟨k, hk⟩).trans (off3_eq 0 k 0 hk)) ((k0_off3_eq ⟨k, hk⟩).trans (off3_eq 0 k 2 hk))
    (k0_off1_inb i ⟨k, hk⟩ h4) (k0_off2_inb i ⟨k, hk⟩ h4) (k0_off3_inb i ⟨k, hk⟩ h4)
  unfold tripL_k0_t1 trip_k0_t1
  refine Prod.ext ?_ ?_
  · exact congrArg (· :: pk.1) r1
  · exact congrArg (fun w => (⟨Rect.unit (s := S8x4608) ![0, 0] S8x4608.size inb_S8x4608_S8x4608_0_0, w⟩ : View.Piece (Elt F) S8x4608 .f32) :: pk.2) r2

/-- The second loop stores the rows of batch 1's four groups and adds them to the partial sums. -/
theorem loop2 (hg : arg16.view.read (Elt F) G16 = dgA (arg9.view.read (Elt F) X9) (arg11.view.read (Elt F) X11) (arg15.view.read (Elt F) X15) g 4 (by decide)) :
    (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).1 ++ rowPieces (arg9.view.read (Elt F) X9) (arg10.view.read (Elt F) X10) (arg11.view.read (Elt F) X11) (arg12.view.read (Elt F) X12) (arg15.view.read (Elt F) X15) 4 (by decide) = rowPieces (arg9.view.read (Elt F) X9) (arg10.view.read (Elt F) X10) (arg11.view.read (Elt F) X11) (arg12.view.read (Elt F) X12) (arg15.view.read (Elt F) X15) 8 (by decide)
      ∧ ∃ tl, (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).2
        = ⟨Rect.unit (s := S8x4608) ![0, 0] S8x4608.size inb_S8x4608_S8x4608_0_0, dgA (arg9.view.read (Elt F) X9) (arg11.view.read (Elt F) X11) (arg15.view.read (Elt F) X15) g 8 (by decide)⟩ :: tl := by
  refine loop_of (v16 := arg16.view) G16 _ _ _ _ _ g 1 (by decide) (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16) rfl (fun k hk => ?_) hg
  have hk : k < k0_t2_loop.trips := hk
  refine (pb_k0_t2_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 ⟨k, hk⟩).trans ?_
  generalize pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 k = pk
  have r1 := row_eq X9 X10 X11 X12 X15 (⟨4 * 1 + k, by omega⟩ : Fin 20) ((k0_off6_eq ⟨k, hk⟩).trans (congrArg (fun n : ℕ => (![n, 0] : Fin 2 → ℕ)) (by show 32 * k + 128 = 32 * (4 * 1 + k); omega))) ((k0_off7_eq ⟨k, hk⟩).trans (off3_eq 1 k 0 hk)) ((k0_off8_eq ⟨k, hk⟩).trans (off3_eq 1 k 2 hk)) ((k0_off9_eq ⟨k, hk⟩).trans (off3_eq 1 k 3 hk)) ((k0_off10_eq ⟨k, hk⟩).trans (off3_eq 1 k 0 hk))
    (k0_off6_inb i ⟨k, hk⟩ h4) (k0_off7_inb i ⟨k, hk⟩ h4) (k0_off8_inb i ⟨k, hk⟩ h4) (k0_off9_inb i ⟨k, hk⟩ h4) (k0_off10_inb i ⟨k, hk⟩ h4)
  have r2 := sum_eq X9 X11 X15 (arg16.view.writes (Elt F) G16 pk.2) (⟨4 * 1 + k, by omega⟩ : Fin 20) ((k0_off6_eq ⟨k, hk⟩).trans (congrArg (fun n : ℕ => (![n, 0] : Fin 2 → ℕ)) (by show 32 * k + 128 = 32 * (4 * 1 + k); omega))) ((k0_off7_eq ⟨k, hk⟩).trans (off3_eq 1 k 0 hk)) ((k0_off8_eq ⟨k, hk⟩).trans (off3_eq 1 k 2 hk))
    (k0_off6_inb i ⟨k, hk⟩ h4) (k0_off7_inb i ⟨k, hk⟩ h4) (k0_off8_inb i ⟨k, hk⟩ h4)
  unfold tripL_k0_t2 trip_k0_t2
  refine Prod.ext ?_ ?_
  · exact congrArg (· :: pk.1) r1
  · exact congrArg (fun w => (⟨Rect.unit (s := S8x4608) ![0, 0] S8x4608.size inb_S8x4608_S8x4608_0_0, w⟩ : View.Piece (Elt F) S8x4608 .f32) :: pk.2) r2

/-- The third loop stores the rows of batch 2's four groups and adds them to the partial sums. -/
theorem loop3 (hg : arg16.view.read (Elt F) G16 = dgA (arg9.view.read (Elt F) X9) (arg11.view.read (Elt F) X11) (arg15.view.read (Elt F) X15) g 8 (by decide)) :
    (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).1 ++ rowPieces (arg9.view.read (Elt F) X9) (arg10.view.read (Elt F) X10) (arg11.view.read (Elt F) X11) (arg12.view.read (Elt F) X12) (arg15.view.read (Elt F) X15) 8 (by decide) = rowPieces (arg9.view.read (Elt F) X9) (arg10.view.read (Elt F) X10) (arg11.view.read (Elt F) X11) (arg12.view.read (Elt F) X12) (arg15.view.read (Elt F) X15) 12 (by decide)
      ∧ ∃ tl, (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).2
        = ⟨Rect.unit (s := S8x4608) ![0, 0] S8x4608.size inb_S8x4608_S8x4608_0_0, dgA (arg9.view.read (Elt F) X9) (arg11.view.read (Elt F) X11) (arg15.view.read (Elt F) X15) g 12 (by decide)⟩ :: tl := by
  refine loop_of (v16 := arg16.view) G16 _ _ _ _ _ g 2 (by decide) (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16) rfl (fun k hk => ?_) hg
  have hk : k < k0_t3_loop.trips := hk
  refine (pb_k0_t3_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 ⟨k, hk⟩).trans ?_
  generalize pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 k = pk
  have r1 := row_eq X9 X10 X11 X12 X15 (⟨4 * 2 + k, by omega⟩ : Fin 20) ((k0_off11_eq ⟨k, hk⟩).trans (congrArg (fun n : ℕ => (![n, 0] : Fin 2 → ℕ)) (by show 32 * k + 256 = 32 * (4 * 2 + k); omega))) ((k0_off12_eq ⟨k, hk⟩).trans (off3_eq 2 k 0 hk)) ((k0_off13_eq ⟨k, hk⟩).trans (off3_eq 2 k 2 hk)) ((k0_off14_eq ⟨k, hk⟩).trans (off3_eq 2 k 3 hk)) ((k0_off15_eq ⟨k, hk⟩).trans (off3_eq 2 k 0 hk))
    (k0_off11_inb i ⟨k, hk⟩ h4) (k0_off12_inb i ⟨k, hk⟩ h4) (k0_off13_inb i ⟨k, hk⟩ h4) (k0_off14_inb i ⟨k, hk⟩ h4) (k0_off15_inb i ⟨k, hk⟩ h4)
  have r2 := sum_eq X9 X11 X15 (arg16.view.writes (Elt F) G16 pk.2) (⟨4 * 2 + k, by omega⟩ : Fin 20) ((k0_off11_eq ⟨k, hk⟩).trans (congrArg (fun n : ℕ => (![n, 0] : Fin 2 → ℕ)) (by show 32 * k + 256 = 32 * (4 * 2 + k); omega))) ((k0_off12_eq ⟨k, hk⟩).trans (off3_eq 2 k 0 hk)) ((k0_off13_eq ⟨k, hk⟩).trans (off3_eq 2 k 2 hk))
    (k0_off11_inb i ⟨k, hk⟩ h4) (k0_off12_inb i ⟨k, hk⟩ h4) (k0_off13_inb i ⟨k, hk⟩ h4)
  unfold tripL_k0_t3 trip_k0_t3
  refine Prod.ext ?_ ?_
  · exact congrArg (· :: pk.1) r1
  · exact congrArg (fun w => (⟨Rect.unit (s := S8x4608) ![0, 0] S8x4608.size inb_S8x4608_S8x4608_0_0, w⟩ : View.Piece (Elt F) S8x4608 .f32) :: pk.2) r2

/-- The fourth loop stores the rows of batch 3's four groups and adds them to the partial sums. -/
theorem loop4 (hg : arg16.view.read (Elt F) G16 = dgA (arg9.view.read (Elt F) X9) (arg11.view.read (Elt F) X11) (arg15.view.read (Elt F) X15) g 12 (by decide)) :
    (pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).1 ++ rowPieces (arg9.view.read (Elt F) X9) (arg10.view.read (Elt F) X10) (arg11.view.read (Elt F) X11) (arg12.view.read (Elt F) X12) (arg15.view.read (Elt F) X15) 12 (by decide) = rowPieces (arg9.view.read (Elt F) X9) (arg10.view.read (Elt F) X10) (arg11.view.read (Elt F) X11) (arg12.view.read (Elt F) X12) (arg15.view.read (Elt F) X15) 16 (by decide)
      ∧ ∃ tl, (pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).2
        = ⟨Rect.unit (s := S8x4608) ![0, 0] S8x4608.size inb_S8x4608_S8x4608_0_0, dgA (arg9.view.read (Elt F) X9) (arg11.view.read (Elt F) X11) (arg15.view.read (Elt F) X15) g 16 (by decide)⟩ :: tl := by
  refine loop_of (v16 := arg16.view) G16 _ _ _ _ _ g 3 (by decide) (pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16) rfl (fun k hk => ?_) hg
  have hk : k < k0_t4_loop.trips := hk
  refine (pb_k0_t4_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 ⟨k, hk⟩).trans ?_
  generalize pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 k = pk
  have r1 := row_eq X9 X10 X11 X12 X15 (⟨4 * 3 + k, by omega⟩ : Fin 20) ((k0_off16_eq ⟨k, hk⟩).trans (congrArg (fun n : ℕ => (![n, 0] : Fin 2 → ℕ)) (by show 32 * k + 384 = 32 * (4 * 3 + k); omega))) ((k0_off17_eq ⟨k, hk⟩).trans (off3_eq 3 k 0 hk)) ((k0_off18_eq ⟨k, hk⟩).trans (off3_eq 3 k 2 hk)) ((k0_off19_eq ⟨k, hk⟩).trans (off3_eq 3 k 3 hk)) ((k0_off20_eq ⟨k, hk⟩).trans (off3_eq 3 k 0 hk))
    (k0_off16_inb i ⟨k, hk⟩ h4) (k0_off17_inb i ⟨k, hk⟩ h4) (k0_off18_inb i ⟨k, hk⟩ h4) (k0_off19_inb i ⟨k, hk⟩ h4) (k0_off20_inb i ⟨k, hk⟩ h4)
  have r2 := sum_eq X9 X11 X15 (arg16.view.writes (Elt F) G16 pk.2) (⟨4 * 3 + k, by omega⟩ : Fin 20) ((k0_off16_eq ⟨k, hk⟩).trans (congrArg (fun n : ℕ => (![n, 0] : Fin 2 → ℕ)) (by show 32 * k + 384 = 32 * (4 * 3 + k); omega))) ((k0_off17_eq ⟨k, hk⟩).trans (off3_eq 3 k 0 hk)) ((k0_off18_eq ⟨k, hk⟩).trans (off3_eq 3 k 2 hk))
    (k0_off16_inb i ⟨k, hk⟩ h4) (k0_off17_inb i ⟨k, hk⟩ h4) (k0_off18_inb i ⟨k, hk⟩ h4)
  unfold tripL_k0_t4 trip_k0_t4
  refine Prod.ext ?_ ?_
  · exact congrArg (· :: pk.1) r1
  · exact congrArg (fun w => (⟨Rect.unit (s := S8x4608) ![0, 0] S8x4608.size inb_S8x4608_S8x4608_0_0, w⟩ : View.Piece (Elt F) S8x4608 .f32) :: pk.2) r2

/-- The fifth loop stores the rows of batch 4's four groups and adds them to the partial sums. -/
theorem loop5 (hg : arg16.view.read (Elt F) G16 = dgA (arg9.view.read (Elt F) X9) (arg11.view.read (Elt F) X11) (arg15.view.read (Elt F) X15) g 16 (by decide)) :
    (pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).1 ++ rowPieces (arg9.view.read (Elt F) X9) (arg10.view.read (Elt F) X10) (arg11.view.read (Elt F) X11) (arg12.view.read (Elt F) X12) (arg15.view.read (Elt F) X15) 16 (by decide) = rowPieces (arg9.view.read (Elt F) X9) (arg10.view.read (Elt F) X10) (arg11.view.read (Elt F) X11) (arg12.view.read (Elt F) X12) (arg15.view.read (Elt F) X15) 20 (by decide)
      ∧ ∃ tl, (pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 (Scf.trips (0#32) (Scalar.addi 0#32 4#32) 1#32)).2
        = ⟨Rect.unit (s := S8x4608) ![0, 0] S8x4608.size inb_S8x4608_S8x4608_0_0, dgA (arg9.view.read (Elt F) X9) (arg11.view.read (Elt F) X11) (arg15.view.read (Elt F) X15) g 20 (by decide)⟩ :: tl := by
  refine loop_of (v16 := arg16.view) G16 _ _ _ _ _ g 4 (by decide) (pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16) rfl (fun k hk => ?_) hg
  have hk : k < k0_t5_loop.trips := hk
  refine (pb_k0_t5_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 ⟨k, hk⟩).trans ?_
  generalize pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G16 k = pk
  have r1 := row_eq X9 X10 X11 X12 X15 (⟨4 * 4 + k, by omega⟩ : Fin 20) ((k0_off21_eq ⟨k, hk⟩).trans (congrArg (fun n : ℕ => (![n, 0] : Fin 2 → ℕ)) (by show 32 * k + 512 = 32 * (4 * 4 + k); omega))) ((k0_off22_eq ⟨k, hk⟩).trans (off3_eq 4 k 0 hk)) ((k0_off23_eq ⟨k, hk⟩).trans (off3_eq 4 k 2 hk)) ((k0_off24_eq ⟨k, hk⟩).trans (off3_eq 4 k 3 hk)) ((k0_off25_eq ⟨k, hk⟩).trans (off3_eq 4 k 0 hk))
    (k0_off21_inb i ⟨k, hk⟩ h4) (k0_off22_inb i ⟨k, hk⟩ h4) (k0_off23_inb i ⟨k, hk⟩ h4) (k0_off24_inb i ⟨k, hk⟩ h4) (k0_off25_inb i ⟨k, hk⟩ h4)
  have r2 := sum_eq X9 X11 X15 (arg16.view.writes (Elt F) G16 pk.2) (⟨4 * 4 + k, by omega⟩ : Fin 20) ((k0_off21_eq ⟨k, hk⟩).trans (congrArg (fun n : ℕ => (![n, 0] : Fin 2 → ℕ)) (by show 32 * k + 512 = 32 * (4 * 4 + k); omega))) ((k0_off22_eq ⟨k, hk⟩).trans (off3_eq 4 k 0 hk)) ((k0_off23_eq ⟨k, hk⟩).trans (off3_eq 4 k 2 hk))
    (k0_off21_inb i ⟨k, hk⟩ h4) (k0_off22_inb i ⟨k, hk⟩ h4) (k0_off23_inb i ⟨k, hk⟩ h4)
  unfold tripL_k0_t5 trip_k0_t5
  refine Prod.ext ?_ ?_
  · exact congrArg (· :: pk.1) r1
  · exact congrArg (fun w => (⟨Rect.unit (s := S8x4608) ![0, 0] S8x4608.size inb_S8x4608_S8x4608_0_0, w⟩ : View.Piece (Elt F) S8x4608 .f32) :: pk.2) r2

end Cert.Dx.Run

end
-- ==== Proof.DxBRunA.lean ====
module

public import proofs.«01_k».proof.Proof.Gen.Dx.Frame
public import proofs.«01_k».proof.Proof.Gen.Dx.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Dx.Run

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first chunk of the mlp's contraction. -/
abbrev cond1 (i : grid0.Coords) : Prop := (Scalar.cmpi .ne (Scalar.extui (Scalar.cmpi .eq (BitVec.ofNat 32 (i 1).val) 0#32)) 0#32) = 1#1
/-- A later chunk of the mlp's contraction. -/
abbrev cond2 (i : grid0.Coords) : Prop := (Scalar.cmpi .ne (Scalar.extui (Scalar.andi (Scalar.cmpi .sgt (BitVec.ofNat 32 (i 1).val) 0#32) (Scalar.cmpi .slt (BitVec.ofNat 32 (i 1).val) 16#32))) 0#32) = 1#1
/-- A chunk of the attention's contraction. -/
abbrev cond3 (i : grid0.Coords) : Prop := (Scalar.cmpi .ne (Scalar.extui (Scalar.cmpi .sge (BitVec.ofNat 32 (i 1).val) 16#32)) 0#32) = 1#1
/-- The first tile of tokens. -/
abbrev cond5 (i : grid0.Coords) : Prop := (Scalar.cmpi .ne (Scalar.extui (Scalar.cmpi .eq (BitVec.ofNat 32 (i 0).val) 0#32)) 0#32) = 1#1

set_option maxHeartbeats 8000000 in
/-- The body at the first chunk: what it stores in the accumulator and in the operand scratch, and that it runs. -/
def runA (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : cond1 i) (h2 : ¬cond2 i) (h3 : ¬cond3 i) (h4 : ¬k0_cond4 i = 1#1)
    (x2 : Vec F S5x128x768 .fp8e5m2) (x3 : Vec F S5x128x1 .f32) (x4 : Vec F S1x768 .f32) (x5 : Vec F S4608x768 .fp8e4m3)  :
    Σ' (L15 : List (View.Piece (Elt F) S640x4608 .f32)), { L17 : List (View.Piece (Elt F) S640x768 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg15 fullShare d) ∗ (∃ d, owns (c : Thread nD τ) arg17 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f2, %hf2, H2⟩, ⟨%f3, %hf3, H3⟩, ⟨%f4, %hf4, H4⟩, ⟨%f5, %hf5, H5⟩, ⟨%d15, %f15, -, H15⟩, ⟨%d17, %f17, -, H17⟩, Hk⟩
    obtain rfl := harg2.eq_unread hf2; obtain rfl := harg3.eq_unread hf3; obtain rfl := harg4.eq_unread hf4; obtain rfl := harg5.eq_unread hf5
    sl_exec (disch := first | sl_exact h1 | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H15]
    · iexists _; iexact H15
    iexists _; iexact H17

end Cert.Dx.Run

end
-- ==== Proof.DxBRunC.lean ====
module

public import proofs.«01_k».proof.Proof.Gen.Dx.Frame
public import proofs.«01_k».proof.Proof.Gen.Dx.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.DxBRunA

@[expose] public section

set_option maxRecDepth 16384

noncomputable section

namespace Cert.Dx.Run

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a chunk of the attention but the last: what it stores over the accumulator and in the operand scratch. -/
def runC (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : ¬k0_cond4 i = 1#1)
    (x6 : Vec F S5x6x128x128 .fp8e5m2) (x7 : Vec F S6x1x128 .f32) (x8 : Vec F S6x4608x128 .fp8e4m3) (x9 : Vec F S5x128x8 .f32) (x15 : Vec F S640x4608 .f32)  :
    Σ' (L15 : List (View.Piece (Elt F) S640x4608 .f32)), { L17 : List (View.Piece (Elt F) S640x768 .bf16) //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg15 fullShare x15 ∗ (∃ d, owns (c : Thread nD τ) arg17 fullShare d)
            ∗ (iprop(owns (c : Thread nD τ) arg6 fullShare x6 ∗ owns (c : Thread nD τ) arg7 fullShare x7 ∗ owns (c : Thread nD τ) arg8 fullShare x8 ∗ owns (c : Thread nD τ) arg9 fullShare x9 ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f6, %hf6, H6⟩, ⟨%f7, %hf7, H7⟩, ⟨%f8, %hf8, H8⟩, ⟨%f9, %hf9, H9⟩, ⟨%f15, %hf15, H15⟩, ⟨%d17, %f17, -, H17⟩, Hk⟩
    obtain rfl := harg6.eq_unread hf6; obtain rfl := harg7.eq_unread hf7; obtain rfl := harg8.eq_unread hf8; obtain rfl := harg9.eq_unread hf9; obtain rfl := harg15.eq_unread hf15
    sl_exec (disch := first | sl_exact h1 | sl_exact h2 | sl_exact h3 | sl_exact h4)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H15]
    · iexists _; iexact H15
    iexists _; iexact H17

end Cert.Dx.Run

end
-- ==== Proof.DxBRunD.lean ====
module

public import proofs.«01_k».proof.Proof.Gen.Dx.Frame
public import proofs.«01_k».proof.Proof.Gen.Dx.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.DxBRunA

@[expose] public section

set_option maxRecDepth 16384

noncomputable section

namespace Cert.Dx.Run

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the last chunk of the first tile of tokens: the last attention chunk, then the five loops over rows. -/
def runD (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : cond5 i) (h6 : ¬k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (f13 : BufTy.Contents (Elt F) arg13.view.ty) :
    Σ' (L15 : List (View.Piece (Elt F) S640x4608 .f32)), Σ' (L17 : List (View.Piece (Elt F) S640x768 .bf16)), Σ' (L16 : List (View.Piece (Elt F) S8x4608 .f32)), { F13 : BufTy.Contents (Elt F) arg13.view.ty //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg15 fullShare x15 ∗ (∃ d, owns (c : Thread nD τ) arg17 fullShare d) ∗ (∃ d, owns (c : Thread nD τ) arg16 fullShare d) ∗ (arg13.view.loc (c : Thread nD τ) ↦[arg13.view.set]{fullShare} f13)
            ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17) ∗ (∃ f, arg16.view.loc (c : Thread nD τ) ↦[arg16.view.set]{fullShare} arg16.view.writes (Elt F) f L16) ∗ (arg13.view.loc (c : Thread nD τ) ↦[arg13.view.set]{fullShare} F13)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%d17, %f17, -, H17⟩, ⟨%d16, %f16, -, H16⟩, H13, Hk⟩
    obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg15.eq_unread hf15
    sl_exec (disch := first | sl_exact h1 | sl_exact h2 | sl_exact h3 | sl_exact h4 | sl_exact h5 | sl_exact h6)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H15]
    · iexists _; iexact H15
    isplitl [H17]
    · iexists _; iexact H17
    isplitl [H16]
    · iexists _; iexact H16
    iexact H13

end Cert.Dx.Run

end
-- ==== Proof.DxBRunE.lean ====
module

public import proofs.«01_k».proof.Proof.Gen.Dx.Frame
public import proofs.«01_k».proof.Proof.Gen.Dx.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.DxBRunA

@[expose] public section

set_option maxRecDepth 16384

noncomputable section

namespace Cert.Dx.Run

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the last chunk of the middle tile of tokens. -/
def runE (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : ¬cond5 i) (h6 : ¬k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (x16 : Vec F S8x4608 .f32) (f13 : BufTy.Contents (Elt F) arg13.view.ty) :
    Σ' (L15 : List (View.Piece (Elt F) S640x4608 .f32)), Σ' (L17 : List (View.Piece (Elt F) S640x768 .bf16)), Σ' (L16 : List (View.Piece (Elt F) S8x4608 .f32)), { F13 : BufTy.Contents (Elt F) arg13.view.ty //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg15 fullShare x15 ∗ (∃ d, owns (c : Thread nD τ) arg17 fullShare d) ∗ owns (c : Thread nD τ) arg16 fullShare x16 ∗ (arg13.view.loc (c : Thread nD τ) ↦[arg13.view.set]{fullShare} f13)
            ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17) ∗ (∃ f, arg16.view.loc (c : Thread nD τ) ↦[arg16.view.set]{fullShare} arg16.view.writes (Elt F) f L16) ∗ (arg13.view.loc (c : Thread nD τ) ↦[arg13.view.set]{fullShare} F13)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%d17, %f17, -, H17⟩, ⟨%f16, %hf16, H16⟩, H13, Hk⟩
    obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg15.eq_unread hf15; obtain rfl := harg16.eq_unread hf16
    sl_exec (disch := first | sl_exact h1 | sl_exact h2 | sl_exact h3 | sl_exact h4 | sl_exact h5 | sl_exact h6)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H15]
    · iexists _; iexact H15
    isplitl [H17]
    · iexists _; iexact H17
    isplitl [H16]
    · iexists _; iexact H16
    iexact H13

end Cert.Dx.Run

end
-- ==== Proof.DxBRunF.lean ====
module

public import proofs.«01_k».proof.Proof.Gen.Dx.Frame
public import proofs.«01_k».proof.Proof.Gen.Dx.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.DxBRunA

@[expose] public section

set_option maxRecDepth 16384

noncomputable section

namespace Cert.Dx.Run

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the last chunk of the last tile of tokens, which also stores the sum over the rows of partial sums. -/
def runF (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : ¬cond5 i) (h6 : k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (x16 : Vec F S8x4608 .f32) (f13 : BufTy.Contents (Elt F) arg13.view.ty) :
    Σ' (L15 : List (View.Piece (Elt F) S640x4608 .f32)), Σ' (L17 : List (View.Piece (Elt F) S640x768 .bf16)), Σ' (L16 : List (View.Piece (Elt F) S8x4608 .f32)), Σ' (L14 : List (View.Piece (Elt F) S1x4608 .f32)), { F13 : BufTy.Contents (Elt F) arg13.view.ty //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg15 fullShare x15 ∗ (∃ d, owns (c : Thread nD τ) arg17 fullShare d) ∗ owns (c : Thread nD τ) arg16 fullShare x16 ∗ (∃ d, owns (c : Thread nD τ) arg14 fullShare d) ∗ (arg13.view.loc (c : Thread nD τ) ↦[arg13.view.set]{fullShare} f13)
            ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17) ∗ (∃ f, arg16.view.loc (c : Thread nD τ) ↦[arg16.view.set]{fullShare} arg16.view.writes (Elt F) f L16) ∗ (∃ f, arg14.view.loc (c : Thread nD τ) ↦[arg14.view.set]{fullShare} arg14.view.writes (Elt F) f L14) ∗ (arg13.view.loc (c : Thread nD τ) ↦[arg13.view.set]{fullShare} F13)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%d17, %f17, -, H17⟩, ⟨%f16, %hf16, H16⟩, ⟨%d14, %f14, -, H14⟩, H13, Hk⟩
    obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg15.eq_unread hf15; obtain rfl := harg16.eq_unread hf16
    sl_exec (disch := first | sl_exact h1 | sl_exact h2 | sl_exact h3 | sl_exact h4 | sl_exact h5 | sl_exact h6)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H15]
    · iexists _; iexact H15
    isplitl [H17]
    · iexists _; iexact H17
    isplitl [H16]
    · iexists _; iexact H16
    isplitl [H14]
    · iexists _; iexact H14
    iexact H13

end Cert.Dx.Run

end
-- ==== Proof.DxBPoint.lean ====
module

public import proofs.«01_k».proof.Proof.DxBLoop
public import proofs.«01_k».proof.Proof.DxBRunC
public import proofs.«01_k».proof.Proof.DxBRunD
public import proofs.«01_k».proof.Proof.DxBRunE
public import proofs.«01_k».proof.Proof.DxBRunF

@[expose] public section

set_option maxRecDepth 16384

noncomputable section

namespace Cert.Dx.Run

open Cert.Dx Cert.Dx.Gen
open Idealize.ShloMosaic Idealize.ShloMosaic.TcCoe Idealize.ShloMosaic.Tactic

variable {F : FTy → Type} [FloatOps F]

/-- The five loops one after the other: the twenty groups' rows are stored, and the partial sums take all twenty groups. -/
theorem five (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole) (h4 : k0_cond4 i = 1#1)
    (X9 : BufTy.Contents (Elt F) arg9.view.ty) (X10 : BufTy.Contents (Elt F) arg10.view.ty) (X11 : BufTy.Contents (Elt F) arg11.view.ty)
    (X12 : BufTy.Contents (Elt F) arg12.view.ty) (X15 : BufTy.Contents (Elt F) arg15.view.ty)
    (G13 : BufTy.Contents (Elt F) arg13.view.ty) (G1 G2 G3 G4 G5 : BufTy.Contents (Elt F) arg16.view.ty) (g : Vec F S8x4608 .f32)
    (hg : arg16.view.read (Elt F) G1 = g)
    (p1 : List (View.Piece (Elt F) S5x128x4608 .bf16) × List (View.Piece (Elt F) S8x4608 .f32)) (e1 : p1 = pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G1 (Scf.trips (0#32) (Scalar.addi 0#32 4#32) 1#32))
    (hG2 : ∀ w tl, p1.2 = (⟨Rect.unit (s := S8x4608) ![0, 0] S8x4608.size inb_S8x4608_S8x4608_0_0, w⟩ : View.Piece (Elt F) S8x4608 .f32) :: tl → arg16.view.read (Elt F) G2 = w)
    (p2 : List (View.Piece (Elt F) S5x128x4608 .bf16) × List (View.Piece (Elt F) S8x4608 .f32)) (e2 : p2 = pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p1.1)) G2 (Scf.trips (0#32) (Scalar.addi 0#32 4#32) 1#32))
    (hG3 : ∀ w tl, p2.2 = (⟨Rect.unit (s := S8x4608) ![0, 0] S8x4608.size inb_S8x4608_S8x4608_0_0, w⟩ : View.Piece (Elt F) S8x4608 .f32) :: tl → arg16.view.read (Elt F) G3 = w)
    (p3 : List (View.Piece (Elt F) S5x128x4608 .bf16) × List (View.Piece (Elt F) S8x4608 .f32)) (e3 : p3 = pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p2.1 ++ (p1.1))) G3 (Scf.trips (0#32) (Scalar.addi 0#32 4#32) 1#32))
    (hG4 : ∀ w tl, p3.2 = (⟨Rect.unit (s := S8x4608) ![0, 0] S8x4608.size inb_S8x4608_S8x4608_0_0, w⟩ : View.Piece (Elt F) S8x4608 .f32) :: tl → arg16.view.read (Elt F) G4 = w)
    (p4 : List (View.Piece (Elt F) S5x128x4608 .bf16) × List (View.Piece (Elt F) S8x4608 .f32)) (e4 : p4 = pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p3.1 ++ (p2.1 ++ (p1.1)))) G4 (Scf.trips (0#32) (Scalar.addi 0#32 4#32) 1#32))
    (hG5 : ∀ w tl, p4.2 = (⟨Rect.unit (s := S8x4608) ![0, 0] S8x4608.size inb_S8x4608_S8x4608_0_0, w⟩ : View.Piece (Elt F) S8x4608 .f32) :: tl → arg16.view.read (Elt F) G5 = w)
    (p5 : List (View.Piece (Elt F) S5x128x4608 .bf16) × List (View.Piece (Elt F) S8x4608 .f32)) (e5 : p5 = pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p4.1 ++ (p3.1 ++ (p2.1 ++ (p1.1))))) G5 (Scf.trips (0#32) (Scalar.addi 0#32 4#32) 1#32)) :
    p5.1 ++ (p4.1 ++ (p3.1 ++ (p2.1 ++ (p1.1)))) = rowPieces (arg9.view.read (Elt F) X9) (arg10.view.read (Elt F) X10) (arg11.view.read (Elt F) X11) (arg12.view.read (Elt F) X12) (arg15.view.read (Elt F) X15) 20 (le_refl _)
      ∧ ∃ tl, p5.2 = (⟨Rect.unit (s := S8x4608) ![0, 0] S8x4608.size inb_S8x4608_S8x4608_0_0, dgA (arg9.view.read (Elt F) X9) (arg11.view.read (Elt F) X11) (arg15.view.read (Elt F) X15) g 20 (le_refl _)⟩ : View.Piece (Elt F) S8x4608 .f32) :: tl := by
  obtain ⟨a1, t1, b1⟩ := loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 G1 g hg
  rw [← e1] at a1 b1
  obtain ⟨a2, t2, b2⟩ := loop2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p1.1)) G2 g (hG2 _ _ b1)
  rw [← e2] at a2 b2
  obtain ⟨a3, t3, b3⟩ := loop3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p2.1 ++ (p1.1))) G3 g (hG3 _ _ b2)
  rw [← e3] at a3 b3
  obtain ⟨a4, t4, b4⟩ := loop4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p3.1 ++ (p2.1 ++ (p1.1)))) G4 g (hG4 _ _ b3)
  rw [← e4] at a4 b4
  obtain ⟨a5, t5, b5⟩ := loop5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p4.1 ++ (p3.1 ++ (p2.1 ++ (p1.1))))) G5 g (hG5 _ _ b4)
  rw [← e5] at a5 b5
  refine ⟨?_, t5, b5⟩
  have a1' : p1.1 = rowPieces (arg9.view.read (Elt F) X9) (arg10.view.read (Elt F) X10) (arg11.view.read (Elt F) X11) (arg12.view.read (Elt F) X12) (arg15.view.read (Elt F) X15) 4 (by decide) := (List.append_nil _).symm.trans a1
  rw [a1', a2, a3, a4, a5]

/-- The same, the partial sums read through the stores made so far over what the point began with, after first being cleared. -/
theorem fiveD (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole) (h4 : k0_cond4 i = 1#1)
    (X9 : BufTy.Contents (Elt F) arg9.view.ty) (X10 : BufTy.Contents (Elt F) arg10.view.ty) (X11 : BufTy.Contents (Elt F) arg11.view.ty)
    (X12 : BufTy.Contents (Elt F) arg12.view.ty) (X15 : BufTy.Contents (Elt F) arg15.view.ty)
    (G13 : BufTy.Contents (Elt F) arg13.view.ty) (J : BufTy.Contents (Elt F) arg16.view.ty) (H : List (View.Piece (Elt F) S8x4608 .f32)) (g : Vec F S8x4608 .f32)
    (hg : arg16.view.read (Elt F) (arg16.view.writes (Elt F) J H) = g)
    (p1 : List (View.Piece (Elt F) S5x128x4608 .bf16) × List (View.Piece (Elt F) S8x4608 .f32)) (e1 : p1 = pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 (arg16.view.writes (Elt F) J H) (Scf.trips (0#32) (Scalar.addi 0#32 4#32) 1#32))
    (p2 : List (View.Piece (Elt F) S5x128x4608 .bf16) × List (View.Piece (Elt F) S8x4608 .f32)) (e2 : p2 = pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p1.1)) (arg16.view.writes (Elt F) J (p1.2 ++ H)) (Scf.trips (0#32) (Scalar.addi 0#32 4#32) 1#32))
    (p3 : List (View.Piece (Elt F) S5x128x4608 .bf16) × List (View.Piece (Elt F) S8x4608 .f32)) (e3 : p3 = pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p2.1 ++ (p1.1))) (arg16.view.writes (Elt F) J (p2.2 ++ (p1.2 ++ H))) (Scf.trips (0#32) (Scalar.addi 0#32 4#32) 1#32))
    (p4 : List (View.Piece (Elt F) S5x128x4608 .bf16) × List (View.Piece (Elt F) S8x4608 .f32)) (e4 : p4 = pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p3.1 ++ (p2.1 ++ (p1.1)))) (arg16.view.writes (Elt F) J (p3.2 ++ (p2.2 ++ (p1.2 ++ H)))) (Scf.trips (0#32) (Scalar.addi 0#32 4#32) 1#32))
    (p5 : List (View.Piece (Elt F) S5x128x4608 .bf16) × List (View.Piece (Elt F) S8x4608 .f32)) (e5 : p5 = pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p4.1 ++ (p3.1 ++ (p2.1 ++ (p1.1))))) (arg16.view.writes (Elt F) J (p4.2 ++ (p3.2 ++ (p2.2 ++ (p1.2 ++ H))))) (Scf.trips (0#32) (Scalar.addi 0#32 4#32) 1#32)) :
    p5.1 ++ (p4.1 ++ (p3.1 ++ (p2.1 ++ (p1.1)))) = rowPieces (arg9.view.read (Elt F) X9) (arg10.view.read (Elt F) X10) (arg11.view.read (Elt F) X11) (arg12.view.read (Elt F) X12) (arg15.view.read (Elt F) X15) 20 (le_refl _)
      ∧ ∃ tl, p5.2 = (⟨Rect.unit (s := S8x4608) ![0, 0] S8x4608.size inb_S8x4608_S8x4608_0_0, dgA (arg9.view.read (Elt F) X9) (arg11.view.read (Elt F) X11) (arg15.view.read (Elt F) X15) g 20 (le_refl _)⟩ : View.Piece (Elt F) S8x4608 .f32) :: tl :=
  five c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 (arg16.view.writes (Elt F) J H) (arg16.view.writes (Elt F) J (p1.2 ++ H)) (arg16.view.writes (Elt F) J (p2.2 ++ (p1.2 ++ H))) (arg16.view.writes (Elt F) J (p3.2 ++ (p2.2 ++ (p1.2 ++ H)))) (arg16.view.writes (Elt F) J (p4.2 ++ (p3.2 ++ (p2.2 ++ (p1.2 ++ H))))) g hg p1 e1
    (fun w tl h => (congrArg (fun l => arg16.view.read (Elt F) (arg16.view.writes (Elt F) J (l ++ (H)))) h).trans (View.read_writes_full arg16.view J (off := ![0, 0]) inb_S8x4608_S8x4608_0_0 w (tl ++ (H)))) p2 e2
    (fun w tl h => (congrArg (fun l => arg16.view.read (Elt F) (arg16.view.writes (Elt F) J (l ++ (p1.2 ++ (H))))) h).trans (View.read_writes_full arg16.view J (off := ![0, 0]) inb_S8x4608_S8x4608_0_0 w (tl ++ (p1.2 ++ (H))))) p3 e3
    (fun w tl h => (congrArg (fun l => arg16.view.read (Elt F) (arg16.view.writes (Elt F) J (l ++ (p2.2 ++ (p1.2 ++ (H)))))) h).trans (View.read_writes_full arg16.view J (off := ![0, 0]) inb_S8x4608_S8x4608_0_0 w (tl ++ (p2.2 ++ (p1.2 ++ (H)))))) p4 e4
    (fun w tl h => (congrArg (fun l => arg16.view.read (Elt F) (arg16.view.writes (Elt F) J (l ++ (p3.2 ++ (p2.2 ++ (p1.2 ++ (H))))))) h).trans (View.read_writes_full arg16.view J (off := ![0, 0]) inb_S8x4608_S8x4608_0_0 w (tl ++ (p3.2 ++ (p2.2 ++ (p1.2 ++ (H))))))) p5 e5

/-- The same, the partial sums read through the stores made so far over what the point began with. -/
theorem fiveE (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole) (h4 : k0_cond4 i = 1#1)
    (X9 : BufTy.Contents (Elt F) arg9.view.ty) (X10 : BufTy.Contents (Elt F) arg10.view.ty) (X11 : BufTy.Contents (Elt F) arg11.view.ty)
    (X12 : BufTy.Contents (Elt F) arg12.view.ty) (X15 : BufTy.Contents (Elt F) arg15.view.ty)
    (G13 : BufTy.Contents (Elt F) arg13.view.ty) (J : BufTy.Contents (Elt F) arg16.view.ty) (g : Vec F S8x4608 .f32)
    (hg : arg16.view.read (Elt F) J = g)
    (p1 : List (View.Piece (Elt F) S5x128x4608 .bf16) × List (View.Piece (Elt F) S8x4608 .f32)) (e1 : p1 = pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 J (Scf.trips (0#32) (Scalar.addi 0#32 4#32) 1#32))
    (p2 : List (View.Piece (Elt F) S5x128x4608 .bf16) × List (View.Piece (Elt F) S8x4608 .f32)) (e2 : p2 = pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p1.1)) (arg16.view.writes (Elt F) J (p1.2)) (Scf.trips (0#32) (Scalar.addi 0#32 4#32) 1#32))
    (p3 : List (View.Piece (Elt F) S5x128x4608 .bf16) × List (View.Piece (Elt F) S8x4608 .f32)) (e3 : p3 = pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p2.1 ++ (p1.1))) (arg16.view.writes (Elt F) J (p2.2 ++ (p1.2))) (Scf.trips (0#32) (Scalar.addi 0#32 4#32) 1#32))
    (p4 : List (View.Piece (Elt F) S5x128x4608 .bf16) × List (View.Piece (Elt F) S8x4608 .f32)) (e4 : p4 = pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p3.1 ++ (p2.1 ++ (p1.1)))) (arg16.view.writes (Elt F) J (p3.2 ++ (p2.2 ++ (p1.2)))) (Scf.trips (0#32) (Scalar.addi 0#32 4#32) 1#32))
    (p5 : List (View.Piece (Elt F) S5x128x4608 .bf16) × List (View.Piece (Elt F) S8x4608 .f32)) (e5 : p5 = pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 (arg13.view.writes (Elt F) G13 (p4.1 ++ (p3.1 ++ (p2.1 ++ (p1.1))))) (arg16.view.writes (Elt F) J (p4.2 ++ (p3.2 ++ (p2.2 ++ (p1.2))))) (Scf.trips (0#32) (Scalar.addi 0#32 4#32) 1#32)) :
    p5.1 ++ (p4.1 ++ (p3.1 ++ (p2.1 ++ (p1.1)))) = rowPieces (arg9.view.read (Elt F) X9) (arg10.view.read (Elt F) X10) (arg11.view.read (Elt F) X11) (arg12.view.read (Elt F) X12) (arg15.view.read (Elt F) X15) 20 (le_refl _)
      ∧ ∃ tl, p5.2 = (⟨Rect.unit (s := S8x4608) ![0, 0] S8x4608.size inb_S8x4608_S8x4608_0_0, dgA (arg9.view.read (Elt F) X9) (arg11.view.read (Elt F) X11) (arg15.view.read (Elt F) X15) g 20 (le_refl _)⟩ : View.Piece (Elt F) S8x4608 .f32) :: tl :=
  five c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 X9 X10 X11 X12 X15 G13 J (arg16.view.writes (Elt F) J (p1.2)) (arg16.view.writes (Elt F) J (p2.2 ++ (p1.2))) (arg16.view.writes (Elt F) J (p3.2 ++ (p2.2 ++ (p1.2)))) (arg16.view.writes (Elt F) J (p4.2 ++ (p3.2 ++ (p2.2 ++ (p1.2))))) g hg p1 e1
    (fun w tl h => (congrArg (fun l => arg16.view.read (Elt F) (arg16.view.writes (Elt F) J (l))) h).trans (View.read_writes_full arg16.view J (off := ![0, 0]) inb_S8x4608_S8x4608_0_0 w (tl))) p2 e2
    (fun w tl h => (congrArg (fun l => arg16.view.read (Elt F) (arg16.view.writes (Elt F) J (l ++ (p1.2)))) h).trans (View.read_writes_full arg16.view J (off := ![0, 0]) inb_S8x4608_S8x4608_0_0 w (tl ++ (p1.2)))) p3 e3
    (fun w tl h => (congrArg (fun l => arg16.view.read (Elt F) (arg16.view.writes (Elt F) J (l ++ (p2.2 ++ (p1.2))))) h).trans (View.read_writes_full arg16.view J (off := ![0, 0]) inb_S8x4608_S8x4608_0_0 w (tl ++ (p2.2 ++ (p1.2))))) p4 e4
    (fun w tl h => (congrArg (fun l => arg16.view.read (Elt F) (arg16.view.writes (Elt F) J (l ++ (p3.2 ++ (p2.2 ++ (p1.2)))))) h).trans (View.read_writes_full arg16.view J (off := ![0, 0]) inb_S8x4608_S8x4608_0_0 w (tl ++ (p3.2 ++ (p2.2 ++ (p1.2)))))) p5 e5

/-- The last chunks of attention leave the same stores into the accumulator, whichever case the point is in (C). -/
theorem runC_acc  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : ¬k0_cond4 i = 1#1)
    (x6 : Vec F S5x6x128x128 .fp8e5m2) (x7 : Vec F S6x1x128 .f32) (x8 : Vec F S6x4608x128 .fp8e4m3) (x9 : Vec F S5x128x8 .f32) (x15 : Vec F S640x4608 .f32)   : (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 x6 x7 x8 x9 x15).1 = runD.sl.H15_9 c arg6 harg6 arg7 harg7 arg8 harg8 arg9 harg9 arg15 harg15 arg17 x6 x7 x8 x9 x15 := rfl

/-- The last chunks of attention leave the same stores into the accumulator, whichever case the point is in (D). -/
theorem runD_acc  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : cond5 i) (h6 : ¬k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (f13 : BufTy.Contents (Elt F) arg13.view.ty)  : (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 f13).1 = runD.sl.H15_9 c arg6 harg6 arg7 harg7 arg8 harg8 arg9 harg9 arg15 harg15 arg17 x6 x7 x8 x9 x15 := rfl

/-- The last chunks of attention leave the same stores into the accumulator, whichever case the point is in (E). -/
theorem runE_acc  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : ¬cond5 i) (h6 : ¬k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (x16 : Vec F S8x4608 .f32) (f13 : BufTy.Contents (Elt F) arg13.view.ty)  : (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).1 = runD.sl.H15_9 c arg6 harg6 arg7 harg7 arg8 harg8 arg9 harg9 arg15 harg15 arg17 x6 x7 x8 x9 x15 := rfl

/-- The last chunks of attention leave the same stores into the accumulator, whichever case the point is in (F). -/
theorem runF_acc  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : ¬cond5 i) (h6 : k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (x16 : Vec F S8x4608 .f32) (f13 : BufTy.Contents (Elt F) arg13.view.ty)  : (runF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).1 = runD.sl.H15_9 c arg6 harg6 arg7 harg7 arg8 harg8 arg9 harg9 arg15 harg15 arg17 x6 x7 x8 x9 x15 := rfl

/-- What the last point of a tile leaves in the result's block and the partial sums (case D). -/
theorem runD_rows  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : cond5 i) (h6 : ¬k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (f13 : BufTy.Contents (Elt F) arg13.view.ty)  :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 f13).2.2.2.1 = arg13.view.writes (Elt F) f13 (rowPieces x9 x10 x11 x12 (arg15.view.read (Elt F) (arg15.view.writes (Elt F) arg15.view.junk (runD.sl.H15_9 c arg6 harg6 arg7 harg7 arg8 harg8 arg9 harg9 arg15 harg15 arg17 x6 x7 x8 x9 x15))) 20 (le_refl _))
      ∧ ∃ tl, (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 f13).2.2.1 = (⟨Rect.unit (s := S8x4608) ![0, 0] S8x4608.size inb_S8x4608_S8x4608_0_0, dgA x9 x11 (arg15.view.read (Elt F) (arg15.view.writes (Elt F) arg15.view.junk (runD.sl.H15_9 c arg6 harg6 arg7 harg7 arg8 harg8 arg9 harg9 arg15 harg15 arg17 x6 x7 x8 x9 x15))) k0_pay7 20 (le_refl _)⟩ : View.Piece (Elt F) S8x4608 .f32) :: tl := by
  have e := fiveD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 (harg9.unread x9) (harg10.unread x10) (harg11.unread x11) (harg12.unread x12)
    (arg15.view.writes (Elt F) arg15.view.junk (runD.sl.H15_9 c arg6 harg6 arg7 harg7 arg8 harg8 arg9 harg9 arg15 harg15 arg17 x6 x7 x8 x9 x15)) f13 arg16.view.junk runD.sl.H16_1 (k0_pay7) (View.read_writes_full arg16.view _ (off := ![0, 0]) inb_S8x4608_S8x4608_0_0 _ _) _ rfl _ rfl _ rfl _ rfl _ rfl
  rw [harg9.read_unread, harg10.read_unread, harg11.read_unread, harg12.read_unread] at e
  exact ⟨congrArg (arg13.view.writes (Elt F) f13) e.1, e.2.choose ++ _, congrArg (· ++ _) e.2.choose_spec⟩

/-- What the last point of a tile leaves in the result's block and the partial sums (case E). -/
theorem runE_rows  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : ¬cond5 i) (h6 : ¬k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (x16 : Vec F S8x4608 .f32) (f13 : BufTy.Contents (Elt F) arg13.view.ty)  :
    (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).2.2.2.1 = arg13.view.writes (Elt F) f13 (rowPieces x9 x10 x11 x12 (arg15.view.read (Elt F) (arg15.view.writes (Elt F) arg15.view.junk (runD.sl.H15_9 c arg6 harg6 arg7 harg7 arg8 harg8 arg9 harg9 arg15 harg15 arg17 x6 x7 x8 x9 x15))) 20 (le_refl _))
      ∧ ∃ tl, (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).2.2.1 = (⟨Rect.unit (s := S8x4608) ![0, 0] S8x4608.size inb_S8x4608_S8x4608_0_0, dgA x9 x11 (arg15.view.read (Elt F) (arg15.view.writes (Elt F) arg15.view.junk (runD.sl.H15_9 c arg6 harg6 arg7 harg7 arg8 harg8 arg9 harg9 arg15 harg15 arg17 x6 x7 x8 x9 x15))) x16 20 (le_refl _)⟩ : View.Piece (Elt F) S8x4608 .f32) :: tl := by
  have e := fiveE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 (harg9.unread x9) (harg10.unread x10) (harg11.unread x11) (harg12.unread x12)
    (arg15.view.writes (Elt F) arg15.view.junk (runD.sl.H15_9 c arg6 harg6 arg7 harg7 arg8 harg8 arg9 harg9 arg15 harg15 arg17 x6 x7 x8 x9 x15)) f13 (harg16.unread x16) (x16) (harg16.read_unread x16) _ rfl _ rfl _ rfl _ rfl _ rfl
  rw [harg9.read_unread, harg10.read_unread, harg11.read_unread, harg12.read_unread] at e
  exact ⟨congrArg (arg13.view.writes (Elt F) f13) e.1, e.2.choose ++ _, congrArg (· ++ _) e.2.choose_spec⟩

/-- What the last point of a tile leaves in the result's block and the partial sums (case F). -/
theorem runF_rows  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : ¬cond5 i) (h6 : k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (x16 : Vec F S8x4608 .f32) (f13 : BufTy.Contents (Elt F) arg13.view.ty)  :
    (runF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).2.2.2.2.1 = arg13.view.writes (Elt F) f13 (rowPieces x9 x10 x11 x12 (arg15.view.read (Elt F) (arg15.view.writes (Elt F) arg15.view.junk (runD.sl.H15_9 c arg6 harg6 arg7 harg7 arg8 harg8 arg9 harg9 arg15 harg15 arg17 x6 x7 x8 x9 x15))) 20 (le_refl _))
      ∧ ∃ tl, (runF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).2.2.1 = (⟨Rect.unit (s := S8x4608) ![0, 0] S8x4608.size inb_S8x4608_S8x4608_0_0, dgA x9 x11 (arg15.view.read (Elt F) (arg15.view.writes (Elt F) arg15.view.junk (runD.sl.H15_9 c arg6 harg6 arg7 harg7 arg8 harg8 arg9 harg9 arg15 harg15 arg17 x6 x7 x8 x9 x15))) x16 20 (le_refl _)⟩ : View.Piece (Elt F) S8x4608 .f32) :: tl := by
  have e := fiveE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h4 (harg9.unread x9) (harg10.unread x10) (harg11.unread x11) (harg12.unread x12)
    (arg15.view.writes (Elt F) arg15.view.junk (runD.sl.H15_9 c arg6 harg6 arg7 harg7 arg8 harg8 arg9 harg9 arg15 harg15 arg17 x6 x7 x8 x9 x15)) f13 (harg16.unread x16) (x16) (harg16.read_unread x16) _ rfl _ rfl _ rfl _ rfl _ rfl
  rw [harg9.read_unread, harg10.read_unread, harg11.read_unread, harg12.read_unread] at e
  exact ⟨congrArg (arg13.view.writes (Elt F) f13) e.1, e.2.choose ++ _, congrArg (· ++ _) e.2.choose_spec⟩

/-- At the very last point the scale's gradient is the column sums of the partial sums. -/
theorem runF_sum  (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : ¬cond2 i) (h3 : cond3 i) (h4 : k0_cond4 i = 1#1) (h5 : ¬cond5 i) (h6 : k0_cond6 i = 1#1)
    (x6 : Vec F S5x6x128x128 .fp8e5m2) (x7 : Vec F S6x1x128 .f32) (x8 : Vec F S6x4608x128 .fp8e4m3) (x9 : Vec F S5x128x8 .f32) (x10 : Vec F S1x4608 .f32) (x11 : Vec F S5x128x4608 .fp8e4m3) (x12 : Vec F S5x128x4608 .fp8e5m2) (x15 : Vec F S640x4608 .f32) (x16 : Vec F S8x4608 .f32) (f13 : BufTy.Contents (Elt F) arg13.view.ty)  :
    (runF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).2.2.2.1 = [⟨Rect.unit (s := S1x4608) ![0, 0] S1x4608.size inb_S1x4608_S1x4608_0_0, k0_pay13 (dgA x9 x11 (arg15.view.read (Elt F) (arg15.view.writes (Elt F) arg15.view.junk (runD.sl.H15_9 c arg6 harg6 arg7 harg7 arg8 harg8 arg9 harg9 arg15 harg15 arg17 x6 x7 x8 x9 x15))) x16 20 (le_refl _))⟩] := by
  obtain ⟨tl, e⟩ := (runF_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).2
  have e' : arg16.view.readAt (Elt F) (Rect.unit (s := S8x4608) ![0, 0] S8x4608.size inb_S8x4608_S8x4608_0_0).toLoadRect (arg16.view.writes (Elt F) (harg16.unread x16) (runF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 h5 h6 x6 x7 x8 x9 x10 x11 x12 x15 x16 f13).2.2.1) = dgA x9 x11 (arg15.view.read (Elt F) (arg15.view.writes (Elt F) arg15.view.junk (runD.sl.H15_9 c arg6 harg6 arg7 harg7 arg8 harg8 arg9 harg9 arg15 harg15 arg17 x6 x7 x8 x9 x15))) x16 20 (le_refl _) := by
    rw [e]; exact View.readAt_writes_full arg16.view _ (off := ![0, 0]) (off' := ![0, 0]) inb_S8x4608_S8x4608_0_0 inb_S8x4608_S8x4608_0_0 _ _
  exact congrArg (fun w => [(⟨Rect.unit (s := S1x4608) ![0, 0] S1x4608.size inb_S1x4608_S1x4608_0_0, k0_pay13 w⟩ : View.Piece (Elt F) S1x4608 .f32)]) e'

end Cert.Dx.Run

end
-- ==== Proof.DxBRunB.lean ====
module

public import proofs.«01_k».proof.Proof.Gen.Dx.Frame
public import proofs.«01_k».proof.Proof.Gen.Dx.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.DxBRunA

@[expose] public section

set_option maxRecDepth 16384

noncomputable section

namespace Cert.Dx.Run

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a later chunk of the mlp: what it stores over the accumulator and in the operand scratch. -/
def runB (c : Dev nD) (i : grid0.Coords) (arg2 : Memref sig .tc .vmem S5x128x768 .fp8e5m2) (harg2 : arg2.IsWhole) (arg3 : Memref sig .tc .vmem S5x128x1 .f32) (harg3 : arg3.IsWhole) (arg4 : Memref sig .tc .vmem S1x768 .f32) (harg4 : arg4.IsWhole) (arg5 : Memref sig .tc .vmem S4608x768 .fp8e4m3) (harg5 : arg5.IsWhole) (arg6 : Memref sig .tc .vmem S5x6x128x128 .fp8e5m2) (harg6 : arg6.IsWhole) (arg7 : Memref sig .tc .vmem S6x1x128 .f32) (harg7 : arg7.IsWhole) (arg8 : Memref sig .tc .vmem S6x4608x128 .fp8e4m3) (harg8 : arg8.IsWhole) (arg9 : Memref sig .tc .vmem S5x128x8 .f32) (harg9 : arg9.IsWhole) (arg10 : Memref sig .tc .vmem S1x4608 .f32) (harg10 : arg10.IsWhole) (arg11 : Memref sig .tc .vmem S5x128x4608 .fp8e4m3) (harg11 : arg11.IsWhole) (arg12 : Memref sig .tc .vmem S5x128x4608 .fp8e5m2) (harg12 : arg12.IsWhole) (arg13 : Memref sig .tc .vmem S5x128x4608 .bf16) (harg13 : arg13.IsWhole) (arg14 : Memref sig .tc .vmem S1x4608 .f32) (harg14 : arg14.IsWhole) (arg15 : Memref sig .tc .vmem S640x4608 .f32) (harg15 : arg15.IsWhole) (arg16 : Memref sig .tc .vmem S8x4608 .f32) (harg16 : arg16.IsWhole) (arg17 : Memref sig .tc .vmem S640x768 .bf16) (harg17 : arg17.IsWhole)
    (h1 : ¬cond1 i) (h2 : cond2 i) (h3 : ¬cond3 i) (h4 : ¬k0_cond4 i = 1#1)
    (x2 : Vec F S5x128x768 .fp8e5m2) (x3 : Vec F S5x128x1 .f32) (x4 : Vec F S1x768 .f32) (x5 : Vec F S4608x768 .fp8e4m3) (x15 : Vec F S640x4608 .f32)  :
    Σ' (L15 : List (View.Piece (Elt F) S640x4608 .f32)), { L17 : List (View.Piece (Elt F) S640x768 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg15 fullShare x15 ∗ (∃ d, owns (c : Thread nD τ) arg17 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg15.view.loc (c : Thread nD τ) ↦[arg15.view.set]{fullShare} arg15.view.writes (Elt F) f L15) ∗ (∃ f, arg17.view.loc (c : Thread nD τ) ↦[arg17.view.set]{fullShare} arg17.view.writes (Elt F) f L17)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f2, %hf2, H2⟩, ⟨%f3, %hf3, H3⟩, ⟨%f4, %hf4, H4⟩, ⟨%f5, %hf5, H5⟩, ⟨%f15, %hf15, H15⟩, ⟨%d17, %f17, -, H17⟩, Hk⟩
    obtain rfl := harg2.eq_unread hf2; obtain rfl := harg3.eq_unread hf3; obtain rfl := harg4.eq_unread hf4; obtain rfl := harg5.eq_unread hf5; obtain rfl := harg15.eq_unread hf15
    sl_exec (disch := first | sl_exact h1 | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H15]
    · iexists _; iexact H15
    iexists _; iexact H17

end Cert.Dx.Run

end
-- ==== Proof.DxBFrame.lean ====
module

public import proofs.«01_k».proof.Proof.DxBPoint
public import proofs.«01_k».proof.Proof.DxBRunA
public import proofs.«01_k».proof.Proof.DxBRunB
public import proofs.«01_k».proof.Proof.Gen.Dx.Frame
public import Idealize.ShloMosaic.Lib.Claim

@[expose] public section

set_option maxRecDepth 16384

noncomputable section

namespace Cert.Dx.Run

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, in closed form -/

/-- The first chunk: the first of a tile's 34 points. -/
theorem hcond1 : ∀ t : Fin cfg0.N, cond1 (grid0.coords t) ↔ t.val % 34 = 0 := (by decide +kernel : ∀ t : Fin grid0.N, cond1 (grid0.coords t) ↔ t.val % 34 = 0)
/-- The mlp's later chunks: points 1 to 15. -/
theorem hcond2 : ∀ t : Fin cfg0.N, cond2 (grid0.coords t) ↔ (0 < t.val % 34 ∧ t.val % 34 < 16) := (by decide +kernel : ∀ t : Fin grid0.N, cond2 (grid0.coords t) ↔ (0 < t.val % 34 ∧ t.val % 34 < 16))
/-- The attention's chunks: points 16 to 33. -/
theorem hcond3 : ∀ t : Fin cfg0.N, cond3 (grid0.coords t) ↔ 16 ≤ t.val % 34 := (by decide +kernel : ∀ t : Fin grid0.N, cond3 (grid0.coords t) ↔ 16 ≤ t.val % 34)
/-- The last point of a tile. -/
theorem hcond4 : ∀ t : Fin cfg0.N, k0_cond4 (grid0.coords t) = 1#1 ↔ t.val % 34 = 33 := (by decide +kernel : ∀ t : Fin grid0.N, k0_cond4 (grid0.coords t) = 1#1 ↔ t.val % 34 = 33)
/-- The first tile. -/
theorem hcond5 : ∀ t : Fin cfg0.N, cond5 (grid0.coords t) ↔ t.val < 34 := (by decide +kernel : ∀ t : Fin grid0.N, cond5 (grid0.coords t) ↔ t.val < 34)
/-- The last tile. -/
theorem hcond6 : ∀ t : Fin cfg0.N, k0_cond6 (grid0.coords t) = 1#1 ↔ 68 ≤ t.val := (by decide +kernel : ∀ t : Fin grid0.N, k0_cond6 (grid0.coords t) = 1#1 ↔ 68 ≤ t.val)

/-- The result's window is idle but at the last point of a tile. -/
theorem idle11 : ∀ t : Fin cfg0.N, cfg0.idle 11 (cfg0.grid.coords t) = !decide (t.val % 34 = 33) := (by decide +kernel : ∀ t : Fin grid0.N, idle0 11 (grid0.coords t) = !decide (t.val % 34 = 33))
/-- The scale's gradient's window is idle but at the grid's last point. -/
theorem idle12 : ∀ t : Fin cfg0.N, cfg0.idle 12 (cfg0.grid.coords t) = !decide (t.val % 102 = 101) := (by decide +kernel : ∀ t : Fin grid0.N, idle0 12 (grid0.coords t) = !decide (t.val % 102 = 101))

/-! ## The staging buffers and scratch, named -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)
abbrev ms0_8 (t : Fin cfg0.N) := win0_8.stage (cfg0.slots t 8)
abbrev hs0_8 (t : Fin cfg0.N) : (ms0_8 t).IsWhole := hstage0_8 ((cfg0.slots t 8).cast nbuf0_8)
abbrev ms0_9 (t : Fin cfg0.N) := win0_9.stage (cfg0.slots t 9)
abbrev hs0_9 (t : Fin cfg0.N) : (ms0_9 t).IsWhole := hstage0_9 ((cfg0.slots t 9).cast nbuf0_9)
abbrev ms0_10 (t : Fin cfg0.N) := win0_10.stage (cfg0.slots t 10)
abbrev hs0_10 (t : Fin cfg0.N) : (ms0_10 t).IsWhole := hstage0_10 ((cfg0.slots t 10).cast nbuf0_10)
abbrev ms0_11 (t : Fin cfg0.N) := win0_11.stage (cfg0.slots t 11)
abbrev hs0_11 (t : Fin cfg0.N) : (ms0_11 t).IsWhole := hstage0_11 ((cfg0.slots t 11).cast nbuf0_11)
abbrev ms0_12 (t : Fin cfg0.N) := win0_12.stage (cfg0.slots t 12)
abbrev hs0_12 (t : Fin cfg0.N) : (ms0_12 t).IsWhole := hstage0_12 ((cfg0.slots t 12).cast nbuf0_12)
abbrev scM0_0 : Memref sig .tc .vmem S640x4608 .f32 := Memref.whole cc0_scratch0
abbrev scM0_1 : Memref sig .tc .vmem S8x4608 .f32 := Memref.whole cc0_scratch1
abbrev scM0_2 : Memref sig .tc .vmem S640x768 .bf16 := Memref.whole cc0_scratch2
abbrev VS0_0 : View sig .tc .vmem S640x4608 .f32 := (scM0_0).view
abbrev VS0_1 : View sig .tc .vmem S8x4608 .f32 := (scM0_1).view
/-- One staging buffer of the result, through which its contents are stated. -/
abbrev VO0_11 : View sig .tc .vmem S5x128x4608 .bf16 := (Memref.whole cc0_stg11_0 : Memref sig .tc .vmem S5x128x4608 .bf16).view

theorem PhiA0_eq (c : Dev nD) : Pipeline.ΦA spec0 c = (iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) : sProp 𝕄) := by
  unfold Pipeline.ΦA; rw [scopedRest0_eq]
  simp only [scM0_0, scM0_1, scM0_2, owns_whole]; try rfl

/-- Case A's nine stores tile the accumulator. -/
theorem coverA (c : Dev nD) (t : Fin cfg0.N) (h1 : cond1 (grid0.coords t)) (h2 : ¬cond2 (grid0.coords t)) (h3 : ¬cond3 (grid0.coords t)) (h4 : ¬k0_cond4 (grid0.coords t) = 1#1) (y : S640x4608.Idx) : ∃ pc ∈ (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h1 h2 h3 h4 (iblk m c 0 t) (iblk m c 1 t) (iblk m c 2 t) (iblk m c 3 t)).1, y ∈ pc.1.set :=
  View.cover_of_tiledL (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h1 h2 h3 h4 (iblk m c 0 t) (iblk m c 1 t) (iblk m c 2 t) (iblk m c 3 t)).1 S640x512.size (by sl_kernel_rfl) y

/-- Case B's nine stores tile the accumulator. -/
theorem coverB (c : Dev nD) (t : Fin cfg0.N) (h1 : ¬cond1 (grid0.coords t)) (h2 : cond2 (grid0.coords t)) (h3 : ¬cond3 (grid0.coords t)) (h4 : ¬k0_cond4 (grid0.coords t) = 1#1) (x15 : Vec F S640x4608 .f32) (y : S640x4608.Idx) : ∃ pc ∈ (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h1 h2 h3 h4 (iblk m c 0 t) (iblk m c 1 t) (iblk m c 2 t) (iblk m c 3 t) x15).1, y ∈ pc.1.set :=
  View.cover_of_tiledL (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h1 h2 h3 h4 (iblk m c 0 t) (iblk m c 1 t) (iblk m c 2 t) (iblk m c 3 t) x15).1 S640x512.size (by sl_kernel_rfl) y

/-- Case C's nine stores tile the accumulator. -/
theorem coverC (c : Dev nD) (t : Fin cfg0.N)  (x15 : Vec F S640x4608 .f32) (y : S640x4608.Idx) : ∃ pc ∈ (runD.sl.H15_9 c (ms0_4 t) (hs0_4 t) (ms0_5 t) (hs0_5 t) (ms0_6 t) (hs0_6 t) (ms0_7 t) (hs0_7 t) scM0_0 (Memref.isWhole_whole _) scM0_2 (iblk m c 4 t) (iblk m c 5 t) (iblk m c 6 t) (iblk m c 7 t) x15), y ∈ pc.1.set :=
  View.cover_of_tiledL (runD.sl.H15_9 c (ms0_4 t) (hs0_4 t) (ms0_5 t) (hs0_5 t) (ms0_6 t) (hs0_6 t) (ms0_7 t) (hs0_7 t) scM0_0 (Memref.isWhole_whole _) scM0_2 (iblk m c 4 t) (iblk m c 5 t) (iblk m c 6 t) (iblk m c 7 t) x15) S640x512.size (by sl_kernel_rfl) y

/-- The twenty groups' rows tile the result's block. -/
theorem coverRows (x9 : Vec F S5x128x8 .f32) (x10 : Vec F S1x4608 .f32) (x11 : Vec F S5x128x4608 .fp8e4m3) (x12 : Vec F S5x128x4608 .fp8e5m2) (x15 : Vec F S640x4608 .f32) (y : S5x128x4608.Idx) :
    ∃ pc ∈ rowPieces x9 x10 x11 x12 x15 20 (le_refl _), y ∈ pc.1.set :=
  View.cover_of_tiledL (rowPieces x9 x10 x11 x12 x15 20 (le_refl _)) S1x32x4608.size (by sl_kernel_rfl) y

/-! ## What the accumulators hold, point by point -/

/-- The accumulator after point `t`, which finds it at `x15`. -/
def accOut (c : Dev nD) (t : Fin cfg0.N) (x15 : Vec F S640x4608 .f32) : Vec F S640x4608 .f32 :=
  if h0 : t.val % 34 = 0 then VS0_0.read (Elt F) (VS0_0.writes (Elt F) VS0_0.junk (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond1 t).mpr h0) (fun h => by have := (hcond2 t).mp h; omega) (fun h => by have := (hcond3 t).mp h; omega) (fun h => by have := (hcond4 t).mp h; omega) (iblk m c 0 t) (iblk m c 1 t) (iblk m c 2 t) (iblk m c 3 t)).1)
  else if h1 : t.val % 34 < 16 then VS0_0.read (Elt F) (VS0_0.writes (Elt F) VS0_0.junk (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond1 t).mp h)) ((hcond2 t).mpr ⟨by omega, h1⟩) (fun h => by have := (hcond3 t).mp h; omega) (fun h => by have := (hcond4 t).mp h; omega) (iblk m c 0 t) (iblk m c 1 t) (iblk m c 2 t) (iblk m c 3 t) x15).1)
  else VS0_0.read (Elt F) (VS0_0.writes (Elt F) VS0_0.junk (runD.sl.H15_9 c (ms0_4 t) (hs0_4 t) (ms0_5 t) (hs0_5 t) (ms0_6 t) (hs0_6 t) (ms0_7 t) (hs0_7 t) scM0_0 (Memref.isWhole_whole _) scM0_2 (iblk m c 4 t) (iblk m c 5 t) (iblk m c 6 t) (iblk m c 7 t) x15))

/-- The partial sums for the scale's gradient after point `t`, which finds them at `x16`, the accumulator then at `a`. -/
def dgOut (c : Dev nD) (t : Fin cfg0.N) (a : Vec F S640x4608 .f32) (x16 : Vec F S8x4608 .f32) : Vec F S8x4608 .f32 :=
  if t.val % 34 = 33 then dgA (iblk m c 7 t) (iblk m c 9 t) a (if t.val < 34 then k0_pay7 else x16) 20 (le_refl _) else x16

/-- The two accumulators before point `n`. -/
def stB (c : Dev nD) : (n : ℕ) → n ≤ cfg0.N → Vec F S640x4608 .f32 × Vec F S8x4608 .f32
  | 0, _ => (VS0_0.read (Elt F) VS0_0.junk, VS0_1.read (Elt F) VS0_1.junk)
  | n + 1, h => (accOut m c ⟨n, h⟩ (stB c n (Nat.le_of_succ_le h)).1,
      dgOut m c ⟨n, h⟩ (accOut m c ⟨n, h⟩ (stB c n (Nat.le_of_succ_le h)).1) (stB c n (Nat.le_of_succ_le h)).2)

/-- The invariant before point `n`: the accumulators at their contents (anything before they are first stored), the rest at some state. -/
def PhiS (c : Dev nD) (n : ℕ) (h : n ≤ cfg0.N) : sProp 𝕄 :=
  iprop(iprop((∃ d, iprop(⌜1 ≤ n → d = (stB m c n h).1⌝ ∗ owns (c : Thread nD τ) scM0_0 fullShare d)) ∗ (∃ d, iprop(⌜34 ≤ n → d = (stB m c n h).2⌝ ∗ owns (c : Thread nD τ) scM0_1 fullShare d)) ∗ (∃ d, owns (c : Thread nD τ) scM0_2 fullShare d)) ∗ (∃ r, prngReg c r))

/-! ## The pipeline's proof data -/

/-- The proof data: each input's buffer at its block, the result's and the scale's gradient's at what the accumulators give. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => VO0_11.read (Elt F) (VO0_11.writes (Elt F) VO0_11.junk (rowPieces (iblk m c 7 t) (iblk m c 8 t) (iblk m c 9 t) (iblk m c 10 t) (stB m c (t.val + 1) t.isLt).1 20 (le_refl _)))
    | ⟨12, _⟩ => k0_pay13 (stB m c (t.val + 1) t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = VO0_11.read (Elt F) (VO0_11.writes (Elt F) VO0_11.junk (rowPieces (iblk m c 7 t) (iblk m c 8 t) (iblk m c 9 t) (iblk m c 10 t) (stB m c (t.val + 1) t.isLt).1 20 (le_refl _))) := by dsimp only [dats]
theorem after0_12 (c : Dev nD) (t : Fin cfg0.N) : (dats m 0 c).after 12 t = k0_pay13 (stB m c (t.val + 1) t.isLt).2 := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t ∗ (dats m 0 c).leavesExact 12 t)

theorem leaves0_live (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem leaves1_live (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem leaves2_live (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
theorem leaves3_live (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem leaves4_live (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]
theorem leaves5_live (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]
theorem leaves6_live (c : Dev nD) (t : Fin cfg0.N) : (dats m 0 c).leavesExact 6 t = owns (c : Thread nD τ) (ms0_6 t) fullShare (iblk m c 6 t) := by
  unfold Dat.leavesExact; rw [show cfg0.idle 6 (cfg0.grid.coords t) = false from rfl, after0_6]
theorem leaves7_live (c : Dev nD) (t : Fin cfg0.N) : (dats m 0 c).leavesExact 7 t = owns (c : Thread nD τ) (ms0_7 t) fullShare (iblk m c 7 t) := by
  unfold Dat.leavesExact; rw [show cfg0.idle 7 (cfg0.grid.coords t) = false from rfl, after0_7]
theorem leaves8_live (c : Dev nD) (t : Fin cfg0.N) : (dats m 0 c).leavesExact 8 t = owns (c : Thread nD τ) (ms0_8 t) fullShare (iblk m c 8 t) := by
  unfold Dat.leavesExact; rw [show cfg0.idle 8 (cfg0.grid.coords t) = false from rfl, after0_8]
theorem leaves9_live (c : Dev nD) (t : Fin cfg0.N) : (dats m 0 c).leavesExact 9 t = owns (c : Thread nD τ) (ms0_9 t) fullShare (iblk m c 9 t) := by
  unfold Dat.leavesExact; rw [show cfg0.idle 9 (cfg0.grid.coords t) = false from rfl, after0_9]
theorem leaves10_live (c : Dev nD) (t : Fin cfg0.N) : (dats m 0 c).leavesExact 10 t = owns (c : Thread nD τ) (ms0_10 t) fullShare (iblk m c 10 t) := by
  unfold Dat.leavesExact; rw [show cfg0.idle 10 (cfg0.grid.coords t) = false from rfl, after0_10]
theorem leaves11_idle (c : Dev nD) (t : Fin cfg0.N) (h : ¬t.val % 34 = 33) :
    (dats m 0 c).leavesExact 11 t = iprop(∃ d, owns (c : Thread nD τ) (ms0_11 t) fullShare ((dats m 0 c).before 11 t d)) :=
  (dats m 0 c).leavesExact_idle 11 t ((idle11 t).trans (by rw [decide_eq_false h]; rfl)) (Bool.eq_false_iff.mpr fun hf => h ((flush0_11 t).mp hf))
theorem leaves12_idle (c : Dev nD) (t : Fin cfg0.N) (h : ¬t.val % 102 = 101) :
    (dats m 0 c).leavesExact 12 t = iprop(∃ d, owns (c : Thread nD τ) (ms0_12 t) fullShare ((dats m 0 c).before 12 t d)) :=
  (dats m 0 c).leavesExact_idle 12 t ((idle12 t).trans (by rw [decide_eq_false h]; rfl)) (Bool.eq_false_iff.mpr fun hf => h ((flush0_12 t).mp hf))
theorem leaves11_live (c : Dev nD) (t : Fin cfg0.N) (h : t.val % 34 = 33) :
    (dats m 0 c).leavesExact 11 t = owns (c : Thread nD τ) (ms0_11 t) fullShare (VO0_11.read (Elt F) (VO0_11.writes (Elt F) VO0_11.junk (rowPieces (iblk m c 7 t) (iblk m c 8 t) (iblk m c 9 t) (iblk m c 10 t) (stB m c (t.val + 1) t.isLt).1 20 (le_refl _)))) := by
  unfold Dat.leavesExact
  rw [show cfg0.idle 11 (cfg0.grid.coords t) = false from (idle11 t).trans (by rw [decide_eq_true h]; rfl), after0_11]
theorem leaves12_live (c : Dev nD) (t : Fin cfg0.N) (h : t.val % 102 = 101) :
    (dats m 0 c).leavesExact 12 t = owns (c : Thread nD τ) (ms0_12 t) fullShare (k0_pay13 (stB m c (t.val + 1) t.isLt).2) := by
  unfold Dat.leavesExact
  rw [show cfg0.idle 12 (cfg0.grid.coords t) = false from (idle12 t).trans (by rw [decide_eq_true h]; rfl), after0_12]

theorem owns_some (c : Dev nD) {sh : Shape} {e : EltTy} (a : Memref sig .tc .vmem sh e) (X : sh.Idx → Elt F e) :
    owns (c : Thread nD τ) a fullShare X ⊢ (iprop(∃ f, a.view.loc (c : Thread nD τ) ↦[a.view.set]{fullShare} f) : sProp 𝕄) := by
  unfold owns; iintro ⟨%f, -, H⟩; iexists f; iexact H

theorem stB_succ_fst (c : Dev nD) (t : Fin cfg0.N) : (stB m c (t.val + 1) t.isLt).1 = accOut m c t (stB m c t.val (Nat.le_of_lt t.isLt)).1 := rfl
theorem stB_succ_snd (c : Dev nD) (t : Fin cfg0.N) : (stB m c (t.val + 1) t.isLt).2 = dgOut m c t (stB m c (t.val + 1) t.isLt).1 (stB m c t.val (Nat.le_of_lt t.isLt)).2 := rfl

set_option maxHeartbeats 6400000 in
/-- The body at a point of case A. -/
theorem bodyA (c : Dev nD) (t : Fin cfg0.N) (h0 : t.val % 34 = 0) :
    bodyPre m c t ⊢ wp frame (wpE (defs₀ (F := F)) Variants.none c none) Set.univ (bodyAt0 t) (fun _ => bodyPost m c t) := by
  have hN : t.val < 102 := lt_of_lt_of_eq t.isLt (show cfg0.N = 102 from N_0)
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, leaves0_live, leaves1_live, leaves2_live, leaves3_live, leaves4_live, leaves5_live, leaves6_live, leaves7_live, leaves8_live, leaves9_live, leaves10_live]
  rw [show (dats m 0 c).Φ t.succ = PhiS m c (t.val + 1) t.isLt from rfl, PhiS_castSucc m c t]
  rw [leaves11_idle m c t (by omega), leaves12_idle m c t (by omega)]
  unfold PhiS
  iintro ⟨⟨⟨⟨%a, %ha, HS0⟩, ⟨%g, %hg, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond1 t).mpr h0) (fun h => by have := (hcond2 t).mp h; omega) (fun h => by have := (hcond3 t).mp h; omega) (fun h => by have := (hcond4 t).mp h; omega) (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [HS0]; · iexists _; iexact HS0
  isplitl [HS2]; · iexact HS2
  iintro ⟨H0, H1, H2, H3, ⟨%e0, HS0⟩, ⟨%e2, HS2⟩⟩
  have eacc : (stB m c (t.val + 1) t.isLt).1 = _ := (stB_succ_fst m c t).trans (dif_pos h0)
  isplitl [HS0 HS1 HS2 Hg]
  · isplitl [HS0 HS1 HS2]
    · isplitl [HS0]
      · iexists (stB m c (t.val + 1) t.isLt).1; isplitr
        swap
        · unfold owns; iexists _; isplitr
          swap; · iexact HS0
          ipureintro; exact ((View.read_writes_of_cover _ _ _ _ _ (coverA m c t ((hcond1 t).mpr h0) (fun h => by have := (hcond2 t).mp h; omega) (fun h => by have := (hcond3 t).mp h; omega) (fun h => by have := (hcond4 t).mp h; omega)))).trans eacc.symm
        ipureintro; exact fun _ => rfl
      isplitl [HS1]
      · iexists g; isplitr
        swap; · iexact HS1
        ipureintro; intro h; exact (hg (by omega)).trans ((stB_succ_snd m c t).trans (if_neg (by omega))).symm
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 6400000 in
/-- The body at a point of case B. -/
theorem bodyB (c : Dev nD) (t : Fin cfg0.N) (h0 : ¬t.val % 34 = 0) (h1 : t.val % 34 < 16) :
    bodyPre m c t ⊢ wp frame (wpE (defs₀ (F := F)) Variants.none c none) Set.univ (bodyAt0 t) (fun _ => bodyPost m c t) := by
  have hN : t.val < 102 := lt_of_lt_of_eq t.isLt (show cfg0.N = 102 from N_0)
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, leaves0_live, leaves1_live, leaves2_live, leaves3_live, leaves4_live, leaves5_live, leaves6_live, leaves7_live, leaves8_live, leaves9_live, leaves10_live]
  rw [show (dats m 0 c).Φ t.succ = PhiS m c (t.val + 1) t.isLt from rfl, PhiS_castSucc m c t]
  rw [leaves11_idle m c t (by omega), leaves12_idle m c t (by omega)]
  unfold PhiS
  iintro ⟨⟨⟨⟨%a, %ha, HS0⟩, ⟨%g, %hg, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
  obtain rfl := ha (by omega)
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond1 t).mp h)) ((hcond2 t).mpr ⟨by omega, h1⟩) (fun h => by have := (hcond3 t).mp h; omega) (fun h => by have := (hcond4 t).mp h; omega) (iblk m c 0 t) (iblk m c 1 t) (iblk m c 2 t) (iblk m c 3 t) (stB m c t.val (Nat.le_of_lt t.isLt)).1).2.2 Set.univ _)
  isplitl [H0]; · iexact H0
  isplitl [H1]; · iexact H1
  isplitl [H2]; · iexact H2
  isplitl [H3]; · iexact H3
  isplitl [HS0]; · iexact HS0
  isplitl [HS2]; · iexact HS2
  iintro ⟨H0, H1, H2, H3, ⟨%e0, HS0⟩, ⟨%e2, HS2⟩⟩
  have eacc : (stB m c (t.val + 1) t.isLt).1 = _ := (stB_succ_fst m c t).trans ((dif_neg h0).trans (dif_pos h1))
  isplitl [HS0 HS1 HS2 Hg]
  · isplitl [HS0 HS1 HS2]
    · isplitl [HS0]
      · iexists (stB m c (t.val + 1) t.isLt).1; isplitr
        swap
        · unfold owns; iexists _; isplitr
          swap; · iexact HS0
          ipureintro; exact ((View.read_writes_of_cover _ _ _ _ _ (coverB m c t (fun h => h0 ((hcond1 t).mp h)) ((hcond2 t).mpr ⟨by omega, h1⟩) (fun h => by have := (hcond3 t).mp h; omega) (fun h => by have := (hcond4 t).mp h; omega) _))).trans eacc.symm
        ipureintro; exact fun _ => rfl
      isplitl [HS1]
      · iexists g; isplitr
        swap; · iexact HS1
        ipureintro; intro h; exact (hg (by omega)).trans ((stB_succ_snd m c t).trans (if_neg (by omega))).symm
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 6400000 in
/-- The body at a point of case C. -/
theorem bodyC (c : Dev nD) (t : Fin cfg0.N) (h0 : ¬t.val % 34 = 0) (h1 : ¬t.val % 34 < 16) (h2 : ¬t.val % 34 = 33) :
    bodyPre m c t ⊢ wp frame (wpE (defs₀ (F := F)) Variants.none c none) Set.univ (bodyAt0 t) (fun _ => bodyPost m c t) := by
  have hN : t.val < 102 := lt_of_lt_of_eq t.isLt (show cfg0.N = 102 from N_0)
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, leaves0_live, leaves1_live, leaves2_live, leaves3_live, leaves4_live, leaves5_live, leaves6_live, leaves7_live, leaves8_live, leaves9_live, leaves10_live]
  rw [show (dats m 0 c).Φ t.succ = PhiS m c (t.val + 1) t.isLt from rfl, PhiS_castSucc m c t]
  rw [leaves11_idle m c t (by omega), leaves12_idle m c t (by omega)]
  unfold PhiS
  iintro ⟨⟨⟨⟨%a, %ha, HS0⟩, ⟨%g, %hg, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
  obtain rfl := ha (by omega)
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) (fun h => by have := (hcond4 t).mp h; omega) (iblk m c 4 t) (iblk m c 5 t) (iblk m c 6 t) (iblk m c 7 t) (stB m c t.val (Nat.le_of_lt t.isLt)).1).2.2 Set.univ _)
  isplitl [H4]; · iexact H4
  isplitl [H5]; · iexact H5
  isplitl [H6]; · iexact H6
  isplitl [H7]; · iexact H7
  isplitl [HS0]; · iexact HS0
  isplitl [HS2]; · iexact HS2
  iintro ⟨H4, H5, H6, H7, ⟨%e0, HS0⟩, ⟨%e2, HS2⟩⟩
  have eacc : (stB m c (t.val + 1) t.isLt).1 = _ := (stB_succ_fst m c t).trans ((dif_neg (by omega)).trans (dif_neg (by omega)))
  isplitl [HS0 HS1 HS2 Hg]
  · isplitl [HS0 HS1 HS2]
    · isplitl [HS0]
      · iexists (stB m c (t.val + 1) t.isLt).1; isplitr
        swap
        · unfold owns; iexists _; isplitr
          swap; · iexact HS0
          ipureintro; exact (((congrArg (fun l => VS0_0.read (Elt F) (VS0_0.writes (Elt F) _ l)) (runC_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) (fun h => by have := (hcond4 t).mp h; omega) (iblk m c 4 t) (iblk m c 5 t) (iblk m c 6 t) (iblk m c 7 t) (stB m c t.val (Nat.le_of_lt t.isLt)).1)).trans (View.read_writes_of_cover _ _ _ _ _ (coverC m c t _)))).trans eacc.symm
        ipureintro; exact fun _ => rfl
      isplitl [HS1]
      · iexists g; isplitr
        swap; · iexact HS1
        ipureintro; intro h; exact (hg (by omega)).trans ((stB_succ_snd m c t).trans (if_neg (by omega))).symm
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 6400000 in
/-- The body at a point of case D. -/
theorem bodyD (c : Dev nD) (t : Fin cfg0.N) (h2 : t.val % 34 = 33) (h3 : t.val < 34) :
    bodyPre m c t ⊢ wp frame (wpE (defs₀ (F := F)) Variants.none c none) Set.univ (bodyAt0 t) (fun _ => bodyPost m c t) := by
  have hN : t.val < 102 := lt_of_lt_of_eq t.isLt (show cfg0.N = 102 from N_0)
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, leaves0_live, leaves1_live, leaves2_live, leaves3_live, leaves4_live, leaves5_live, leaves6_live, leaves7_live, leaves8_live, leaves9_live, leaves10_live]
  rw [show (dats m 0 c).Φ t.succ = PhiS m c (t.val + 1) t.isLt from rfl, PhiS_castSucc m c t]
  rw [leaves11_live m c t (by omega), leaves12_idle m c t (by omega)]
  unfold PhiS
  iintro ⟨⟨⟨⟨%a, %ha, HS0⟩, ⟨%g, %hg, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  obtain rfl := ha (by omega)
  icases (owns_some c _ _) $$ H11 with ⟨%f13, H11⟩
  iapply ((runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) ((hcond5 t).mpr h3) (fun h => by have := (hcond6 t).mp h; omega) (iblk m c 4 t) (iblk m c 5 t) (iblk m c 6 t) (iblk m c 7 t) (iblk m c 8 t) (iblk m c 9 t) (iblk m c 10 t) (stB m c t.val (Nat.le_of_lt t.isLt)).1 f13).2.2.2.2 Set.univ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS2]; · iexact HS2
  isplitl [HS1]; · iexists _; iexact HS1
  isplitl [H11]; · iexact H11
  iintro ⟨H4, H5, H6, H7, H8, H9, H10, ⟨%e0, HS0⟩, ⟨%e2, HS2⟩, ⟨%e1, HS1⟩, H11⟩
  obtain ⟨er, tl, es⟩ := runD_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) ((hcond5 t).mpr h3) (fun h => by have := (hcond6 t).mp h; omega) (iblk m c 4 t) (iblk m c 5 t) (iblk m c 6 t) (iblk m c 7 t) (iblk m c 8 t) (iblk m c 9 t) (iblk m c 10 t) (stB m c t.val (Nat.le_of_lt t.isLt)).1 f13
  have eacc : (stB m c (t.val + 1) t.isLt).1 = _ := (stB_succ_fst m c t).trans ((dif_neg (by omega)).trans (dif_neg (by omega)))
  have edg : (stB m c (t.val + 1) t.isLt).2 = dgA (iblk m c 7 t) (iblk m c 9 t) (stB m c (t.val + 1) t.isLt).1 k0_pay7 20 (le_refl _) :=
    (stB_succ_snd m c t).trans ((if_pos h2).trans (congrArg (fun g => dgA (iblk m c 7 t) (iblk m c 9 t) (stB m c (t.val + 1) t.isLt).1 g 20 (le_refl _)) (if_pos h3)))
  isplitl [HS0 HS1 HS2 Hg]
  · isplitl [HS0 HS1 HS2]
    · isplitl [HS0]
      · iexists (stB m c (t.val + 1) t.isLt).1; isplitr
        swap
        · unfold owns; iexists _; isplitr
          swap; · iexact HS0
          ipureintro; exact (((congrArg (fun l => VS0_0.read (Elt F) (VS0_0.writes (Elt F) _ l)) (runD_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) ((hcond5 t).mpr h3) (fun h => by have := (hcond6 t).mp h; omega) (iblk m c 4 t) (iblk m c 5 t) (iblk m c 6 t) (iblk m c 7 t) (iblk m c 8 t) (iblk m c 9 t) (iblk m c 10 t) (stB m c t.val (Nat.le_of_lt t.isLt)).1 f13)).trans (View.read_writes_of_cover _ _ _ _ _ (coverC m c t _)))).trans eacc.symm
        ipureintro; exact fun _ => rfl
      isplitl [HS1]
      · iexists (stB m c (t.val + 1) t.isLt).2; isplitr
        swap
        · unfold owns; iexists _; isplitr
          swap; · iexact HS1
          ipureintro; rw [edg, eacc]; exact (congrArg (fun l => VS0_1.read (Elt F) (VS0_1.writes (Elt F) _ l)) es).trans (View.read_writes_full VS0_1 _ (off := ![0, 0]) inb_S8x4608_S8x4608_0_0 _ tl)
        ipureintro; exact fun _ => rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; rw [er, eacc]; exact View.read_writes_of_cover _ _ _ _ _ (coverRows _ _ _ _ _)
  iexact H12

set_option maxHeartbeats 6400000 in
/-- The body at a point of case E. -/
theorem bodyE (c : Dev nD) (t : Fin cfg0.N) (h2 : t.val % 34 = 33) (h3 : ¬t.val < 34) (h4 : ¬68 ≤ t.val) :
    bodyPre m c t ⊢ wp frame (wpE (defs₀ (F := F)) Variants.none c none) Set.univ (bodyAt0 t) (fun _ => bodyPost m c t) := by
  have hN : t.val < 102 := lt_of_lt_of_eq t.isLt (show cfg0.N = 102 from N_0)
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, leaves0_live, leaves1_live, leaves2_live, leaves3_live, leaves4_live, leaves5_live, leaves6_live, leaves7_live, leaves8_live, leaves9_live, leaves10_live]
  rw [show (dats m 0 c).Φ t.succ = PhiS m c (t.val + 1) t.isLt from rfl, PhiS_castSucc m c t]
  rw [leaves11_live m c t (by omega), leaves12_idle m c t (by omega)]
  unfold PhiS
  iintro ⟨⟨⟨⟨%a, %ha, HS0⟩, ⟨%g, %hg, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  obtain rfl := ha (by omega)
  obtain rfl := hg (by omega)
  icases (owns_some c _ _) $$ H11 with ⟨%f13, H11⟩
  iapply ((runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) (fun h => h3 ((hcond5 t).mp h)) (fun h => h4 ((hcond6 t).mp h)) (iblk m c 4 t) (iblk m c 5 t) (iblk m c 6 t) (iblk m c 7 t) (iblk m c 8 t) (iblk m c 9 t) (iblk m c 10 t) (stB m c t.val (Nat.le_of_lt t.isLt)).1 (stB m c t.val (Nat.le_of_lt t.isLt)).2 f13).2.2.2.2 Set.univ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS2]; · iexact HS2
  isplitl [HS1]; · iexact HS1
  isplitl [H11]; · iexact H11
  iintro ⟨H4, H5, H6, H7, H8, H9, H10, ⟨%e0, HS0⟩, ⟨%e2, HS2⟩, ⟨%e1, HS1⟩, H11⟩
  obtain ⟨er, tl, es⟩ := runE_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) (fun h => h3 ((hcond5 t).mp h)) (fun h => h4 ((hcond6 t).mp h)) (iblk m c 4 t) (iblk m c 5 t) (iblk m c 6 t) (iblk m c 7 t) (iblk m c 8 t) (iblk m c 9 t) (iblk m c 10 t) (stB m c t.val (Nat.le_of_lt t.isLt)).1 (stB m c t.val (Nat.le_of_lt t.isLt)).2 f13
  have eacc : (stB m c (t.val + 1) t.isLt).1 = _ := (stB_succ_fst m c t).trans ((dif_neg (by omega)).trans (dif_neg (by omega)))
  have edg : (stB m c (t.val + 1) t.isLt).2 = dgA (iblk m c 7 t) (iblk m c 9 t) (stB m c (t.val + 1) t.isLt).1 (stB m c t.val (Nat.le_of_lt t.isLt)).2 20 (le_refl _) :=
    (stB_succ_snd m c t).trans ((if_pos h2).trans (congrArg (fun g => dgA (iblk m c 7 t) (iblk m c 9 t) (stB m c (t.val + 1) t.isLt).1 g 20 (le_refl _)) (if_neg h3)))
  isplitl [HS0 HS1 HS2 Hg]
  · isplitl [HS0 HS1 HS2]
    · isplitl [HS0]
      · iexists (stB m c (t.val + 1) t.isLt).1; isplitr
        swap
        · unfold owns; iexists _; isplitr
          swap; · iexact HS0
          ipureintro; exact (((congrArg (fun l => VS0_0.read (Elt F) (VS0_0.writes (Elt F) _ l)) (runE_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) (fun h => h3 ((hcond5 t).mp h)) (fun h => h4 ((hcond6 t).mp h)) (iblk m c 4 t) (iblk m c 5 t) (iblk m c 6 t) (iblk m c 7 t) (iblk m c 8 t) (iblk m c 9 t) (iblk m c 10 t) (stB m c t.val (Nat.le_of_lt t.isLt)).1 (stB m c t.val (Nat.le_of_lt t.isLt)).2 f13)).trans (View.read_writes_of_cover _ _ _ _ _ (coverC m c t _)))).trans eacc.symm
        ipureintro; exact fun _ => rfl
      isplitl [HS1]
      · iexists (stB m c (t.val + 1) t.isLt).2; isplitr
        swap
        · unfold owns; iexists _; isplitr
          swap; · iexact HS1
          ipureintro; rw [edg, eacc]; exact (congrArg (fun l => VS0_1.read (Elt F) (VS0_1.writes (Elt F) _ l)) es).trans (View.read_writes_full VS0_1 _ (off := ![0, 0]) inb_S8x4608_S8x4608_0_0 _ tl)
        ipureintro; exact fun _ => rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; rw [er, eacc]; exact View.read_writes_of_cover _ _ _ _ _ (coverRows _ _ _ _ _)
  iexact H12

set_option maxHeartbeats 6400000 in
/-- The body at a point of case F. -/
theorem bodyF (c : Dev nD) (t : Fin cfg0.N) (h2 : t.val % 34 = 33) (h3 : ¬t.val < 34) (h4 : 68 ≤ t.val) :
    bodyPre m c t ⊢ wp frame (wpE (defs₀ (F := F)) Variants.none c none) Set.univ (bodyAt0 t) (fun _ => bodyPost m c t) := by
  have hN : t.val < 102 := lt_of_lt_of_eq t.isLt (show cfg0.N = 102 from N_0)
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, leaves0_live, leaves1_live, leaves2_live, leaves3_live, leaves4_live, leaves5_live, leaves6_live, leaves7_live, leaves8_live, leaves9_live, leaves10_live]
  rw [show (dats m 0 c).Φ t.succ = PhiS m c (t.val + 1) t.isLt from rfl, PhiS_castSucc m c t]
  rw [leaves11_live m c t (by omega), leaves12_live m c t (by omega)]
  unfold PhiS
  iintro ⟨⟨⟨⟨%a, %ha, HS0⟩, ⟨%g, %hg, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  obtain rfl := ha (by omega)
  obtain rfl := hg (by omega)
  icases (owns_some c _ _) $$ H11 with ⟨%f13, H11⟩
  iapply ((runF c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) (fun h => h3 ((hcond5 t).mp h)) ((hcond6 t).mpr h4) (iblk m c 4 t) (iblk m c 5 t) (iblk m c 6 t) (iblk m c 7 t) (iblk m c 8 t) (iblk m c 9 t) (iblk m c 10 t) (stB m c t.val (Nat.le_of_lt t.isLt)).1 (stB m c t.val (Nat.le_of_lt t.isLt)).2 f13).2.2.2.2.2 Set.univ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS2]; · iexact HS2
  isplitl [HS1]; · iexact HS1
  isplitl [H12]
  · icases H12 with ⟨%d12, H12⟩; iexists _; iexact H12
  isplitl [H11]; · iexact H11
  iintro ⟨H4, H5, H6, H7, H8, H9, H10, ⟨%e0, HS0⟩, ⟨%e2, HS2⟩, ⟨%e1, HS1⟩, ⟨%e12, H12⟩, H11⟩
  obtain ⟨er, tl, es⟩ := runF_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) (fun h => h3 ((hcond5 t).mp h)) ((hcond6 t).mpr h4) (iblk m c 4 t) (iblk m c 5 t) (iblk m c 6 t) (iblk m c 7 t) (iblk m c 8 t) (iblk m c 9 t) (iblk m c 10 t) (stB m c t.val (Nat.le_of_lt t.isLt)).1 (stB m c t.val (Nat.le_of_lt t.isLt)).2 f13
  have eacc : (stB m c (t.val + 1) t.isLt).1 = _ := (stB_succ_fst m c t).trans ((dif_neg (by omega)).trans (dif_neg (by omega)))
  have edg : (stB m c (t.val + 1) t.isLt).2 = dgA (iblk m c 7 t) (iblk m c 9 t) (stB m c (t.val + 1) t.isLt).1 (stB m c t.val (Nat.le_of_lt t.isLt)).2 20 (le_refl _) :=
    (stB_succ_snd m c t).trans ((if_pos h2).trans (congrArg (fun g => dgA (iblk m c 7 t) (iblk m c 9 t) (stB m c (t.val + 1) t.isLt).1 g 20 (le_refl _)) (if_neg h3)))
  isplitl [HS0 HS1 HS2 Hg]
  · isplitl [HS0 HS1 HS2]
    · isplitl [HS0]
      · iexists (stB m c (t.val + 1) t.isLt).1; isplitr
        swap
        · unfold owns; iexists _; isplitr
          swap; · iexact HS0
          ipureintro; exact (((congrArg (fun l => VS0_0.read (Elt F) (VS0_0.writes (Elt F) _ l)) (runF_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) (fun h => h3 ((hcond5 t).mp h)) ((hcond6 t).mpr h4) (iblk m c 4 t) (iblk m c 5 t) (iblk m c 6 t) (iblk m c 7 t) (iblk m c 8 t) (iblk m c 9 t) (iblk m c 10 t) (stB m c t.val (Nat.le_of_lt t.isLt)).1 (stB m c t.val (Nat.le_of_lt t.isLt)).2 f13)).trans (View.read_writes_of_cover _ _ _ _ _ (coverC m c t _)))).trans eacc.symm
        ipureintro; exact fun _ => rfl
      isplitl [HS1]
      · iexists (stB m c (t.val + 1) t.isLt).2; isplitr
        swap
        · unfold owns; iexists _; isplitr
          swap; · iexact HS1
          ipureintro; rw [edg, eacc]; exact (congrArg (fun l => VS0_1.read (Elt F) (VS0_1.writes (Elt F) _ l)) es).trans (View.read_writes_full VS0_1 _ (off := ![0, 0]) inb_S8x4608_S8x4608_0_0 _ tl)
        ipureintro; exact fun _ => rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; rw [er, eacc]; exact View.read_writes_of_cover _ _ _ _ _ (coverRows _ _ _ _ _)
  unfold owns; iexists _; isplitr
  swap; · iexact H12
  ipureintro
  refine (congrArg (fun l => (ms0_12 t).view.read (Elt F) ((ms0_12 t).view.writes (Elt F) _ l)) (runF_sum c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => by have := (hcond1 t).mp h; omega) (fun h => by have := (hcond2 t).mp h; omega) ((hcond3 t).mpr (by omega)) ((hcond4 t).mpr h2) (fun h => h3 ((hcond5 t).mp h)) ((hcond6 t).mpr h4) (iblk m c 4 t) (iblk m c 5 t) (iblk m c 6 t) (iblk m c 7 t) (iblk m c 8 t) (iblk m c 9 t) (iblk m c 10 t) (stB m c t.val (Nat.le_of_lt t.isLt)).1 (stB m c t.val (Nat.le_of_lt t.isLt)).2 f13)).trans ((View.read_writes_full (ms0_12 t).view _ (off := ![0, 0]) inb_S1x4608_S1x4608_0_0 _ []).trans ?_)
  rw [edg, eacc]

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 34 = 0
  · exact bodyA m c t h0
  by_cases h1 : t.val % 34 < 16
  · exact bodyB m c t h0 h1
  by_cases h2 : t.val % 34 = 33
  · by_cases h3 : t.val < 34
    · exact bodyD m c t h2 h3
    by_cases h4 : 68 ≤ t.val
    · exact bodyF m c t h2 h3 h4
    · exact bodyE m c t h2 h3 h4
  · exact bodyC m c t h0 h1 h2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%a, HS0⟩, ⟨%g, HS1⟩, HS2⟩, Hg⟩
  isplitl [HS0 HS1 HS2]
  · isplitl [HS0]
    · iexists a; isplitr
      swap; · iexact HS0
      ipureintro; intro h; omega
    isplitl [HS1]
    · iexists g; isplitr
      swap; · iexact HS1
      ipureintro; intro h; omega
    iexact HS2
  iexact Hg

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N (le_refl _) from rfl, PhiA0_eq]
  unfold PhiS
  iintro ⟨⟨⟨%a, -, HS0⟩, ⟨%g, -, HS1⟩, HS2⟩, Hg⟩
  isplitl [HS0 HS1 HS2]
  · isplitl [HS0]
    · iexists a; iexact HS0
    isplitl [HS1]
    · iexists g; iexact HS1
    iexact HS2
  iexact Hg

/-! ## The run and the frame -/

set_option backward.isDefEq.respectTransparency.types false in
/-- The launch: the pipeline's arrays end at what the proof data computes, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The program terminates without a fault, its argument arrays unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Dx.Run

end
-- ==== Proof.AccVal.lean ====
module

public import proofs.«01_k».proof.Proof.DxFrame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen Cert.DxIdeal.Run

variable (m : (ℓ : Loc nD τ sig) → Buf (Elt Ideal) ℓ)

/-- One mlp chunk's part of the accumulator at row `r`, column `d`. -/
def mlpP (x0 : FVec Ideal S5x128x768 .fp8e5m2) (x1 : FVec Ideal S5x128x1 .f32) (x2 : FVec Ideal S1x768 .f32) (x3 : FVec Ideal S4608x768 .fp8e4m3) (r : Fin 640) (d : Fin 4608) : EReal :=
  (∑ k : Fin 768, x0 (ix3 (⟨r.val / 128, by omega⟩ : Fin 5) (⟨r.val % 128, by omega⟩ : Fin 128) k) * x2 (ix2 0 k) * x3 (ix2 d k))
    * x1 (ix3 (⟨r.val / 128, by omega⟩ : Fin 5) (⟨r.val % 128, by omega⟩ : Fin 128) 0)

/-- A row of the attention chunk's gradients, at its head and lane, times their scale. -/
def attL (x4 : FVec Ideal S5x6x128x128 .fp8e5m2) (x5 : FVec Ideal S6x1x128 .f32) (r : Fin 640) (k : Fin 768) : EReal :=
  x4 (ix4 (⟨r.val / 128, by omega⟩ : Fin 5) (⟨k.val / 128, by omega⟩ : Fin 6) (⟨r.val % 128, by omega⟩ : Fin 128) (⟨k.val % 128, by omega⟩ : Fin 128)) * x5 (ix3 (⟨k.val / 128, by omega⟩ : Fin 6) 0 (⟨k.val % 128, by omega⟩ : Fin 128))

/-- One attention chunk's part of the accumulator at row `r`, column `d`. -/
def attP (x4 : FVec Ideal S5x6x128x128 .fp8e5m2) (x5 : FVec Ideal S6x1x128 .f32) (x6 : FVec Ideal S6x4608x128 .fp8e4m3) (x7 : FVec Ideal S5x128x8 .f32) (r : Fin 640) (d : Fin 4608) : EReal :=
  (∑ k : Fin 768, attL x4 x5 r k * x6 (ix3 (⟨k.val / 128, by omega⟩ : Fin 6) d (⟨k.val % 128, by omega⟩ : Fin 128)))
    * x7 (ix3 (⟨r.val / 128, by omega⟩ : Fin 5) (⟨r.val % 128, by omega⟩ : Fin 128) 1)

set_option maxHeartbeats 2000000 in
/-- A later mlp chunk is added. -/
theorem accB (c : Dev nD) (t : Fin cfg0.N) (h0 : ¬t.val % 34 = 0) (h1 : t.val % 34 < 16) (x15 : Vec Ideal S640x4608 .f32) (y0 : Fin 640) (y1 : Fin 4608) : accOut m c t x15 (ix2 y0 y1) = x15 (ix2 y0 y1) + mlpP (iblk m c 0 t) (iblk m c 1 t) (iblk m c 2 t) (iblk m c 3 t) y0 y1 := by
  unfold accOut
  rw [dif_neg h0, dif_pos h1]
  unfold runB
  dsimp only
  frame_out
  try simp only [read_unread_whole, View.readCov_eq_canon']
  canon_tiles x h
  all_goals
    open_payloads
    pointwise [mlpP]
    have e0 : y0 = x 0 := Fin.ext h0
    have e1 := Fin.ext (a := y1) (b := ⟨_, lt_of_eq_of_lt h1.symm y1.isLt⟩) h1
    rw [e0, e1]

set_option maxHeartbeats 2000000 in
/-- The first mlp chunk starts the accumulator. -/
theorem accA (c : Dev nD) (t : Fin cfg0.N) (h0 : t.val % 34 = 0) (x15 : Vec Ideal S640x4608 .f32) (y0 : Fin 640) (y1 : Fin 4608) : accOut m c t x15 (ix2 y0 y1) = mlpP (iblk m c 0 t) (iblk m c 1 t) (iblk m c 2 t) (iblk m c 3 t) y0 y1 := by
  unfold accOut
  rw [dif_pos h0]
  unfold runA
  dsimp only
  frame_out
  try simp only [read_unread_whole, View.readCov_eq_canon']
  canon_tiles x h
  all_goals
    open_payloads
    pointwise [mlpP]
    have e0 : y0 = x 0 := Fin.ext h0
    have e1 := Fin.ext (a := y1) (b := ⟨_, lt_of_eq_of_lt h1.symm y1.isLt⟩) h1
    rw [e0, e1]

/-- The pieces of a row of six heads, joined. -/
theorem pick6 (x6 : FVec Ideal S6x4608x128 .fp8e4m3) (d : Fin 4608) (k : Fin 768) :
    (if h : k.val < 128 then x6 (ix3 0 d ⟨k.val, h⟩) else if h : k.val - 128 < 128 then x6 (ix3 1 d ⟨k.val - 128, h⟩) else if h : k.val - 128 - 128 < 128 then x6 (ix3 2 d ⟨k.val - 128 - 128, h⟩) else if h : k.val - 128 - 128 - 128 < 128 then x6 (ix3 3 d ⟨k.val - 128 - 128 - 128, h⟩) else if h : k.val - 128 - 128 - 128 - 128 < 128 then x6 (ix3 4 d ⟨k.val - 128 - 128 - 128 - 128, h⟩) else x6 (ix3 5 d ⟨k.val - 128 - 128 - 128 - 128 - 128, by omega⟩)) = x6 (ix3 (⟨k.val / 128, by omega⟩ : Fin 6) d (⟨k.val % 128, by omega⟩ : Fin 128)) := by
  have hk := k.isLt
  split_ifs <;> exact congrArg₂ (fun (n : Fin 6) (l : Fin 128) => x6 (ix3 n d l)) (Fin.ext (by simp; omega)) (Fin.ext (by simp; omega))

set_option maxHeartbeats 4000000 in
/-- An attention chunk is added. -/
theorem accC (c : Dev nD) (t : Fin cfg0.N) (h0 : ¬t.val % 34 = 0) (h1 : ¬t.val % 34 < 16) (x15 : Vec Ideal S640x4608 .f32) (y0 : Fin 640) (y1 : Fin 4608) : accOut m c t x15 (ix2 y0 y1) = x15 (ix2 y0 y1) + attP (iblk m c 4 t) (iblk m c 5 t) (iblk m c 6 t) (iblk m c 7 t) y0 y1 := by
  unfold accOut
  rw [dif_neg h0, dif_neg h1]
  frame_out
  simp only [read_unread_whole, View.readCov_eq_canon']
  generalize hq : View.canon (Val := Elt Ideal) (s := S640x768) (e := .bf16) _ = q
  have hq' (r : Fin 640) (k : Fin 768) : q (ix2 r k) = attL (iblk m c 4 t) (iblk m c 5 t) r k := by
    rw [← hq]
    canon_tiles x h
    all_goals
      open_payloads
      pointwise [attL]
      have e0 : r.val = x 0 := h0
      have e1 : k.val = _ := h1
      refine congrArg₂ (· * ·) (congrArg (iblk m c 4 t) ?_) (congrArg (iblk m c 5 t) ?_) <;> blk_ext
  clear hq
  canon_tiles x h
  all_goals
    open_payloads
    pointwise [attP]
    have e0 : y0 = x 0 := Fin.ext h0
    have e1 := Fin.ext (a := y1) (b := ⟨_, lt_of_eq_of_lt h1.symm y1.isLt⟩) h1
    rw [e0, e1]
    generalize iblk m c 6 t = w
    generalize iblk m c 7 t = w7
    refine congrArg₂ (· + ·) rfl (congrArg₂ (· * ·) (Finset.sum_congr rfl fun k _ => ?_) rfl)
    refine congrArg₂ (· * ·) (hq' _ k) ?_
    exact pick6 w ⟨_, lt_of_eq_of_lt h1.symm y1.isLt⟩ k

end Cert.DxIdeal.Value
-- ==== Proof.DxTok.lean ====
module

public import proofs.«01_k».proof.Proof.DxFrame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen Cert.DxIdeal.Run

variable (m : (ℓ : Loc nD τ sig) → Buf (Elt Ideal) ℓ)

/-- Column 0 of the host's table of token factors, of dy. -/
theorem tok0 (c : Dev nD) (b : Fin 5) (s : Fin 384) : V m c main_v9 (ix3 b s 0) = m ((c : Thread nD τ).loc main_arg1) (ix2 b s) := by
  unfold V
  after_results
  pointwise
  after_results_simp
  pointwise

/-- Column 1 of the host's table of token factors, of dqkv. -/
theorem tok1 (c : Dev nD) (b : Fin 5) (s : Fin 384) : V m c main_v9 (ix3 b s 1) = m ((c : Thread nD τ).loc main_arg3) (ix2 b s) := by
  unfold V
  after_results
  pointwise
  after_results_simp
  pointwise

/-- Column 2 of the host's table of token factors, of the activations. -/
theorem tok2 (c : Dev nD) (b : Fin 5) (s : Fin 384) : V m c main_v9 (ix3 b s 2) = m ((c : Thread nD τ).loc main_arg5) (ix2 b s) := by
  unfold V
  after_results
  pointwise
  after_results_simp
  pointwise

/-- Column 3 of the host's table of token factors, of the norm. -/
theorem tok3 (c : Dev nD) (b : Fin 5) (s : Fin 384) : V m c main_v9 (ix3 b s 3) = m ((c : Thread nD τ).loc main_arg6) (ix2 b s) := by
  unfold V
  after_results
  pointwise
  after_results_simp
  pointwise

/-- The attention gradient's codes as the host hands them over, a head at a time. -/
theorem cod (c : Dev nD) (b : Fin 5) (n : Fin 108) (s : Fin 384) (h : Fin 128) : V m c main_v11 (ix4 b n s h) = m ((c : Thread nD τ).loc main_arg2) (ix5 b s (⟨n.val / 36, by omega⟩ : Fin 3) (⟨n.val % 36, by omega⟩ : Fin 36) h) := by
  unfold V
  after_results
  pointwise

/-- The attention weights as the host hands them over, a head at a time. -/
theorem wq (c : Dev nD) (n : Fin 108) (d : Fin 4608) (h : Fin 128) : V m c main_v13 (ix3 n d h) = m ((c : Thread nD τ).loc main_arg12) (ix4 d (⟨n.val / 36, by omega⟩ : Fin 3) (⟨n.val % 36, by omega⟩ : Fin 36) h) := by
  unfold V
  after_results
  pointwise

/-- The scales of the mlp gradient's codes. -/
theorem das (c : Dev nD) (b : Fin 5) (s : Fin 384) : V m c main_v14 (ix3 b s 0) = m ((c : Thread nD τ).loc main_arg15) (ix2 b s) := by
  unfold V
  after_results
  pointwise

/-- The mlp weights' scales, as a row. -/
theorem sin (c : Dev nD) (f : Fin 12288) : V m c main_v15 (ix2 0 f) = m ((c : Thread nD τ).loc main_arg11) (ix1 f) := by
  unfold V
  after_results
  pointwise

/-- The attention weights' scales, a head at a time. -/
theorem sq (c : Dev nD) (n : Fin 108) (h : Fin 128) : V m c main_v16 (ix3 n 0 h) = m ((c : Thread nD τ).loc main_arg13) (ix3 (⟨n.val / 36, by omega⟩ : Fin 3) (⟨n.val % 36, by omega⟩ : Fin 36) h) := by
  unfold V
  after_results
  pointwise

/-- The gains, as a row. -/
theorem gam (c : Dev nD) (d : Fin 4608) : V m c main_v17 (ix2 0 d) = m ((c : Thread nD τ).loc main_arg7) (ix1 d) := by
  unfold V
  after_results
  pointwise

/-- The grid has so many points. -/
theorem n_eq (t : Fin cfg0.N) : t.val < 102 := lt_of_lt_of_eq t.isLt N_0

/-- Which block of each array every grid point's windows show. -/
theorem idx : ∀ t : Fin cfg0.N, win0_0.index t = ![0, t.val / 34, min (t.val % 34) 15] ∧ win0_1.index t = ![0, t.val / 34, 0]
    ∧ win0_2.index t = ![0, min (t.val % 34) 15] ∧ win0_3.index t = ![0, min (t.val % 34) 15] ∧ win0_4.index t = ![0, t.val % 34 - 16, t.val / 34, 0]
    ∧ win0_5.index t = ![t.val % 34 - 16, 0, 0] ∧ win0_6.index t = ![t.val % 34 - 16, 0, 0] ∧ win0_7.index t = ![0, t.val / 34, 0]
    ∧ win0_8.index t = ![0, 0] ∧ win0_9.index t = ![0, t.val / 34, 0] ∧ win0_10.index t = ![0, t.val / 34, 0]
    ∧ win0_11.index t = ![0, t.val / 34, 0] ∧ win0_12.index t = ![0, 0] :=
  (by decide +kernel : ∀ t : Fin grid0.N, _)

/-- A chunk of the mlp gradient's codes. -/
theorem blk0 (c : Dev nD) (t : Fin cfg0.N) (i : ℕ) (hi : i < 3) (κ : ℕ) (hk : κ < 16) (ht : t.val = 34 * i + κ) (b : Fin 5) (s : Fin 128) (k : Fin 768) :
    iblk m c 0 t (ix3 b s k) = m ((c : Thread nD τ).loc main_arg14) (ix3 b (⟨i * 128 + s.val, by omega⟩ : Fin 384) (⟨κ * 768 + k.val, by omega⟩ : Fin 12288)) := by
  blk_ext [iblk, V, idx t]

/-- Their scales. -/
theorem blk1 (c : Dev nD) (t : Fin cfg0.N) (i : ℕ) (hi : i < 3) (ht : t.val / 34 = i) (b : Fin 5) (s : Fin 128) :
    iblk m c 1 t (ix3 b s 0) = m ((c : Thread nD τ).loc main_arg15) (ix2 b (⟨i * 128 + s.val, by omega⟩ : Fin 384)) := by
  refine Eq.trans ?_ (das m c b ⟨i * 128 + s.val, by omega⟩)
  blk_ext [iblk, idx t]

/-- A chunk of the mlp weights' scales. -/
theorem blk2 (c : Dev nD) (t : Fin cfg0.N) (i : ℕ) (hi : i < 3) (κ : ℕ) (hk : κ < 16) (ht : t.val = 34 * i + κ) (k : Fin 768) :
    iblk m c 2 t (ix2 0 k) = m ((c : Thread nD τ).loc main_arg11) (ix1 (⟨κ * 768 + k.val, by omega⟩ : Fin 12288)) := by
  refine Eq.trans ?_ (sin m c ⟨κ * 768 + k.val, by omega⟩)
  blk_ext [iblk, idx t]

/-- A chunk of the mlp weights. -/
theorem blk3 (c : Dev nD) (t : Fin cfg0.N) (i : ℕ) (hi : i < 3) (κ : ℕ) (hk : κ < 16) (ht : t.val = 34 * i + κ) (d : Fin 4608) (k : Fin 768) :
    iblk m c 3 t (ix2 d k) = m ((c : Thread nD τ).loc main_arg10) (ix2 d (⟨κ * 768 + k.val, by omega⟩ : Fin 12288)) := by
  blk_ext [iblk, V, idx t]

/-- Six heads of the attention gradient's codes. -/
theorem blk4 (c : Dev nD) (t : Fin cfg0.N) (i : ℕ) (hi : i < 3) (κ : ℕ) (hk : κ < 18) (ht : t.val = 34 * i + (16 + κ)) (b : Fin 5) (n : Fin 6) (s : Fin 128) (h : Fin 128) :
    iblk m c 4 t (ix4 b n s h) = m ((c : Thread nD τ).loc main_arg2) (ix5 b (⟨i * 128 + s.val, by omega⟩ : Fin 384) (⟨(κ * 6 + n.val) / 36, by omega⟩ : Fin 3) (⟨(κ * 6 + n.val) % 36, by omega⟩ : Fin 36) h) := by
  refine Eq.trans ?_ (cod m c b ⟨κ * 6 + n.val, by omega⟩ ⟨i * 128 + s.val, by omega⟩ h)
  blk_ext [iblk, idx t]

/-- Six heads of the attention weights' scales. -/
theorem blk5 (c : Dev nD) (t : Fin cfg0.N) (i : ℕ) (hi : i < 3) (κ : ℕ) (hk : κ < 18) (ht : t.val = 34 * i + (16 + κ)) (n : Fin 6) (h : Fin 128) :
    iblk m c 5 t (ix3 n 0 h) = m ((c : Thread nD τ).loc main_arg13) (ix3 (⟨(κ * 6 + n.val) / 36, by omega⟩ : Fin 3) (⟨(κ * 6 + n.val) % 36, by omega⟩ : Fin 36) h) := by
  refine Eq.trans ?_ (sq m c ⟨κ * 6 + n.val, by omega⟩ h)
  blk_ext [iblk, idx t]

/-- Six heads of the attention weights. -/
theorem blk6 (c : Dev nD) (t : Fin cfg0.N) (i : ℕ) (hi : i < 3) (κ : ℕ) (hk : κ < 18) (ht : t.val = 34 * i + (16 + κ)) (n : Fin 6) (d : Fin 4608) (h : Fin 128) :
    iblk m c 6 t (ix3 n d h) = m ((c : Thread nD τ).loc main_arg12) (ix4 d (⟨(κ * 6 + n.val) / 36, by omega⟩ : Fin 3) (⟨(κ * 6 + n.val) % 36, by omega⟩ : Fin 36) h) := by
  refine Eq.trans ?_ (wq m c ⟨κ * 6 + n.val, by omega⟩ d h)
  blk_ext [iblk, idx t]

/-- A tile of the token factors: the incoming gradient's scale. -/
theorem blk7_0 (c : Dev nD) (t : Fin cfg0.N) (i : ℕ) (hi : i < 3) (ht : t.val / 34 = i) (b : Fin 5) (s : Fin 128) :
    iblk m c 7 t (ix3 b s 0) = m ((c : Thread nD τ).loc main_arg1) (ix2 b (⟨i * 128 + s.val, by omega⟩ : Fin 384)) := by
  refine Eq.trans ?_ (tok0 m c b ⟨i * 128 + s.val, by omega⟩)
  blk_ext [iblk, idx t]

/-- A tile of the token factors: the attention gradient's scale. -/
theorem blk7_1 (c : Dev nD) (t : Fin cfg0.N) (i : ℕ) (hi : i < 3) (ht : t.val / 34 = i) (b : Fin 5) (s : Fin 128) :
    iblk m c 7 t (ix3 b s 1) = m ((c : Thread nD τ).loc main_arg3) (ix2 b (⟨i * 128 + s.val, by omega⟩ : Fin 384)) := by
  refine Eq.trans ?_ (tok1 m c b ⟨i * 128 + s.val, by omega⟩)
  blk_ext [iblk, idx t]

/-- A tile of the token factors: the activations' scale. -/
theorem blk7_2 (c : Dev nD) (t : Fin cfg0.N) (i : ℕ) (hi : i < 3) (ht : t.val / 34 = i) (b : Fin 5) (s : Fin 128) :
    iblk m c 7 t (ix3 b s 2) = m ((c : Thread nD τ).loc main_arg5) (ix2 b (⟨i * 128 + s.val, by omega⟩ : Fin 384)) := by
  refine Eq.trans ?_ (tok2 m c b ⟨i * 128 + s.val, by omega⟩)
  blk_ext [iblk, idx t]

/-- A tile of the token factors: the norm's scale. -/
theorem blk7_3 (c : Dev nD) (t : Fin cfg0.N) (i : ℕ) (hi : i < 3) (ht : t.val / 34 = i) (b : Fin 5) (s : Fin 128) :
    iblk m c 7 t (ix3 b s 3) = m ((c : Thread nD τ).loc main_arg6) (ix2 b (⟨i * 128 + s.val, by omega⟩ : Fin 384)) := by
  refine Eq.trans ?_ (tok3 m c b ⟨i * 128 + s.val, by omega⟩)
  blk_ext [iblk, idx t]

/-- The gains. -/
theorem blk8 (c : Dev nD) (t : Fin cfg0.N)  (d : Fin 4608) :
    iblk m c 8 t (ix2 0 d) = m ((c : Thread nD τ).loc main_arg7) (ix1 d) := by
  refine Eq.trans ?_ (gam m c d)
  blk_ext [iblk, idx t]

/-- A tile of the normalised activations. -/
theorem blk9 (c : Dev nD) (t : Fin cfg0.N) (i : ℕ) (hi : i < 3) (ht : t.val / 34 = i) (b : Fin 5) (s : Fin 128) (d : Fin 4608) :
    iblk m c 9 t (ix3 b s d) = m ((c : Thread nD τ).loc main_arg4) (ix3 b (⟨i * 128 + s.val, by omega⟩ : Fin 384) d) := by
  blk_ext [iblk, V, idx t]

/-- A tile of the incoming gradient. -/
theorem blk10 (c : Dev nD) (t : Fin cfg0.N) (i : ℕ) (hi : i < 3) (ht : t.val / 34 = i) (b : Fin 5) (s : Fin 128) (d : Fin 4608) :
    iblk m c 10 t (ix3 b s d) = m ((c : Thread nD τ).loc main_arg0) (ix3 b (⟨i * 128 + s.val, by omega⟩ : Fin 384) d) := by
  blk_ext [iblk, V, idx t]

end Cert.DxIdeal.Value
-- ==== Proof.DxDefs.lean ====
module

public import proofs.«01_k».proof.DxIdeal
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal

/-- A sum over `a * n` indices, as `a` sums over `n`. -/
theorem sumSplit {M : Type} [AddCommMonoid M] {N : ℕ} (a n : ℕ) (h : N = a * n) (f : Fin N → M) :
    ∑ t, f t = ∑ i : Fin a, ∑ j : Fin n, f ⟨i.val * n + j.val, by
      have h1 := Nat.mul_le_mul_right n i.isLt
      have h2 := j.isLt
      rw [Nat.succ_mul] at h1
      omega⟩ := by
  subst h
  rw [← finProdFinEquiv.sum_comp, Fintype.sum_prod_type]
  refine Finset.sum_congr rfl fun i _ => Finset.sum_congr rfl fun j _ => congrArg f (Fin.ext ?_)
  change j.val + n * i.val = i.val * n + j.val
  rw [Nat.mul_comm, Nat.add_comm]

/-- A factor that is neither negative nor infinite distributes over a sum. -/
theorem sumMul {ι : Type} (S : Finset ι) (f : ι → EReal) (s : EReal) (h0 : 0 ≤ s) (h1 : s ≠ ⊤) : (∑ i ∈ S, f i) * s = ∑ i ∈ S, f i * s := by
  classical
  induction S using Finset.induction_on with
  | empty => simp
  | insert a S ha ih => rw [Finset.sum_insert ha, Finset.sum_insert ha, EReal.right_distrib_of_nonneg_of_ne_top h0 h1, ih]

/-- One row of the norm's backward pass and the residual's gradient, at column `d`: `D` the gradient at the norm's output,
    `X` the normalised activations, `G` the gains, `rs` the norm's scale, `dy * ds` the residual's gradient. -/
def norm (D X G : Fin 4608 → EReal) (rs dy ds : EReal) (d : Fin 4608) : EReal :=
  dy * ds + rs * (D d * G d - Ideal.div (∑ k, D k * G k) (Ideal.ofBits FTy.f32 0x45900000#32)
    - X d * Ideal.div (∑ k, D k * G k * X k) (Ideal.ofBits FTy.f32 0x45900000#32))

/-- The gradient that comes back through the mlp's input projection. -/
def mlp (a10 : FVec Ideal S4608x12288 .fp8e4m3) (a11 : FVec Ideal S12288 .f32) (a14 : FVec Ideal S5x384x12288 .fp8e5m2) (a15 : FVec Ideal S5x384 .f32)
    (b : Fin 5) (s : Fin 384) (d : Fin 4608) : EReal :=
  (∑ f : Fin 12288, a14 (ix3 b s f) * (a10 (ix2 d f) * a11 (ix1 f))) * a15 (ix2 b s)

/-- The gradient that comes back through the attention's input projection. -/
def att (a2 : FVec Ideal S5x384x3x36x128 .fp8e5m2) (a3 : FVec Ideal S5x384 .f32) (a12 : FVec Ideal S4608x3x36x128 .fp8e4m3) (a13 : FVec Ideal S3x36x128 .f32)
    (b : Fin 5) (s : Fin 384) (d : Fin 4608) : EReal :=
  (∑ u : Fin 13824, a2 (ix5 b s (⟨u.val / 4608, by omega⟩ : Fin 3) (⟨u.val / 128 % 36, by omega⟩ : Fin 36) (⟨u.val % 128, by omega⟩ : Fin 128))
    * (a12 (ix4 d (⟨u.val / 4608, by omega⟩ : Fin 3) (⟨u.val / 128 % 36, by omega⟩ : Fin 36) (⟨u.val % 128, by omega⟩ : Fin 128))
      * a13 (ix3 (⟨u.val / 4608, by omega⟩ : Fin 3) (⟨u.val / 128 % 36, by omega⟩ : Fin 36) (⟨u.val % 128, by omega⟩ : Fin 128)))) * a3 (ix2 b s)

/-- The gradient at the norm's output. -/
def dh (a2 : FVec Ideal S5x384x3x36x128 .fp8e5m2) (a3 : FVec Ideal S5x384 .f32) (a10 : FVec Ideal S4608x12288 .fp8e4m3) (a11 : FVec Ideal S12288 .f32)
    (a12 : FVec Ideal S4608x3x36x128 .fp8e4m3) (a13 : FVec Ideal S3x36x128 .f32) (a14 : FVec Ideal S5x384x12288 .fp8e5m2) (a15 : FVec Ideal S5x384 .f32)
    (b : Fin 5) (s : Fin 384) (d : Fin 4608) : EReal :=
  mlp a10 a11 a14 a15 b s d + att a2 a3 a12 a13 b s d

/-- The gradient at the block's input, from the gradient `D` at the norm's output. -/
def dxG (D : Fin 5 → Fin 384 → Fin 4608 → EReal) (a0 : FVec Ideal S5x384x4608 .fp8e5m2) (a1 : FVec Ideal S5x384 .f32) (a4 : FVec Ideal S5x384x4608 .fp8e4m3)
    (a5 a6 : FVec Ideal S5x384 .f32) (a7 : FVec Ideal S4608 .f32) : FVec Ideal S5x384x4608 .bf16 :=
  fun y => norm (D (y 0) (y 1)) (fun k => a4 (ix3 (y 0) (y 1) k) * a5 (ix2 (y 0) (y 1))) (fun k => a7 (ix1 k)) (a6 (ix2 (y 0) (y 1)))
    (a0 (ix3 (y 0) (y 1) (y 2))) (a1 (ix2 (y 0) (y 1))) (y 2)

/-- The gains' gradient, from the gradient `D` at the norm's output. -/
def dgG (D : Fin 5 → Fin 384 → Fin 4608 → EReal) (a4 : FVec Ideal S5x384x4608 .fp8e4m3) (a5 : FVec Ideal S5x384 .f32) : FVec Ideal S1x4608 .f32 :=
  fun y => ∑ t : Fin 1920, D (⟨t.val / 384, by omega⟩ : Fin 5) (⟨t.val % 384, by omega⟩ : Fin 384) (y 1)
    * (a4 (ix3 (⟨t.val / 384, by omega⟩ : Fin 5) (⟨t.val % 384, by omega⟩ : Fin 384) (y 1)) * a5 (ix2 (⟨t.val / 384, by omega⟩ : Fin 5) (⟨t.val % 384, by omega⟩ : Fin 384)))

end Cert.DxIdeal.Value
-- ==== Proof.DxSums.lean ====
module

public import proofs.«01_k».proof.Proof.DxDefs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal

/-- The mlp's gradient, as a sum of chunks that each take the scale. -/
theorem mlp_split (a10 : FVec Ideal S4608x12288 .fp8e4m3) (a11 : FVec Ideal S12288 .f32) (a14 : FVec Ideal S5x384x12288 .fp8e5m2) (a15 : FVec Ideal S5x384 .f32)
    (b : Fin 5) (s : Fin 384) (d : Fin 4608) (h0 : (0 : EReal) ≤ a15 (ix2 b s)) (h1 : a15 (ix2 b s) ≠ (⊤ : EReal)) : mlp a10 a11 a14 a15 b s d
      = ∑ κ : Fin 16, (∑ k : Fin 768, a14 (ix3 b s (⟨κ.val * 768 + k.val, by omega⟩ : Fin 12288)) * (a10 (ix2 d (⟨κ.val * 768 + k.val, by omega⟩ : Fin 12288))
          * a11 (ix1 (⟨κ.val * 768 + k.val, by omega⟩ : Fin 12288)))) * a15 (ix2 b s) := by
  unfold mlp
  rw [sumSplit (N := 12288) 16 768 rfl]
  exact sumMul _ _ _ h0 h1

/-- The attention's gradient, as a sum of chunks of six heads that each take the scale. -/
theorem att_split (a2 : FVec Ideal S5x384x3x36x128 .fp8e5m2) (a3 : FVec Ideal S5x384 .f32) (a12 : FVec Ideal S4608x3x36x128 .fp8e4m3) (a13 : FVec Ideal S3x36x128 .f32)
    (b : Fin 5) (s : Fin 384) (d : Fin 4608) (h0 : (0 : EReal) ≤ a3 (ix2 b s)) (h1 : a3 (ix2 b s) ≠ (⊤ : EReal)) : att a2 a3 a12 a13 b s d
      = ∑ κ : Fin 18, (∑ k : Fin 768, a2 (ix5 b s (⟨(κ.val * 6 + k.val / 128) / 36, by omega⟩ : Fin 3) (⟨(κ.val * 6 + k.val / 128) % 36, by omega⟩ : Fin 36) (⟨k.val % 128, by omega⟩ : Fin 128))
          * (a12 (ix4 d (⟨(κ.val * 6 + k.val / 128) / 36, by omega⟩ : Fin 3) (⟨(κ.val * 6 + k.val / 128) % 36, by omega⟩ : Fin 36) (⟨k.val % 128, by omega⟩ : Fin 128))
            * a13 (ix3 (⟨(κ.val * 6 + k.val / 128) / 36, by omega⟩ : Fin 3) (⟨(κ.val * 6 + k.val / 128) % 36, by omega⟩ : Fin 36) (⟨k.val % 128, by omega⟩ : Fin 128)))) * a3 (ix2 b s) := by
  unfold att
  rw [sumSplit (N := 13824) 18 768 rfl]
  refine (sumMul _ _ _ h0 h1).trans (Finset.sum_congr rfl fun κ _ => congrArg₂ (· * ·) (Finset.sum_congr rfl fun k _ => ?_) rfl)
  have e1 : (⟨(κ.val * 768 + k.val) / 4608, by omega⟩ : Fin 3) = ⟨(κ.val * 6 + k.val / 128) / 36, by omega⟩ := Fin.ext (by simp; omega)
  have e2 : (⟨(κ.val * 768 + k.val) / 128 % 36, by omega⟩ : Fin 36) = ⟨(κ.val * 6 + k.val / 128) % 36, by omega⟩ := Fin.ext (by simp; omega)
  have e3 : (⟨(κ.val * 768 + k.val) % 128, by omega⟩ : Fin 128) = ⟨k.val % 128, by omega⟩ := Fin.ext (by simp; omega)
  rw [e1, e2, e3]

/-- The gains' gradient, tile by tile. -/
theorem dgG_split (D : Fin 5 → Fin 384 → Fin 4608 → EReal) (a4 : FVec Ideal S5x384x4608 .fp8e4m3) (a5 : FVec Ideal S5x384 .f32) (d : Fin 4608) :
    dgG D a4 a5 (ix2 0 d) = ∑ i : Fin 3, ∑ b : Fin 5, ∑ s : Fin 128, D b (⟨i.val * 128 + s.val, by omega⟩ : Fin 384) d
      * (a4 (ix3 b (⟨i.val * 128 + s.val, by omega⟩ : Fin 384) d) * a5 (ix2 b (⟨i.val * 128 + s.val, by omega⟩ : Fin 384))) := by
  unfold dgG
  rw [sumSplit (N := 1920) 5 384 rfl, Finset.sum_comm]
  refine Finset.sum_comm.trans (Eq.trans ?_ Finset.sum_comm)
  refine Finset.sum_congr rfl fun b _ => ?_
  rw [sumSplit (N := 384) 3 128 rfl]
  refine Finset.sum_congr rfl fun i _ => Finset.sum_congr rfl fun s _ => ?_
  have e1 : (⟨(b.val * 384 + (i.val * 128 + s.val)) / 384, by omega⟩ : Fin 5) = b := Fin.ext (by simp; omega)
  have e2 : (⟨(b.val * 384 + (i.val * 128 + s.val)) % 384, by omega⟩ : Fin 384) = ⟨i.val * 128 + s.val, by omega⟩ := Fin.ext (by simp; omega)
  rw [e1, e2]
  rfl

end Cert.DxIdeal.Value
-- ==== Proof.DxAcc.lean ====
module

public import proofs.«01_k».proof.Proof.AccVal
public import proofs.«01_k».proof.Proof.DxTok
public import proofs.«01_k».proof.Proof.DxSums
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen Cert.DxIdeal.Run

variable (m : (ℓ : Loc nD τ sig) → Buf (Elt Ideal) ℓ)

/-- A chunk of the mlp's gradient, its weights first taken with their scales. -/
theorem mlpP_eq (x0 : FVec Ideal S5x128x768 .fp8e5m2) (x1 : FVec Ideal S5x128x1 .f32) (x2 : FVec Ideal S1x768 .f32) (x3 : FVec Ideal S4608x768 .fp8e4m3) (r : Fin 640) (d : Fin 4608)
    (f g h : Fin 768 → EReal) (z : EReal) (hf : ∀ k, x0 (ix3 (⟨r.val / 128, by omega⟩ : Fin 5) (⟨r.val % 128, by omega⟩ : Fin 128) k) = f k) (hg : ∀ k, x3 (ix2 d k) = g k)
    (hh : ∀ k, x2 (ix2 0 k) = h k) (hz : x1 (ix3 (⟨r.val / 128, by omega⟩ : Fin 5) (⟨r.val % 128, by omega⟩ : Fin 128) 0) = z) :
    mlpP x0 x1 x2 x3 r d = (∑ k, f k * (g k * h k)) * z := by
  unfold mlpP
  refine congrArg₂ (· * ·) (Finset.sum_congr rfl fun k _ => ?_) hz
  rw [mul_comm (g k), ← mul_assoc]
  exact congrArg₂ (· * ·) (congrArg₂ (· * ·) (hf k) (hh k)) (hg k)

/-- A chunk of the attention's gradient, its weights first taken with their scales. -/
theorem attP_eq (x4 : FVec Ideal S5x6x128x128 .fp8e5m2) (x5 : FVec Ideal S6x1x128 .f32) (x6 : FVec Ideal S6x4608x128 .fp8e4m3) (x7 : FVec Ideal S5x128x8 .f32) (r : Fin 640) (d : Fin 4608)
    (f g h : Fin 768 → EReal) (z : EReal)
    (hf : ∀ k : Fin 768, x4 (ix4 (⟨r.val / 128, by omega⟩ : Fin 5) (⟨k.val / 128, by omega⟩ : Fin 6) (⟨r.val % 128, by omega⟩ : Fin 128) (⟨k.val % 128, by omega⟩ : Fin 128)) = f k)
    (hg : ∀ k : Fin 768, x6 (ix3 (⟨k.val / 128, by omega⟩ : Fin 6) d (⟨k.val % 128, by omega⟩ : Fin 128)) = g k)
    (hh : ∀ k : Fin 768, x5 (ix3 (⟨k.val / 128, by omega⟩ : Fin 6) 0 (⟨k.val % 128, by omega⟩ : Fin 128)) = h k)
    (hz : x7 (ix3 (⟨r.val / 128, by omega⟩ : Fin 5) (⟨r.val % 128, by omega⟩ : Fin 128) 1) = z) :
    attP x4 x5 x6 x7 r d = (∑ k, f k * (g k * h k)) * z := by
  unfold attP attL
  refine congrArg₂ (· * ·) (Finset.sum_congr rfl fun k _ => ?_) hz
  rw [mul_comm (g k), ← mul_assoc]
  exact congrArg₂ (· * ·) (congrArg₂ (· * ·) (hf k) (hh k)) (hg k)

/-- What point `t` adds to the accumulator. -/
def part (c : Dev nD) (t : Fin cfg0.N) (r : Fin 640) (d : Fin 4608) : EReal :=
  if t.val % 34 < 16 then mlpP (iblk m c 0 t) (iblk m c 1 t) (iblk m c 2 t) (iblk m c 3 t) r d
  else attP (iblk m c 4 t) (iblk m c 5 t) (iblk m c 6 t) (iblk m c 7 t) r d

theorem lt_N {n : ℕ} (h : n < 102) : n < cfg0.N := lt_of_lt_of_eq h (show (102 : ℕ) = cfg0.N from N_0.symm)

/-- The accumulator after point `k` of tile `i`: the sum of what the tile's points up to it add. -/
theorem acc_sum (c : Dev nD) (i : ℕ) (hi : i < 3) (r : Fin 640) (d : Fin 4608) : ∀ (k : ℕ) (hk : k < 34),
    (stB m c (34 * i + k + 1) (lt_N (by omega))).1 (ix2 r d) = ∑ κ : Fin (k + 1), part m c ⟨34 * i + κ.val, lt_N (by omega)⟩ r d
  | 0, hk => by
    have h0 : (⟨34 * i + 0, lt_N (by omega)⟩ : Fin cfg0.N).val % 34 = 0 := by simp
    rw [Fin.sum_univ_one]
    refine (accA m c ⟨34 * i + 0, lt_N (by omega)⟩ h0 _ r d).trans ?_
    unfold part
    exact (if_pos (by simp)).symm
  | k + 1, hk => by
    have h0 : ¬(⟨34 * i + (k + 1), lt_N (by omega)⟩ : Fin cfg0.N).val % 34 = 0 := by simp; omega
    rw [Fin.sum_univ_castSucc]
    refine Eq.trans ?_ (congrArg₂ (· + ·) (acc_sum c i hi r d k (by omega)) rfl)
    unfold part
    by_cases h1 : (⟨34 * i + (k + 1), lt_N (by omega)⟩ : Fin cfg0.N).val % 34 < 16
    · refine (accB m c ⟨34 * i + (k + 1), lt_N (by omega)⟩ h0 h1 _ r d).trans (congrArg₂ (· + ·) rfl ?_)
      exact (if_pos h1).symm
    · refine (accC m c ⟨34 * i + (k + 1), lt_N (by omega)⟩ h0 h1 _ r d).trans (congrArg₂ (· + ·) rfl ?_)
      exact (if_neg h1).symm

/-- The gradient at the norm's output, of the launched arrays. -/
def DH (c : Dev nD) : Fin 5 → Fin 384 → Fin 4608 → EReal :=
  dh (m ((c : Thread nD τ).loc main_arg2)) (m ((c : Thread nD τ).loc main_arg3)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))

/-- No scale is negative or infinite. -/
def Tame (c : Dev nD) : Prop := ∀ (b : Fin 5) (s : Fin 384),
  ((0 : EReal) ≤ (m ((c : Thread nD τ).loc main_arg3) : FVec Ideal S5x384 .f32) (ix2 b s) ∧ (m ((c : Thread nD τ).loc main_arg3) : FVec Ideal S5x384 .f32) (ix2 b s) ≠ (⊤ : EReal))
    ∧ ((0 : EReal) ≤ (m ((c : Thread nD τ).loc main_arg15) : FVec Ideal S5x384 .f32) (ix2 b s) ∧ (m ((c : Thread nD τ).loc main_arg15) : FVec Ideal S5x384 .f32) (ix2 b s) ≠ (⊤ : EReal))

/-- The accumulator after a tile's last point is the gradient at the norm's output. -/
theorem acc_at (c : Dev nD) (hT : Tame m c) (i : ℕ) (hi : i < 3) (r : Fin 640) (d : Fin 4608) :
    (stB m c (34 * i + 33 + 1) (lt_N (by omega))).1 (ix2 r d) = DH m c (⟨r.val / 128, by omega⟩ : Fin 5) (⟨i * 128 + r.val % 128, by omega⟩ : Fin 384) d := by
  obtain ⟨⟨h30, h31⟩, h150, h151⟩ := hT (⟨r.val / 128, by omega⟩ : Fin 5) (⟨i * 128 + r.val % 128, by omega⟩ : Fin 384)
  rw [acc_sum m c i hi r d 33 (by omega)]
  unfold DH dh
  rw [mlp_split _ _ _ _ _ _ _ h150 h151, att_split _ _ _ _ _ _ _ h30 h31]
  refine (Fin.sum_univ_add (a := 16) (b := 18) (fun κ : Fin (16 + 18) => part m c ⟨34 * i + κ.val, lt_N (by omega)⟩ r d)).trans ?_
  refine congrArg₂ (· + ·) (Finset.sum_congr rfl fun κ _ => ?_) (Finset.sum_congr rfl fun κ _ => ?_)
  · have hk := κ.isLt
    unfold part
    refine (if_pos (by simp; omega)).trans ?_
    exact mlpP_eq _ _ _ _ r d _ _ _ _ (fun k => blk0 m c _ i hi κ.val hk rfl _ _ k) (fun k => blk3 m c _ i hi κ.val hk rfl d k)
      (fun k => blk2 m c _ i hi κ.val hk rfl k) (blk1 m c _ i hi (by simp; omega) _ _)
  · have hk := κ.isLt
    unfold part
    refine (if_neg (by simp; omega)).trans ?_
    exact attP_eq _ _ _ _ r d _ _ _ _ (fun k => blk4 m c _ i hi κ.val hk rfl _ _ _ _) (fun k => blk6 m c _ i hi κ.val hk rfl _ d _)
      (fun k => blk5 m c _ i hi κ.val hk rfl _ _) (blk7_1 m c _ i hi (by simp; omega) _ _)

end Cert.DxIdeal.Value
-- ==== Proof.DxPay.lean ====
module

public import proofs.«01_k».proof.Proof.DxLoop
public import proofs.«01_k».proof.Proof.DxDefs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen Cert.DxIdeal.Run

/-- One group's row of the result. -/
theorem dxVal_at (acc : FVec Ideal S32x4608 .f32) (xh : FVec Ideal S1x32x4608 .fp8e4m3) (t2 t3 t0 : FVec Ideal S1x32x1 .f32) (ga : FVec Ideal S1x4608 .f32)
    (dy : FVec Ideal S1x32x4608 .fp8e5m2) (y : Fin 32) (d : Fin 4608) : dxVal (F := Ideal) acc xh t2 t3 t0 ga dy (ix3 0 y d)
      = norm (fun k => acc (ix2 y k)) (fun k => xh (ix3 0 y k) * t2 (ix3 0 y 0)) (fun k => ga (ix2 0 k)) (t3 (ix3 0 y 0)) (dy (ix3 0 y d)) (t0 (ix3 0 y 0)) d := by
  unfold dxVal
  open_payloads
  pointwise [norm]

/-- A group's products, added to the partial sums. -/
theorem pay68_at (acc : FVec Ideal S32x4608 .f32) (xh : FVec Ideal S1x32x4608 .fp8e4m3) (t2 : FVec Ideal S1x32x1 .f32) (g : FVec Ideal S8x4608 .f32) (y : Fin 8) (d : Fin 4608) :
    k0_pay68 acc xh t2 g (ix2 y d) = g (ix2 y d) + ∑ q : Fin 4, acc (ix2 (⟨q.val * 8 + y.val, by omega⟩ : Fin 32) d) * (xh (ix3 0 (⟨q.val * 8 + y.val, by omega⟩ : Fin 32) d) * t2 (ix3 0 (⟨q.val * 8 + y.val, by omega⟩ : Fin 32) 0)) := by
  open_payloads
  pointwise

/-- The partial sums, added up. -/
theorem pay13_at (g : FVec Ideal S8x4608 .f32) (d : Fin 4608) : k0_pay13 g (ix2 0 d) = ∑ y : Fin 8, g (ix2 y d) := by
  open_payloads
  pointwise

/-- The partial sums start at zero. -/
theorem pay7_at (y : Fin 8) (d : Fin 4608) : k0_pay7 (F := Ideal) (ix2 y d) = (0 : EReal) := by
  open_payloads
  pointwise

section Rows
variable (x9 : FVec Ideal S5x128x8 .f32) (x10 : FVec Ideal S1x4608 .f32) (x11 : FVec Ideal S5x128x4608 .fp8e4m3) (x12 : FVec Ideal S5x128x4608 .fp8e5m2)
  (x15 : FVec Ideal S640x4608 .f32)

/-- A row of the result of one tile of 5 x 128 tokens. -/
def rowV (b : Fin 5) (s : Fin 128) (d : Fin 4608) : EReal :=
  norm (fun k => x15 (ix2 (⟨128 * b.val + s.val, by omega⟩ : Fin 640) k)) (fun k => x11 (ix3 b s k) * x9 (ix3 b s 2)) (fun k => x10 (ix2 0 k)) (x9 (ix3 b s 3))
    (x12 (ix3 b s d)) (x9 (ix3 b s 0)) d

/-- A row of one group is a row of the tile. -/
theorem dxRow_at (j : Fin 20) (y : Fin 32) (d : Fin 4608) : dxRow (F := Ideal) x9 x10 x11 x12 x15 j (ix3 0 y d)
    = rowV x9 x10 x11 x12 x15 ⟨j.val / 4, by omega⟩ ⟨32 * (j.val % 4) + y.val, by omega⟩ d := by
  unfold dxRow
  rw [dxVal_at]
  have e1 (k : Fin 4608) : VecWindow.window x15 ![32 * j.val, 0] S32x4608.size (inb_acc j j.isLt) (ix2 y k) = x15 (ix2 (⟨128 * (j.val / 4) + (32 * (j.val % 4) + y.val), by omega⟩ : Fin 640) k) := by
    unfold VecWindow.window
    blk_ext
  have e2 (k : Fin 4608) : VecWindow.window x11 (off3 j 0) S1x32x4608.size (inb_blk j j.isLt) (ix3 0 y k) = x11 (ix3 (⟨j.val / 4, by omega⟩ : Fin 5) (⟨32 * (j.val % 4) + y.val, by omega⟩ : Fin 128) k) := by
    unfold VecWindow.window
    blk_ext
  have e3 : VecWindow.window x12 (off3 j 0) S1x32x4608.size (inb_blk j j.isLt) (ix3 0 y d) = x12 (ix3 (⟨j.val / 4, by omega⟩ : Fin 5) (⟨32 * (j.val % 4) + y.val, by omega⟩ : Fin 128) d) := by
    unfold VecWindow.window
    blk_ext
  have e4 (o : Fin 8) : VecWindow.window x9 (off3 j o) S1x32x1.size (inb_tok j o j.isLt o.isLt) (ix3 0 y 0) = x9 (ix3 (⟨j.val / 4, by omega⟩ : Fin 5) (⟨32 * (j.val % 4) + y.val, by omega⟩ : Fin 128) o) := by
    unfold VecWindow.window
    blk_ext
  have e42 := e4 2
  have e43 := e4 3
  have e40 := e4 0
  unfold rowV
  exact congr (congr (congr (congr (congr (congr (congr rfl (funext e1)) (funext fun k => congrArg₂ (· * ·) (e2 k) e42)) rfl) e43) e3) e40) rfl

/-- The stored groups, read back. -/
theorem rows_at (v : View sig .tc .vmem S5x128x4608 .bf16) (f : v.ty.Contents (Elt Ideal)) (b : Fin 5) (s : Fin 128) (d : Fin 4608) :
    v.read (Elt Ideal) (v.writes (Elt Ideal) f (rowPieces (F := Ideal) x9 x10 x11 x12 x15 20 (le_refl _))) (ix3 b s d) = rowV x9 x10 x11 x12 x15 b s d := by
  have key : ∀ (j : ℕ) (hj : j ≤ 20), 4 * b.val + s.val / 32 < j →
      v.read (Elt Ideal) (v.writes (Elt Ideal) f (rowPieces (F := Ideal) x9 x10 x11 x12 x15 j hj)) (ix3 b s d) = rowV x9 x10 x11 x12 x15 b s d := by
    intro j
    induction j with
    | zero => intro _ h; omega
    | succ j ih =>
      intro hj h
      by_cases hn : j = 4 * b.val + s.val / 32
      · have e := dxRow_at x9 x10 x11 x12 x15 ⟨j, hj⟩ ⟨s.val % 32, by omega⟩ d
        have eb : (⟨j / 4, by omega⟩ : Fin 5) = b := Fin.ext (by simp; omega)
        have es : (⟨32 * (j % 4) + s.val % 32, by omega⟩ : Fin 128) = s := Fin.ext (by simp; omega)
        rw [eb, es] at e
        refine Eq.trans ?_ e
        refine View.read_writes_cons_unit_of_mem v f (inb_blk j hj) (dxRow (F := Ideal) x9 x10 x11 x12 x15 ⟨j, hj⟩) _ (ix3 b s d) (ix3 0 (⟨s.val % 32, by omega⟩ : Fin 32) d) rfl fun a => ?_
        fin_cases a <;> simp <;> omega
      · refine Eq.trans ?_ (ih (by omega) (by omega))
        by_cases hb : j / 4 = b.val
        · exact View.read_writes_cons_unit_of_not_mem v f (inb_blk j hj) (dxRow (F := Ideal) x9 x10 x11 x12 x15 ⟨j, hj⟩) _ (ix3 b s d) rfl 1 (by simp; omega)
        · exact View.read_writes_cons_unit_of_not_mem v f (inb_blk j hj) (dxRow (F := Ideal) x9 x10 x11 x12 x15 ⟨j, hj⟩) _ (ix3 b s d) rfl 0 (by simp; omega)
  exact key 20 (le_refl _) (by omega)

/-- One token's part of the gains' gradient. -/
def dgP (r : Fin 640) (d : Fin 4608) : EReal :=
  x15 (ix2 r d) * (x11 (ix3 (⟨r.val / 128, by omega⟩ : Fin 5) (⟨r.val % 128, by omega⟩ : Fin 128) d) * x9 (ix3 (⟨r.val / 128, by omega⟩ : Fin 5) (⟨r.val % 128, by omega⟩ : Fin 128) 2))

/-- A group's tokens are added to the partial sums. -/
theorem dgStep_at (j : Fin 20) (g : FVec Ideal S8x4608 .f32) (y : Fin 8) (d : Fin 4608) : dgStep (F := Ideal) x9 x11 x15 j g (ix2 y d)
    = g (ix2 y d) + ∑ q : Fin 4, dgP x9 x11 x15 ⟨32 * j.val + (q.val * 8 + y.val), by omega⟩ d := by
  unfold dgStep
  rw [pay68_at]
  refine congrArg₂ (· + ·) rfl (Finset.sum_congr rfl fun q _ => ?_)
  unfold dgP VecWindow.window
  refine congrArg₂ (· * ·) ?_ (congrArg₂ (· * ·) ?_ ?_) <;> blk_ext

/-- The partial sums, added up, after all groups. -/
theorem dgA_at (g : FVec Ideal S8x4608 .f32) (d : Fin 4608) : ∀ (j : ℕ) (hj : j ≤ 20),
    ∑ y : Fin 8, dgA (F := Ideal) x9 x11 x15 g j hj (ix2 y d) = ∑ y : Fin 8, g (ix2 y d) + ∑ i : Fin j, ∑ w : Fin 32, dgP x9 x11 x15 ⟨32 * i.val + w.val, by omega⟩ d
  | 0, _ => by simp [dgA]
  | j + 1, hj => by
    rw [Fin.sum_univ_castSucc (n := j), ← add_assoc]
    refine Eq.trans ?_ (congrArg₂ (· + ·) (dgA_at g d j (by omega)) rfl)
    refine (Finset.sum_congr rfl fun y _ => dgStep_at x9 x11 x15 ⟨j, hj⟩ (dgA (F := Ideal) x9 x11 x15 g j (Nat.le_of_succ_le hj)) y d).trans ?_
    rw [Finset.sum_add_distrib]
    refine congrArg₂ (· + ·) rfl ?_
    rw [Finset.sum_comm, sumSplit (N := 32) 4 8 rfl]
    rfl

end Rows

end Cert.DxIdeal.Value
-- ==== Proof.DxFinal.lean ====
module

public import proofs.«01_k».proof.Proof.DxAcc
public import proofs.«01_k».proof.Proof.DxPay
public import proofs.«01_k».proof.Proof.DxTok
public import proofs.«01_k».proof.Proof.DxSums
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen Cert.DxIdeal.Run

variable (m : (ℓ : Loc nD τ sig) → Buf (Elt Ideal) ℓ)

/-- Equal counts of points, equal states. -/
theorem stB_congr (c : Dev nD) (n k : ℕ) (e : n = k) (hn : n ≤ cfg0.N) (hk : k ≤ cfg0.N) : stB m c n hn = stB m c k hk := by
  subst e
  rfl

/-- The accumulator after a tile's last point, by batch and position. -/
theorem acc_tok (c : Dev nD) (hT : Tame m c) (t : Fin cfg0.N) (i : ℕ) (hi : i < 3) (ht : t.val = 34 * i + 33) (b : Fin 5) (s : Fin 128) (d : Fin 4608) :
    (stB m c (t.val + 1) t.isLt).1 (ix2 (⟨128 * b.val + s.val, by omega⟩ : Fin 640) d) = DH m c b (⟨i * 128 + s.val, by omega⟩ : Fin 384) d := by
  rw [stB_congr m c (t.val + 1) (34 * i + 33 + 1) (by omega) t.isLt (lt_N (by omega))]
  refine (acc_at m c hT i hi _ d).trans ?_
  have e1 : (⟨(128 * b.val + s.val) / 128, by omega⟩ : Fin 5) = b := Fin.ext (by simp; omega)
  have e2 : (⟨i * 128 + (128 * b.val + s.val) % 128, by omega⟩ : Fin 384) = ⟨i * 128 + s.val, by omega⟩ := Fin.ext (by dsimp only; omega)
  exact congrArg₂ (fun x y => DH m c x y d) e1 e2

/-- A row that a tile's last point stores. -/
theorem rowV_at (c : Dev nD) (hT : Tame m c) (t : Fin cfg0.N) (i : ℕ) (hi : i < 3) (ht : t.val = 34 * i + 33) (b : Fin 5) (s : Fin 128) (d : Fin 4608) :
    rowV (iblk m c 7 t) (iblk m c 8 t) (iblk m c 9 t) (iblk m c 10 t) (stB m c (t.val + 1) t.isLt).1 b s d
      = dxG (DH m c) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (ix3 b (⟨i * 128 + s.val, by omega⟩ : Fin 384) d) := by
  have hq : t.val / 34 = i := by omega
  unfold rowV dxG
  exact congr (congr (congr (congr (congr (congr (congr rfl (funext fun k => acc_tok m c hT t i hi ht b s k))
    (funext fun k => congrArg₂ (· * ·) (blk9 m c t i hi hq b s k) (blk7_2 m c t i hi hq b s))) (funext fun k => blk8 m c t k)) (blk7_3 m c t i hi hq b s))
    (blk10 m c t i hi hq b s d)) (blk7_0 m c t i hi hq b s)) rfl

/-- The result's blocks are written back after each tile's last point. -/
theorem flush11 : ∀ t : Fin cfg0.N, (cfg0.win 11).flush t = true → t.val % 34 = 33 :=
  (by decide +kernel : ∀ t : Fin grid0.N, win0_11.flush t = true → t.val % 34 = 33)

/-- The gains' gradient is written back after the last point. -/
theorem flush12 : ∀ t : Fin cfg0.N, (cfg0.win 12).flush t = true → t.val = 101 :=
  (by decide +kernel : ∀ t : Fin grid0.N, win0_12.flush t = true → t.val = 101)

/-- The gradient at the block's input after the run. -/
theorem final11 (c : Dev nD) (hT : Tame m c) : (dats m 0 c).arrAt 11 cfg0.N = dxG (DH m c) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  have h33 := flush11 t hf
  have hN := lt_of_lt_of_eq t.isLt (show cfg0.N = 102 from N_0)
  have ht : t.val = 34 * (t.val / 34) + 33 := by omega
  blk_simp
  rw [after0_11]
  idx_vars y
  refine (rows_at _ _ _ _ _ _ _ y0 y1 y2).trans ((rowV_at m c hT t (t.val / 34) (by omega) ht y0 y1 y2).trans ?_)
  blk_ext [idx t]

/-- What one tile adds to a gain's gradient. -/
def tile (D : Fin 5 → Fin 384 → Fin 4608 → EReal) (a4 : FVec Ideal S5x384x4608 .fp8e4m3) (a5 : FVec Ideal S5x384 .f32) (i : Fin 3) (d : Fin 4608) : EReal :=
  ∑ b : Fin 5, ∑ s : Fin 128, D b (⟨i.val * 128 + s.val, by omega⟩ : Fin 384) d
    * (a4 (ix3 b (⟨i.val * 128 + s.val, by omega⟩ : Fin 384) d) * a5 (ix2 b (⟨i.val * 128 + s.val, by omega⟩ : Fin 384)))

/-- What one tile adds to a gain's gradient, of the launched arrays. -/
def tileP (c : Dev nD) (i : Fin 3) (d : Fin 4608) : EReal :=
  tile (DH m c) (m ((c : Thread nD τ).loc main_arg4)) (m ((c : Thread nD τ).loc main_arg5)) i d

/-- The groups of a tile's last point add what the tile adds. -/
theorem groups (c : Dev nD) (hT : Tame m c) (t : Fin cfg0.N) (i : ℕ) (hi : i < 3) (ht : t.val = 34 * i + 33) (d : Fin 4608) :
    ∑ j : Fin 20, ∑ w : Fin 32, dgP (iblk m c 7 t) (iblk m c 9 t) (stB m c (t.val + 1) t.isLt).1 ⟨32 * j.val + w.val, by omega⟩ d = tileP m c ⟨i, hi⟩ d := by
  have hq : t.val / 34 = i := by omega
  have e1 : ∑ r : Fin 640, dgP (iblk m c 7 t) (iblk m c 9 t) (stB m c (t.val + 1) t.isLt).1 r d
      = ∑ j : Fin 20, ∑ w : Fin 32, dgP (iblk m c 7 t) (iblk m c 9 t) (stB m c (t.val + 1) t.isLt).1 ⟨32 * j.val + w.val, by omega⟩ d := by
    rw [sumSplit (N := 640) 20 32 rfl]
    exact Finset.sum_congr rfl fun j _ => Finset.sum_congr rfl fun w _ =>
      congrArg (fun r => dgP (iblk m c 7 t) (iblk m c 9 t) (stB m c (t.val + 1) t.isLt).1 r d) (Fin.ext (by simp; omega))
  rw [← e1, sumSplit (N := 640) 5 128 rfl]
  unfold tileP tile
  refine Finset.sum_congr rfl fun b _ => Finset.sum_congr rfl fun s _ => ?_
  have e2 : (⟨b.val * 128 + s.val, by omega⟩ : Fin 640) = ⟨128 * b.val + s.val, by omega⟩ := Fin.ext (by simp; omega)
  have e3 : (⟨(128 * b.val + s.val) / 128, by omega⟩ : Fin 5) = b := Fin.ext (by simp; omega)
  have e4 : (⟨(128 * b.val + s.val) % 128, by omega⟩ : Fin 128) = s := Fin.ext (by dsimp only; omega)
  rw [e2]
  unfold dgP
  refine congrArg₂ (· * ·) (acc_tok m c hT t i hi ht b s d) (congrArg₂ (· * ·) ?_ ?_)
  · rw [e3, e4]
    exact blk9 m c t i hi hq b s d
  · rw [e3, e4]
    exact blk7_2 m c t i hi hq b s

/-- Within a tile, before its last point, the partial sums stay. -/
theorem snd_mid (c : Dev nD) (i : ℕ) (hi : i < 3) : ∀ (k : ℕ) (hk : k ≤ 33),
    (stB m c (34 * i + k) (Nat.le_of_lt (lt_N (by omega)))).2 = (stB m c (34 * i) (Nat.le_of_lt (lt_N (by omega)))).2
  | 0, _ => rfl
  | k + 1, hk => by
    refine Eq.trans ?_ (snd_mid c i hi k (by omega))
    refine (stB_succ_snd m c ⟨34 * i + k, lt_N (by omega)⟩).trans ?_
    exact if_neg (by simp; omega)

/-- A tile's last point adds the tile's part to the partial sums, which start at zero in the first tile. -/
theorem snd_tile (c : Dev nD) (hT : Tame m c) (i : ℕ) (hi : i < 3) (d : Fin 4608) :
    ∑ y : Fin 8, ((stB m c (34 * i + 33 + 1) (lt_N (by omega))).2 (ix2 y d) : EReal)
      = (if i = 0 then 0 else ∑ y : Fin 8, ((stB m c (34 * i) (Nat.le_of_lt (lt_N (by omega)))).2 (ix2 y d) : EReal)) + tileP m c ⟨i, hi⟩ d := by
  have e : (stB m c (34 * i + 33 + 1) (lt_N (by omega))).2 = _ := (stB_succ_snd m c ⟨34 * i + 33, lt_N (by omega)⟩).trans (if_pos (by dsimp only; omega))
  rw [e, snd_mid m c i hi 33 (le_refl _)]
  refine (dgA_at _ _ _ _ d 20 (le_refl _)).trans (congrArg₂ (· + ·) ?_ (groups m c hT _ i hi rfl d))
  by_cases h : i = 0
  · rw [if_pos h, if_pos (show (⟨34 * i + 33, lt_N (by omega)⟩ : Fin cfg0.N).val < 34 by simp; omega)]
    exact Finset.sum_eq_zero fun y _ => pay7_at y d
  · rw [if_neg h, if_neg (show ¬(⟨34 * i + 33, lt_N (by omega)⟩ : Fin cfg0.N).val < 34 by simp; omega)]

/-- The partial sums after a tile, added up: the parts of the tiles so far. -/
theorem snd_sum (c : Dev nD) (hT : Tame m c) (d : Fin 4608) : ∀ (i : ℕ) (hi : i < 3),
    ∑ y : Fin 8, ((stB m c (34 * i + 33 + 1) (lt_N (by omega))).2 (ix2 y d) : EReal) = ∑ j : Fin (i + 1), tileP m c ⟨j.val, by omega⟩ d
  | 0, hi => by
    rw [snd_tile m c hT 0 hi d, if_pos rfl, zero_add, Fin.sum_univ_one]
    try rfl
  | i + 1, hi => by
    rw [snd_tile m c hT (i + 1) hi d, if_neg (by omega), Fin.sum_univ_castSucc (n := i + 1)]
    refine congrArg₂ (· + ·) ?_ rfl
    refine Eq.trans ?_ (snd_sum c hT d i (by omega))
    rw [stB_congr m c (34 * (i + 1)) (34 * i + 33 + 1) (by omega) _ (lt_N (by omega))]

/-- The gains' gradient after the run. -/
theorem final12 (c : Dev nD) (hT : Tame m c) : (dats m 0 c).arrAt 12 cfg0.N = dgG (DH m c) (m ((c : Thread nD τ).loc main_arg4)) (m ((c : Thread nD τ).loc main_arg5)) := by
  refine (dats m 0 c).arrAt_eq_of_covers 12 _ (by decide +kernel) fun t hf y => ?_
  obtain rfl : t = ⟨34 * 2 + 33, lt_N (by omega)⟩ := Fin.ext (flush12 t hf)
  blk_simp
  rw [after0_12]
  idx_vars y
  have ej : y0 = 0 := Subsingleton.elim _ _
  subst ej
  refine (pay13_at _ y1).trans ((snd_sum m c hT y1 2 (by omega)).trans ((dgG_split _ _ _ y1).symm.trans ?_))
  blk_ext [idx (⟨34 * 2 + 33, lt_N (by omega)⟩ : Fin cfg0.N)]

/-- The run, its two result arrays named and its arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v18_0) = (dats m 0 c).arrAt 11 cfg0.N
      ∧ r.2.mem ((c : Thread nD τ).loc main_v18_1) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1 11,
      (h c).1 12,
      ((h c).1 10).trans (((dats m 0 c).arrAt_in 10 rfl _).trans ((A_eq m c 10).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 9).trans (((dats m 0 c).arrAt_in 9 rfl _).trans ((A_eq m c 9).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 3).trans (((dats m 0 c).arrAt_in 3 rfl _).trans ((A_eq m c 3).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 0).trans (((dats m 0 c).arrAt_in 0 rfl _).trans ((A_eq m c 0).trans (V_main_arg14 m c))),
      ((h c).2 main_arg15 (Pipeline.mem_restRefs_of main_arg15 (by decide) (by decide))).trans (V_main_arg15 m c)⟩)
    (run_main m ρ)

end Cert.DxIdeal.Value
-- ==== Proof.DxRef.lean ====
module

public import proofs.«01_k».proof.Proof.Gen.DxRefIdeal.Frame
public import proofs.«01_k».proof.Proof.DxDefs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DxRefIdeal.Value

open Cert.DxRefIdeal Cert.DxRefIdeal.Gen

variable (m : (ℓ : Loc nD τ sig) → Buf (Elt Ideal) ℓ)

/-- The run, its two result arrays named and its arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v5_0) = (dats m 0 c).arrAt 14 cfg0.N
      ∧ r.2.mem ((c : Thread nD τ).loc main_v5_1) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1 14,
      (h c).1 15,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 8).trans (((dats m 0 c).arrAt_in 8 rfl _).trans ((A_eq m c 8).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 12).trans (((dats m 0 c).arrAt_in 12 rfl _).trans ((A_eq m c 12).trans (V_main_arg14 m c))),
      ((h c).1 13).trans (((dats m 0 c).arrAt_in 13 rfl _).trans ((A_eq m c 13).trans (V_main_arg15 m c)))⟩)
    (run_main m ρ)

/-- The attention's gradient codes as the host hands them over, all heads in a row. -/
theorem cod (c : Dev nD) (b : Fin 5) (s : Fin 384) (u : Fin 13824) : V m c main_v0 (ix3 b s u) = m ((c : Thread nD τ).loc main_arg2) (ix5 b s (⟨u.val / 4608, by omega⟩ : Fin 3) (⟨u.val / 128 % 36, by omega⟩ : Fin 36) (⟨u.val % 128, by omega⟩ : Fin 128)) := by
  unfold V
  after_results
  pointwise
  blk_ext

/-- The gains as the host hands them over. -/
theorem gam (c : Dev nD) (d : Fin 4608) : V m c main_v1 (ix2 0 d) = m ((c : Thread nD τ).loc main_arg7) (ix1 d) := by
  unfold V
  after_results
  pointwise

/-- The input projection's column scales as the host hands them over. -/
theorem sin (c : Dev nD) (f : Fin 12288) : V m c main_v2 (ix2 0 f) = m ((c : Thread nD τ).loc main_arg11) (ix1 f) := by
  unfold V
  after_results
  pointwise

/-- The attention projection's weights as the host hands them over, all heads in a row. -/
theorem wq (c : Dev nD) (d : Fin 4608) (u : Fin 13824) : V m c main_v3 (ix2 d u) = m ((c : Thread nD τ).loc main_arg12) (ix4 d (⟨u.val / 4608, by omega⟩ : Fin 3) (⟨u.val / 128 % 36, by omega⟩ : Fin 36) (⟨u.val % 128, by omega⟩ : Fin 128)) := by
  unfold V
  after_results
  pointwise
  blk_ext

/-- The attention projection's column scales as the host hands them over. -/
theorem sq (c : Dev nD) (u : Fin 13824) : V m c main_v4 (ix2 0 u) = m ((c : Thread nD τ).loc main_arg13) (ix3 (⟨u.val / 4608, by omega⟩ : Fin 3) (⟨u.val / 128 % 36, by omega⟩ : Fin 36) (⟨u.val % 128, by omega⟩ : Fin 128)) := by
  unfold V
  after_results
  pointwise
  blk_ext

/-- Which block of each array the one grid point's windows show. -/
theorem idx : ∀ t : Fin cfg0.N, win0_2.index t = ![0, 0, 0] ∧ win0_7.index t = ![0, 0] ∧ win0_9.index t = ![0, 0]
    ∧ win0_10.index t = ![0, 0] ∧ win0_11.index t = ![0, 0]
    ∧ win0_0.index t = ![0, 0, 0] ∧ win0_1.index t = ![0, 0] ∧ win0_3.index t = ![0, 0] ∧ win0_4.index t = ![0, 0, 0] ∧ win0_5.index t = ![0, 0]
    ∧ win0_6.index t = ![0, 0] ∧ win0_8.index t = ![0, 0] ∧ win0_12.index t = ![0, 0, 0] ∧ win0_13.index t = ![0, 0] ∧ win0_14.index t = ![0, 0, 0] ∧ win0_15.index t = ![0, 0] :=
  (by decide +kernel : ∀ t : Fin grid0.N, _)

/-- The residual gradient's scales. -/
theorem blk1 (c : Dev nD) (b : Fin 5) (s : Fin 384) : iblk m c 1 t0_0 (ix2 b s) = m ((c : Thread nD τ).loc main_arg1) (ix2 b s) := by
  blk_ext [iblk, V, idx t0_0]

/-- The attention's gradient's scales. -/
theorem blk3 (c : Dev nD) (b : Fin 5) (s : Fin 384) : iblk m c 3 t0_0 (ix2 b s) = m ((c : Thread nD τ).loc main_arg3) (ix2 b s) := by
  blk_ext [iblk, V, idx t0_0]

/-- The activations' scales. -/
theorem blk5 (c : Dev nD) (b : Fin 5) (s : Fin 384) : iblk m c 5 t0_0 (ix2 b s) = m ((c : Thread nD τ).loc main_arg5) (ix2 b s) := by
  blk_ext [iblk, V, idx t0_0]

/-- The norm's scales. -/
theorem blk6 (c : Dev nD) (b : Fin 5) (s : Fin 384) : iblk m c 6 t0_0 (ix2 b s) = m ((c : Thread nD τ).loc main_arg6) (ix2 b s) := by
  blk_ext [iblk, V, idx t0_0]

/-- The mlp's gradient's scales. -/
theorem blk13 (c : Dev nD) (b : Fin 5) (s : Fin 384) : iblk m c 13 t0_0 (ix2 b s) = m ((c : Thread nD τ).loc main_arg15) (ix2 b s) := by
  blk_ext [iblk, V, idx t0_0]

/-- The residual gradient's codes. -/
theorem blk0 (c : Dev nD) (b : Fin 5) (s : Fin 384) (d : Fin 4608) : iblk m c 0 t0_0 (ix3 b s d) = m ((c : Thread nD τ).loc main_arg0) (ix3 b s d) := by
  blk_ext [iblk, V, idx t0_0]

/-- The activations' codes. -/
theorem blk4 (c : Dev nD) (b : Fin 5) (s : Fin 384) (d : Fin 4608) : iblk m c 4 t0_0 (ix3 b s d) = m ((c : Thread nD τ).loc main_arg4) (ix3 b s d) := by
  blk_ext [iblk, V, idx t0_0]

/-- The mlp's gradient's codes. -/
theorem blk12 (c : Dev nD) (b : Fin 5) (s : Fin 384) (f : Fin 12288) : iblk m c 12 t0_0 (ix3 b s f) = m ((c : Thread nD τ).loc main_arg14) (ix3 b s f) := by
  blk_ext [iblk, V, idx t0_0]

/-- The input projection's weights. -/
theorem blk8 (c : Dev nD) (d : Fin 4608) (f : Fin 12288) : iblk m c 8 t0_0 (ix2 d f) = m ((c : Thread nD τ).loc main_arg10) (ix2 d f) := by
  blk_ext [iblk, V, idx t0_0]

/-- The attention's gradient's codes. -/
theorem blk2 (c : Dev nD) (b : Fin 5) (s : Fin 384) (u : Fin 13824) : iblk m c 2 t0_0 (ix3 b s u) = m ((c : Thread nD τ).loc main_arg2) (ix5 b s (⟨u.val / 4608, by omega⟩ : Fin 3) (⟨u.val / 128 % 36, by omega⟩ : Fin 36) (⟨u.val % 128, by omega⟩ : Fin 128)) := by
  refine Eq.trans ?_ (cod m c b s u)
  blk_ext [iblk, idx t0_0]

/-- The gains. -/
theorem blk7 (c : Dev nD) (d : Fin 4608) : iblk m c 7 t0_0 (ix2 0 d) = m ((c : Thread nD τ).loc main_arg7) (ix1 d) := by
  refine Eq.trans ?_ (gam m c d)
  blk_ext [iblk, idx t0_0]

/-- The input projection's column scales. -/
theorem blk9 (c : Dev nD) (f : Fin 12288) : iblk m c 9 t0_0 (ix2 0 f) = m ((c : Thread nD τ).loc main_arg11) (ix1 f) := by
  refine Eq.trans ?_ (sin m c f)
  blk_ext [iblk, idx t0_0]

/-- The attention projection's weights. -/
theorem blk10 (c : Dev nD) (d : Fin 4608) (u : Fin 13824) : iblk m c 10 t0_0 (ix2 d u) = m ((c : Thread nD τ).loc main_arg12) (ix4 d (⟨u.val / 4608, by omega⟩ : Fin 3) (⟨u.val / 128 % 36, by omega⟩ : Fin 36) (⟨u.val % 128, by omega⟩ : Fin 128)) := by
  refine Eq.trans ?_ (wq m c d u)
  blk_ext [iblk, idx t0_0]

/-- The attention projection's column scales. -/
theorem blk11 (c : Dev nD) (u : Fin 13824) : iblk m c 11 t0_0 (ix2 0 u) = m ((c : Thread nD τ).loc main_arg13) (ix3 (⟨u.val / 4608, by omega⟩ : Fin 3) (⟨u.val / 128 % 36, by omega⟩ : Fin 36) (⟨u.val % 128, by omega⟩ : Fin 128)) := by
  refine Eq.trans ?_ (sq m c u)
  blk_ext [iblk, idx t0_0]

/-- The gradient at the norm's output, of the launched arrays. -/
def DH (c : Dev nD) : Fin 5 → Fin 384 → Fin 4608 → EReal :=
  Cert.DxIdeal.Value.dh (m ((c : Thread nD τ).loc main_arg2)) (m ((c : Thread nD τ).loc main_arg3)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))

/-- The gradient at the norm's output, at a token and a column. -/
theorem pay1_at (x8 : Vec Ideal S4608x12288 .fp8e4m3) (x9 : Vec Ideal S1x12288 .f32) (x12 : Vec Ideal S5x384x12288 .fp8e5m2) (x13 : Vec Ideal S5x384 .f32)
    (x10 : Vec Ideal S4608x13824 .fp8e4m3) (x11 : Vec Ideal S1x13824 .f32) (x2 : Vec Ideal S5x384x13824 .fp8e5m2) (x3 : Vec Ideal S5x384 .f32) (t : Fin 1920) (d : Fin 4608) :
    k0_pay1 x8 x9 x12 x13 x10 x11 x2 x3 (ix2 t d)
      = (∑ f : Fin 12288, x12 (ix3 (⟨t.val / 384, by omega⟩ : Fin 5) (⟨t.val % 384, by omega⟩ : Fin 384) f) * (x8 (ix2 d f) * x9 (ix2 0 f))) * x13 (ix2 (⟨t.val / 384, by omega⟩ : Fin 5) (⟨t.val % 384, by omega⟩ : Fin 384))
        + (∑ u : Fin 13824, x2 (ix3 (⟨t.val / 384, by omega⟩ : Fin 5) (⟨t.val % 384, by omega⟩ : Fin 384) u) * (x10 (ix2 d u) * x11 (ix2 0 u))) * x3 (ix2 (⟨t.val / 384, by omega⟩ : Fin 5) (⟨t.val % 384, by omega⟩ : Fin 384)) := by
  open_payloads
  pointwise

/-- The normalised activations, at a token and a column. -/
theorem pay3_at (x4 : Vec Ideal S5x384x4608 .fp8e4m3) (x5 : Vec Ideal S5x384 .f32) (t : Fin 1920) (d : Fin 4608) : k0_pay3 (k0_pay2 x4) x5 (ix2 t d)
    = x4 (ix3 (⟨t.val / 384, by omega⟩ : Fin 5) (⟨t.val % 384, by omega⟩ : Fin 384) d) * x5 (ix2 (⟨t.val / 384, by omega⟩ : Fin 5) (⟨t.val % 384, by omega⟩ : Fin 384)) := by
  open_payloads
  pointwise

/-- The gains' gradient, at a column. -/
theorem pay4_at (D : FVec Ideal S1920x4608 .f32) (x4 : Vec Ideal S5x384x4608 .fp8e4m3) (x5 : Vec Ideal S5x384 .f32) (d : Fin 4608) : k0_pay4 D (k0_pay2 x4) x5 (ix2 0 d)
    = ∑ t : Fin 1920, D (ix2 t d) * (x4 (ix3 (⟨t.val / 384, by omega⟩ : Fin 5) (⟨t.val % 384, by omega⟩ : Fin 384) d) * x5 (ix2 (⟨t.val / 384, by omega⟩ : Fin 5) (⟨t.val % 384, by omega⟩ : Fin 384))) := by
  open_payloads
  pointwise

/-- The gradient at the block's input, at a token and a column. -/
theorem pay5_at (D : FVec Ideal S1920x4608 .f32) (x4 : Vec Ideal S5x384x4608 .fp8e4m3) (x5 : Vec Ideal S5x384 .f32) (x7 : Vec Ideal S1x4608 .f32) (x6 : Vec Ideal S5x384 .f32)
    (x0 : Vec Ideal S5x384x4608 .fp8e5m2) (x1 : Vec Ideal S5x384 .f32) (b : Fin 5) (s : Fin 384) (d : Fin 4608) : k0_pay5 D (k0_pay2 x4) x5 x7 x6 x0 x1 (ix3 b s d)
    = Cert.DxIdeal.Value.norm (fun k => D (ix2 (⟨b.val * 384 + s.val, by omega⟩ : Fin 1920) k)) (fun k => x4 (ix3 b s k) * x5 (ix2 b s)) (fun k => x7 (ix2 0 k))
      (x6 (ix2 b s)) (x0 (ix3 b s d)) (x1 (ix2 b s)) d := by
  open_payloads
  pointwise [Cert.DxIdeal.Value.norm]

/-- The gradient at the norm's output, of the blocks the point is shown. -/
theorem dh_at (c : Dev nD) (t : Fin 1920) (d : Fin 4608) :
    k0_pay1 (iblk m c 8 t0_0) (iblk m c 9 t0_0) (iblk m c 12 t0_0) (iblk m c 13 t0_0) (iblk m c 10 t0_0) (iblk m c 11 t0_0) (iblk m c 2 t0_0) (iblk m c 3 t0_0) (ix2 t d)
      = DH m c (⟨t.val / 384, by omega⟩ : Fin 5) (⟨t.val % 384, by omega⟩ : Fin 384) d := by
  rw [pay1_at]
  unfold DH Cert.DxIdeal.Value.dh Cert.DxIdeal.Value.mlp Cert.DxIdeal.Value.att
  refine congrArg₂ (· + ·) (congrArg₂ (· * ·) (Finset.sum_congr rfl fun f _ => ?_) (blk13 m c _ _)) (congrArg₂ (· * ·) (Finset.sum_congr rfl fun u _ => ?_) (blk3 m c _ _))
  · exact congrArg₂ (· * ·) (blk12 m c _ _ f) (congrArg₂ (· * ·) (blk8 m c d f) (blk9 m c f))
  · exact congrArg₂ (· * ·) (blk2 m c _ _ u) (congrArg₂ (· * ·) (blk10 m c d u) (blk11 m c u))

/-- The gradient at the block's input after the run. -/
theorem final14 (c : Dev nD) : (dats m 0 c).arrAt 14 cfg0.N = Cert.DxIdeal.Value.dxG (DH m c) (m ((c : Thread nD τ).loc main_arg0)) (m ((c : Thread nD τ).loc main_arg1))
    (m ((c : Thread nD τ).loc main_arg4)) (m ((c : Thread nD τ).loc main_arg5)) (m ((c : Thread nD τ).loc main_arg6)) (m ((c : Thread nD τ).loc main_arg7)) := by
  refine (dats m 0 c).arrAt_eq_of_after_last 14 t0_0 (by decide +kernel) _ fun j => ?_
  blk_simp
  rw [after0_14]
  frame_out
  idx_vars j
  unfold k0_pay6 k0_pay7
  frame_out
  refine (pay5_at _ _ _ _ _ _ _ j0 j1 j2).trans ?_
  unfold Cert.DxIdeal.Value.dxG
  have eD (k : Fin 4608) := dh_at m c (⟨j0.val * 384 + j1.val, by omega⟩ : Fin 1920) k
  have e1 : (⟨(j0.val * 384 + j1.val) / 384, by omega⟩ : Fin 5) = j0 := Fin.ext (by dsimp only; omega)
  have e2 : (⟨(j0.val * 384 + j1.val) % 384, by omega⟩ : Fin 384) = j1 := Fin.ext (by dsimp only; omega)
  rw [e1, e2] at eD
  exact congr (congr (congr (congr (congr (congr (congr rfl (funext eD)) (funext fun k => congrArg₂ (· * ·) (blk4 m c j0 j1 k) (blk5 m c j0 j1))) (funext fun k => blk7 m c k))
    (blk6 m c j0 j1)) (blk0 m c j0 j1 j2)) (blk1 m c j0 j1)) rfl

/-- The gains' gradient after the run. -/
theorem final15 (c : Dev nD) : (dats m 0 c).arrAt 15 cfg0.N = Cert.DxIdeal.Value.dgG (DH m c) (m ((c : Thread nD τ).loc main_arg4)) (m ((c : Thread nD τ).loc main_arg5)) := by
  refine (dats m 0 c).arrAt_eq_of_after_last 15 t0_0 (by decide +kernel) _ fun j => ?_
  blk_simp
  rw [after0_15]
  frame_out
  idx_vars j
  have ej : j0 = 0 := Subsingleton.elim _ _
  subst ej
  unfold k0_pay6 k0_pay7
  frame_out
  refine (pay4_at _ _ _ j1).trans ?_
  unfold Cert.DxIdeal.Value.dgG
  exact Finset.sum_congr rfl fun t _ => congrArg₂ (· * ·) (dh_at m c t j1) (congrArg₂ (· * ·) (blk4 m c _ _ j1) (blk5 m c _ _))

end Cert.DxRefIdeal.Value
-- ==== Proof.DxPre.lean ====
module

public import proofs.«01_k».proof.Defs
public import proofs.«01_k».proof.Proof.DxFinal
public import Idealize.ShloMosaic.Lib.Pointwise
public import Idealize.ShloMosaic.Lib.Claim

@[expose] public section

set_option maxRecDepth 16384

noncomputable section

open Idealize.ShloMosaic Idealize.ShloMosaic.TcCoe Idealize.SL.Sem
namespace Cert.DxIdeal.Value
open Cert.DxIdeal

/-- A number that compares at least zero is not negative. -/
theorem of_ge (x : Ideal .f32) (h : FloatOps.cmpf (F := Ideal) (φ := .f32) .oge x (FloatOps.ofBits .f32 0x00000000#32) = 1#1) : (0 : EReal) ≤ x := by
  have h' : Ideal.cmp .oge x (Ideal.ofBits FTy.f32 0x00000000#32) = 1#1 := h
  rw [Ideal.ofBits_zero_f32] at h'
  by_contra hn
  simp [Ideal.cmp, hn] at h'

/-- A number that compares below infinity is not infinity. -/
theorem of_lt (x : Ideal .f32) (h : FloatOps.cmpf (F := Ideal) (φ := .f32) .olt x (FloatOps.ofBits .f32 0x7F800000#32) = 1#1) : x ≠ (⊤ : EReal) := by
  have h' : Ideal.cmp .olt x (Ideal.ofBits FTy.f32 0x7F800000#32) = 1#1 := h
  have ht : Ideal.ofBits FTy.f32 0x7F800000#32 = ⊤ := by simp [Ideal.ofBits, Ideal.ieee]
  rw [ht] at h'
  rintro rfl
  simp [Ideal.cmp] at h'

/-- The precondition, read at each token. -/
theorem tame_of_pre [Cert.Pre_scales_finite.Facts] (m : (ℓ : Loc nD τ sig) → Buf (Elt Ideal) ℓ) (h : Cert.Pre_DxIdeal_scales_finite m) (c : Dev nD) : Tame m c := by
  obtain ⟨h1, h2, h3, h4⟩ := h c
  intro b s
  exact ⟨⟨of_ge _ (congrFun h1 (ix2 b s)), of_lt _ (congrFun h2 (ix2 b s))⟩, of_ge _ (congrFun h3 (ix2 b s)), of_lt _ (congrFun h4 (ix2 b s))⟩

end Cert.DxIdeal.Value
-- ==== Proof.OutTok.lean ====
module

public import proofs.«01_k».proof.Proof.Gen.DwOutIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwOutIdeal.Value

open Cert.DwOutIdeal Cert.DwOutIdeal.Gen

variable (m : (ℓ : Loc nD τ sig) → Buf (Elt Ideal) ℓ)

/-- The gradient's scale, column 0 of the host's table of token scales. -/
theorem tok0 (c : Dev nD) (b : Fin 5) (s : Fin 384) : V m c main_v9 (ix3 b s 0) = m ((c : Thread nD τ).loc main_arg1) (ix2 b s) := by
  unfold V
  after_results
  pointwise
  after_results_simp
  pointwise

/-- The activations' scale, column 5 of that table. -/
theorem tok5 (c : Dev nD) (b : Fin 5) (s : Fin 384) : V m c main_v9 (ix3 b s 5) = m ((c : Thread nD τ).loc main_arg7) (ix2 b s) := by
  unfold V
  after_results
  pointwise
  after_results_simp
  pointwise

end Cert.DwOutIdeal.Value
-- ==== Proof.OutBlk.lean ====
module

public import proofs.«01_k».proof.Proof.OutTok
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwOutIdeal.Value

open Cert.DwOutIdeal Cert.DwOutIdeal.Gen

variable (m : (ℓ : Loc nD τ sig) → Buf (Elt Ideal) ℓ)

/-- Which block of each array every grid point's windows show. -/
theorem idx : ∀ t : Fin cfg0.N, win0_0.index t = ![0, 0, t.val] ∧ win0_1.index t = ![0, 0, 0] ∧ win0_2.index t = ![0, 0, 0]
    ∧ win0_3.index t = ![t.val, 0] ∧ win0_4.index t = ![t.val, 0] :=
  (by decide +kernel : ∀ t : Fin grid0.N, _)

/-- The grid has so many points. -/
theorem n_eq (t : Fin cfg0.N) : t.val < 48 := lt_of_lt_of_eq t.isLt N_0

/-- The activation codes' window. -/
theorem blk0 (c : Dev nD) (t : Fin cfg0.N) (b : Fin 5) (s : Fin 384) (f : Fin 256) :
    iblk m c 0 t (ix3 b s f) = m ((c : Thread nD τ).loc main_arg6) (ix3 b s ⟨t.val * 256 + f.val, by have := n_eq t; omega⟩) := by
  blk_ext [iblk, V, idx t]

/-- The gradient codes' window: the whole array. -/
theorem blk1 (c : Dev nD) (t : Fin cfg0.N) (b : Fin 5) (s : Fin 384) (d : Fin 4608) :
    iblk m c 1 t (ix3 b s d) = m ((c : Thread nD τ).loc main_arg0) (ix3 b s d) := by
  blk_ext [iblk, V, idx t]

/-- The table of token scales: the whole array. -/
theorem blk2 (c : Dev nD) (t : Fin cfg0.N) (b : Fin 5) (s : Fin 384) (k : Fin 8) :
    iblk m c 2 t (ix3 b s k) = V m c main_v9 (ix3 b s k) := by
  blk_ext [iblk, idx t]

/-- The accumulator's window. -/
theorem blk3 (c : Dev nD) (t : Fin cfg0.N) (f : Fin 256) (d : Fin 4608) :
    iblk m c 3 t (ix2 f d) = m ((c : Thread nD τ).loc main_arg8) (ix2 ⟨t.val * 256 + f.val, by have := n_eq t; omega⟩ d) := by
  blk_ext [iblk, V, idx t]

end Cert.DwOutIdeal.Value
-- ==== Proof.OutScratch.lean ====
module

public import proofs.«01_k».proof.Proof.OutBlk
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwOutIdeal.Value

open Cert.DwOutIdeal Cert.DwOutIdeal.Gen

variable (m : (ℓ : Loc nD τ sig) → Buf (Elt Ideal) ℓ)

/-- The gradient codes times their token's scale, a token a row. -/
def scr (dy : FVec Ideal S5x384x4608 .fp8e5m2) (ds : FVec Ideal S5x384 .f32) : FVec Ideal S1920x4608 .bf16 :=
  fun j => dy (ix3 (⟨(j 0).val / 384, by have := (j 0).isLt; simp at this; omega⟩ : Fin 5) (⟨(j 0).val % 384, by omega⟩ : Fin 384) (j 1)) * ds (ix2 (⟨(j 0).val / 384, by have := (j 0).isLt; simp at this; omega⟩ : Fin 5) (⟨(j 0).val % 384, by omega⟩ : Fin 384))

set_option maxHeartbeats 1000000 in
/-- What the first grid point fills the scratch with. -/
theorem scratchA (c : Dev nD) (t : Fin cfg0.N) (h0 : t.val % 48 = 0) :
    (outsAt0 m c t.val t.isLt).2 = scr (m ((c : Thread nD τ).loc main_arg0)) (m ((c : Thread nD τ).loc main_arg1)) := by
  rw [outsAt0_A m c t h0]
  funext y
  idx_vars y
  frame_out
  canon_tiles x h
  all_goals
    open_payloads
    pointwise [scr]
    rw [blk1, blk2, tok0]
    have e0 : (y0 : ℕ) = x 0 := h0
    have e1 := Fin.ext (a := y1) (b := ⟨_, lt_of_eq_of_lt h1.symm y1.isLt⟩) h1
    simp only [e0, e1]

/-- Every grid point leaves the scratch as the first point filled it. -/
theorem scratch (c : Dev nD) : ∀ n (h : n < cfg0.N),
    (outsAt0 m c n h).2 = scr (m ((c : Thread nD τ).loc main_arg0)) (m ((c : Thread nD τ).loc main_arg1))
  | 0, h => scratchA m c ⟨0, h⟩ rfl
  | n + 1, h => by
    have hN := n_eq ⟨n + 1, h⟩
    have e : (outsAt0 m c (n + 1) h).2 = (outsAt0 m c n (by omega)).2 := by
      rw [outsAt0_B m c ⟨n + 1, h⟩ (by dsimp only at hN ⊢; omega)]
      frame_out
      try rfl
    exact e.trans (scratch c n _)

end Cert.DwOutIdeal.Value
-- ==== Proof.OutVal.lean ====
module

public import proofs.«01_k».proof.Proof.OutScratch
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwOutIdeal.Value

open Cert.DwOutIdeal Cert.DwOutIdeal.Gen

variable (m : (ℓ : Loc nD τ sig) → Buf (Elt Ideal) ℓ)

/-- What the result holds at `(f, d)`: the accumulator plus the sum over the tokens. -/
def val (g : FVec Ideal S5x384x12288 .fp8e4m3) (gs : FVec Ideal S5x384 .f32) (acc : FVec Ideal S12288x4608 .f32) (r : FVec Ideal S1920x4608 .bf16) : FVec Ideal S12288x4608 .f32 :=
  fun i => acc i + ∑ k : Fin 1920, g (ix3 (⟨k.val / 384, by omega⟩ : Fin 5) (⟨k.val % 384, by omega⟩ : Fin 384) (i 0)) * gs (ix2 (⟨k.val / 384, by omega⟩ : Fin 5) (⟨k.val % 384, by omega⟩ : Fin 384)) * r (ix2 k (i 1))

set_option maxHeartbeats 1000000 in
/-- The block the first grid point leaves in the result's window. -/
theorem outA (c : Dev nD) (t : Fin cfg0.N) (h0' : t.val % 48 = 0) (y0 : Fin 256) (y1 : Fin 4608) :
    (outsAt0 m c t.val t.isLt).1 (ix2 y0 y1) = val (m ((c : Thread nD τ).loc main_arg6)) (m ((c : Thread nD τ).loc main_arg7)) (m ((c : Thread nD τ).loc main_arg8)) (outsAt0 m c t.val t.isLt).2 (ix2 ⟨t.val * 256 + y0.val, by have := n_eq t; omega⟩ y1) := by
  rw [outsAt0_A m c t h0']
  frame_out
  simp only [View.readCov_eq_canon']
  generalize hr : View.canon (Val := Elt Ideal) (s := S1920x4608) (e := .bf16) _ = r
  clear hr
  canon_tiles x h
  all_goals
    open_payloads
    pointwise [val]
    simp only [blk2]
    have e0 : y0 = x 0 := Fin.ext h0
    have e1 := Fin.ext (a := y1) (b := ⟨_, lt_of_eq_of_lt h1.symm y1.isLt⟩) h1
    simp only [e0, e1]
    refine congrArg₂ (· + ·) (blk3 m c t _ _) (Finset.sum_congr rfl fun k _ => congrArg₂ (· * ·)
      (congrArg₂ (· * ·) (blk0 m c t _ _ _) (tok5 m c _ _)) ?_)
    refine congrArg r ?_
    blk_ext

set_option maxHeartbeats 1000000 in
/-- The block a later grid point leaves in the result's window. -/
theorem outB (c : Dev nD) (t : Fin cfg0.N) (h0 : ¬t.val % 48 = 0) (y0 : Fin 256) (y1 : Fin 4608) :
    (outsAt0 m c t.val t.isLt).1 (ix2 y0 y1) = val (m ((c : Thread nD τ).loc main_arg6)) (m ((c : Thread nD τ).loc main_arg7)) (m ((c : Thread nD τ).loc main_arg8)) (scr (m ((c : Thread nD τ).loc main_arg0)) (m ((c : Thread nD τ).loc main_arg1))) (ix2 ⟨t.val * 256 + y0.val, by have := n_eq t; omega⟩ y1) := by
  rw [outsAt0_B m c t h0]
  frame_out
  simp only [read_unread_whole, scratch]
  generalize scr _ _ = r
  canon_tiles x h
  all_goals
    open_payloads
    pointwise [val]
    simp only [blk2]
    have e0 : y0 = x 0 := Fin.ext h0
    have e1 := Fin.ext (a := y1) (b := ⟨_, lt_of_eq_of_lt h1.symm y1.isLt⟩) h1
    simp only [e0, e1]
    refine congrArg₂ (· + ·) (blk3 m c t _ _) (Finset.sum_congr rfl fun k _ => congrArg₂ (· * ·)
      (congrArg₂ (· * ·) (blk0 m c t _ _ _) (tok5 m c _ _)) ?_)
    try (refine congrArg r ?_; blk_ext)

end Cert.DwOutIdeal.Value
-- ==== Proof.OutFinal.lean ====
module

public import proofs.«01_k».proof.Proof.OutVal
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwOutIdeal.Value

open Cert.DwOutIdeal Cert.DwOutIdeal.Gen

variable (m : (ℓ : Loc nD τ sig) → Buf (Elt Ideal) ℓ)

/-- The result array after the run. -/
theorem final (c : Dev nD) : (dats m 0 c).arrAt 4 cfg0.N
    = val (m ((c : Thread nD τ).loc main_arg6)) (m ((c : Thread nD τ).loc main_arg7)) (m ((c : Thread nD τ).loc main_arg8)) (scr (m ((c : Thread nD τ).loc main_arg0)) (m ((c : Thread nD τ).loc main_arg1))) := by
  refine (dats m 0 c).arrAt_eq_of_covers 4 _ (by decide +kernel) fun t hf y => ?_
  blk_simp
  rw [after0_4]
  idx_vars y
  by_cases h0 : t.val % 48 = 0
  · rw [outA m c t h0, scratch]
    blk_ext [idx t]
  · rw [outB m c t h0]
    blk_ext [idx t]

end Cert.DwOutIdeal.Value
-- ==== Proof.OutRef.lean ====
module

public import proofs.«01_k».proof.Proof.Gen.DwOutRefIdeal.Value
public import proofs.«01_k».proof.Proof.OutVal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DwOutRefIdeal.Value

open Cert.DwOutRefIdeal Cert.DwOutRefIdeal.Gen

/-- The reference's result at `(f, d)`: the accumulator plus the sum over the tokens of the products of scaled codes. -/
theorem ref_at (dy : FVec Ideal S5x384x4608 .fp8e5m2) (ds : FVec Ideal S5x384 .f32) (g : FVec Ideal S5x384x12288 .fp8e4m3)
    (gs : FVec Ideal S5x384 .f32) (acc : FVec Ideal S12288x4608 .f32) :
    G5 (F := Ideal) dy ds g gs acc = Cert.DwOutIdeal.Value.val g gs acc (Cert.DwOutIdeal.Value.scr dy ds) := by
  funext i
  idx_vars i
  pointwise [G5, k0_pay1, Cert.DwOutIdeal.Value.val, Cert.DwOutIdeal.Value.scr]

end Cert.DwOutRefIdeal.Value
-- ==== Proof.InTok.lean ====
module

public import proofs.«01_k».proof.Proof.Gen.DwInIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwInIdeal.Value

open Cert.DwInIdeal Cert.DwInIdeal.Gen

variable (m : (ℓ : Loc nD τ sig) → Buf (Elt Ideal) ℓ)

/-- Column 2 of the host's table of token scales. -/
theorem tok2 (c : Dev nD) (b : Fin 5) (s : Fin 384) : V m c main_v9 (ix3 b s 2) = m ((c : Thread nD τ).loc main_arg3) (ix2 b s) := by
  unfold V
  after_results
  pointwise
  after_results_simp
  pointwise

/-- The codes' scales as the host hands them over. -/
theorem dsc (c : Dev nD) (b : Fin 5) (s : Fin 384) : V m c main_v10 (ix3 b s 0) = m ((c : Thread nD τ).loc main_arg9) (ix2 b s) := by
  unfold V
  after_results
  pointwise

/-- The gains as the host hands them over. -/
theorem gam (c : Dev nD) (d : Fin 4608) : V m c main_v11 (ix2 d 0) = m ((c : Thread nD τ).loc main_arg5) (ix1 d) := by
  unfold V
  after_results
  pointwise

/-- Which block of each array every grid point's windows show. -/
theorem idx : ∀ t : Fin cfg0.N, win0_0.index t = ![0, 0, 0] ∧ win0_1.index t = ![0, 0, 0] ∧ win0_2.index t = ![0, 0]
    ∧ win0_3.index t = ![0, 0, t.val] ∧ win0_4.index t = ![0, 0, 0] ∧ win0_5.index t = ![0, t.val] ∧ win0_6.index t = ![0, t.val] :=
  (by decide +kernel : ∀ t : Fin grid0.N, _)

/-- The grid has so many points. -/
theorem n_eq (t : Fin cfg0.N) : t.val < 48 := lt_of_lt_of_eq t.isLt N_0

/-- The normalised activations' window. -/
theorem blk0 (c : Dev nD) (t : Fin cfg0.N) (b : Fin 5) (s : Fin 384) (d : Fin 4608) :
    iblk m c 0 t (ix3 b s d) = m ((c : Thread nD τ).loc main_arg2) (ix3 b s d) := by
  blk_ext [iblk, V, idx t]

/-- Their scales, read off the table. -/
theorem blk1 (c : Dev nD) (t : Fin cfg0.N) (b : Fin 5) (s : Fin 384) :
    iblk m c 1 t (ix3 b s 2) = m ((c : Thread nD τ).loc main_arg3) (ix2 b s) := by
  refine Eq.trans ?_ (tok2 m c b s)
  blk_ext [iblk, idx t]

/-- The column of gains. -/
theorem blk2 (c : Dev nD) (t : Fin cfg0.N) (d : Fin 4608) :
    iblk m c 2 t (ix2 d 0) = m ((c : Thread nD τ).loc main_arg5) (ix1 d) := by
  refine Eq.trans ?_ (gam m c d)
  blk_ext [iblk, idx t]

/-- The codes' window. -/
theorem blk3 (c : Dev nD) (t : Fin cfg0.N) (b : Fin 5) (s : Fin 384) (f : Fin 256) :
    iblk m c 3 t (ix3 b s f) = m ((c : Thread nD τ).loc main_arg8) (ix3 b s ⟨t.val * 256 + f.val, by have := n_eq t; omega⟩) := by
  blk_ext [iblk, V, idx t]

/-- The codes' scales. -/
theorem blk4 (c : Dev nD) (t : Fin cfg0.N) (b : Fin 5) (s : Fin 384) :
    iblk m c 4 t (ix3 b s 0) = m ((c : Thread nD τ).loc main_arg9) (ix2 b s) := by
  refine Eq.trans ?_ (dsc m c b s)
  blk_ext [iblk, idx t]

/-- The accumulator's window. -/
theorem blk5 (c : Dev nD) (t : Fin cfg0.N) (d : Fin 4608) (f : Fin 256) :
    iblk m c 5 t (ix2 d f) = m ((c : Thread nD τ).loc main_arg10) (ix2 d ⟨t.val * 256 + f.val, by have := n_eq t; omega⟩) := by
  blk_ext [iblk, V, idx t]

end Cert.DwInIdeal.Value
-- ==== Proof.InScratch.lean ====
module

public import proofs.«01_k».proof.Proof.InTok
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwInIdeal.Value

open Cert.DwInIdeal Cert.DwInIdeal.Gen

variable (m : (ℓ : Loc nD τ sig) → Buf (Elt Ideal) ℓ)

/-- The activation codes times their token's scale, a token a column. -/
def scr (x : FVec Ideal S5x384x4608 .fp8e4m3) (xs : FVec Ideal S5x384 .f32) : FVec Ideal S4608x1920 .bf16 :=
  fun j => x (ix3 (⟨(j 1).val / 384, by have := (j 1).isLt; simp at this; omega⟩ : Fin 5) (⟨(j 1).val % 384, by omega⟩ : Fin 384) (j 0)) * xs (ix2 (⟨(j 1).val / 384, by have := (j 1).isLt; simp at this; omega⟩ : Fin 5) (⟨(j 1).val % 384, by omega⟩ : Fin 384))

set_option maxHeartbeats 1000000 in
/-- What the first grid point fills the scratch with. -/
theorem scratchA (c : Dev nD) (t : Fin cfg0.N) (h0 : t.val % 48 = 0) :
    (outsAt0 m c t.val t.isLt).2 = scr (m ((c : Thread nD τ).loc main_arg2)) (m ((c : Thread nD τ).loc main_arg3)) := by
  rw [outsAt0_A m c t h0]
  funext y
  idx_vars y
  frame_out
  canon_tiles x h
  all_goals
    open_payloads
    pointwise [scr]
    rw [blk0, blk1]
    have e0 := Fin.ext (a := y0) (b := ⟨_, lt_of_eq_of_lt h0.symm y0.isLt⟩) h0
    have e1 : (y1 : ℕ) = x 1 := h1
    simp only [e0, e1]

/-- Every grid point leaves the scratch as the first point filled it. -/
theorem scratch (c : Dev nD) : ∀ n (h : n < cfg0.N),
    (outsAt0 m c n h).2 = scr (m ((c : Thread nD τ).loc main_arg2)) (m ((c : Thread nD τ).loc main_arg3))
  | 0, h => scratchA m c ⟨0, h⟩ rfl
  | n + 1, h => by
    have hN := n_eq ⟨n + 1, h⟩
    have e : (outsAt0 m c (n + 1) h).2 = (outsAt0 m c n (by omega)).2 := by
      rw [outsAt0_B m c ⟨n + 1, h⟩ (by dsimp only at hN ⊢; omega)]
      frame_out
      try rfl
    exact e.trans (scratch c n _)

end Cert.DwInIdeal.Value
-- ==== Proof.InVal.lean ====
module

public import proofs.«01_k».proof.Proof.InScratch
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwInIdeal.Value

open Cert.DwInIdeal Cert.DwInIdeal.Gen

variable (m : (ℓ : Loc nD τ sig) → Buf (Elt Ideal) ℓ)

/-- What the result holds at `(d, f)`: the accumulator plus the gain times the sum over the tokens. -/
def val (gm : FVec Ideal S4608 .f32) (q : FVec Ideal S5x384x12288 .fp8e5m2) (qs : FVec Ideal S5x384 .f32) (acc : FVec Ideal S4608x12288 .f32) (r : FVec Ideal S4608x1920 .bf16) : FVec Ideal S4608x12288 .f32 :=
  fun i => acc i + gm (ix1 (i 0)) * ∑ k : Fin 1920, r (ix2 (i 0) k) * (q (ix3 (⟨k.val / 384, by omega⟩ : Fin 5) (⟨k.val % 384, by omega⟩ : Fin 384) (i 1)) * qs (ix2 (⟨k.val / 384, by omega⟩ : Fin 5) (⟨k.val % 384, by omega⟩ : Fin 384)))

set_option maxHeartbeats 1000000 in
/-- The block a grid point of case A leaves in the result's window. -/
theorem outA (c : Dev nD) (t : Fin cfg0.N) (h0' : t.val % 48 = 0) (y0 : Fin 4608) (y1 : Fin 256) :
    (outsAt0 m c t.val t.isLt).1 (ix2 y0 y1) = val (m ((c : Thread nD τ).loc main_arg5)) (m ((c : Thread nD τ).loc main_arg8)) (m ((c : Thread nD τ).loc main_arg9)) (m ((c : Thread nD τ).loc main_arg10)) (outsAt0 m c t.val t.isLt).2 (ix2 y0 ⟨t.val * 256 + y1.val, by have := n_eq t; omega⟩) := by
  rw [outsAt0_A m c t h0']
  frame_out
  simp only [View.readCov_eq_canon']
  generalize hr : View.canon (Val := Elt Ideal) (s := S4608x1920) (e := .bf16) _ = r
  clear hr
  canon_tiles x h
  all_goals
    open_payloads
    pointwise [val]
    have e0 := Fin.ext (a := y0) (b := ⟨_, lt_of_eq_of_lt h0.symm y0.isLt⟩) h0
    have e1 : y1 = x 1 := Fin.ext h1
    simp only [e0, e1]
    refine congrArg₂ (· + ·) (blk5 m c t _ _) (congrArg₂ (· * ·) (blk2 m c t _) (Finset.sum_congr rfl fun k _ => congrArg₂ (· * ·) ?_
      (congrArg₂ (· * ·) (blk3 m c t _ _ _) (blk4 m c t _ _))))
    try (refine congrArg r ?_; blk_ext)

set_option maxHeartbeats 1000000 in
/-- The block a grid point of case B leaves in the result's window. -/
theorem outB (c : Dev nD) (t : Fin cfg0.N) (h0' : ¬t.val % 48 = 0) (y0 : Fin 4608) (y1 : Fin 256) :
    (outsAt0 m c t.val t.isLt).1 (ix2 y0 y1) = val (m ((c : Thread nD τ).loc main_arg5)) (m ((c : Thread nD τ).loc main_arg8)) (m ((c : Thread nD τ).loc main_arg9)) (m ((c : Thread nD τ).loc main_arg10)) (scr (m ((c : Thread nD τ).loc main_arg2)) (m ((c : Thread nD τ).loc main_arg3))) (ix2 y0 ⟨t.val * 256 + y1.val, by have := n_eq t; omega⟩) := by
  rw [outsAt0_B m c t h0']
  frame_out
  simp only [read_unread_whole, scratch]
  generalize scr _ _ = r
  canon_tiles x h
  all_goals
    open_payloads
    pointwise [val]
    have e0 := Fin.ext (a := y0) (b := ⟨_, lt_of_eq_of_lt h0.symm y0.isLt⟩) h0
    have e1 : y1 = x 1 := Fin.ext h1
    simp only [e0, e1]
    refine congrArg₂ (· + ·) (blk5 m c t _ _) (congrArg₂ (· * ·) (blk2 m c t _) (Finset.sum_congr rfl fun k _ => congrArg₂ (· * ·) ?_
      (congrArg₂ (· * ·) (blk3 m c t _ _ _) (blk4 m c t _ _))))
    try (refine congrArg r ?_; blk_ext)

end Cert.DwInIdeal.Value
-- ==== Proof.InFinal.lean ====
module

public import proofs.«01_k».proof.Proof.InVal
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwInIdeal.Value

open Cert.DwInIdeal Cert.DwInIdeal.Gen

variable (m : (ℓ : Loc nD τ sig) → Buf (Elt Ideal) ℓ)

/-- The result array after the run. -/
theorem final (c : Dev nD) : (dats m 0 c).arrAt 6 cfg0.N
    = val (m ((c : Thread nD τ).loc main_arg5)) (m ((c : Thread nD τ).loc main_arg8)) (m ((c : Thread nD τ).loc main_arg9)) (m ((c : Thread nD τ).loc main_arg10)) (scr (m ((c : Thread nD τ).loc main_arg2)) (m ((c : Thread nD τ).loc main_arg3))) := by
  refine (dats m 0 c).arrAt_eq_of_covers 6 _ (by decide +kernel) fun t hf y => ?_
  blk_simp
  rw [after0_6]
  idx_vars y
  by_cases h0 : t.val % 48 = 0
  · rw [outA m c t h0, scratch]
    blk_ext [idx t]
  · rw [outB m c t h0]
    blk_ext [idx t]

end Cert.DwInIdeal.Value
-- ==== Proof.InRef.lean ====
module

public import proofs.«01_k».proof.Proof.Gen.DwInRefIdeal.Value
public import proofs.«01_k».proof.Proof.InVal
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwInRefIdeal.Value

open Cert.DwInRefIdeal Cert.DwInRefIdeal.Gen

variable (m : (ℓ : Loc nD τ sig) → Buf (Elt Ideal) ℓ)

/-- The gains as the host hands them over. -/
theorem gam (c : Dev nD) (d : Fin 4608) : V m c main_v0 (ix2 d 0) = m ((c : Thread nD τ).loc main_arg5) (ix1 d) := by
  unfold V
  after_results
  pointwise

/-- Which block of each array every grid point's windows show. -/
theorem idx : ∀ t : Fin cfg0.N, win0_0.index t = ![0, 0, 0] ∧ win0_1.index t = ![0, 0] ∧ win0_2.index t = ![0, 0]
    ∧ win0_3.index t = ![0, 0, 0] ∧ win0_4.index t = ![0, 0] ∧ win0_5.index t = ![0, 0] ∧ win0_6.index t = ![0, 0] :=
  (by decide +kernel : ∀ t : Fin grid0.N, _)

/-- The column of gains. -/
theorem blk2 (c : Dev nD) (d : Fin 4608) : iblk m c 2 t0_0 (ix2 d 0) = m ((c : Thread nD τ).loc main_arg5) (ix1 d) := by
  refine Eq.trans ?_ (gam m c d)
  blk_ext [iblk, idx t0_0]

/-- The reference's result array after the run. -/
theorem final (c : Dev nD) : (dats m 0 c).arrAt 6 cfg0.N
    = Cert.DwInIdeal.Value.val (m ((c : Thread nD τ).loc main_arg5)) (m ((c : Thread nD τ).loc main_arg8)) (m ((c : Thread nD τ).loc main_arg9)) (m ((c : Thread nD τ).loc main_arg10)) (Cert.DwInIdeal.Value.scr (m ((c : Thread nD τ).loc main_arg2)) (m ((c : Thread nD τ).loc main_arg3))) := by
  refine (dats m 0 c).arrAt_eq_of_after_last 6 t0_0 (by decide +kernel) _ fun j => ?_
  blk_simp
  rw [after0_6]
  frame_out
  idx_vars j
  pointwise [k0_pay1, Cert.DwInIdeal.Value.val, Cert.DwInIdeal.Value.scr]
  rw [blk2 m c]
  blk_point [iblk, V, idx t0_0]

end Cert.DwInRefIdeal.Value
-- ==== Proof.QkvTok.lean ====
module

public import proofs.«01_k».proof.Proof.Gen.DwQkvIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwQkvIdeal.Value

open Cert.DwQkvIdeal Cert.DwQkvIdeal.Gen

variable (m : (ℓ : Loc nD τ sig) → Buf (Elt Ideal) ℓ)

/-- Column 2 of the host's table of token scales. -/
theorem tok2 (c : Dev nD) (b : Fin 5) (s : Fin 384) : V m c main_v9 (ix3 b s 2) = m ((c : Thread nD τ).loc main_arg4) (ix2 b s) := by
  unfold V
  after_results
  pointwise
  after_results_simp
  pointwise

/-- Column 1 of the host's table of token scales. -/
theorem tok1 (c : Dev nD) (b : Fin 5) (s : Fin 384) : V m c main_v9 (ix3 b s 1) = m ((c : Thread nD τ).loc main_arg2) (ix2 b s) := by
  unfold V
  after_results
  pointwise
  after_results_simp
  pointwise

/-- The gains as the host hands them over. -/
theorem gam (c : Dev nD) (d : Fin 4608) : V m c main_v14 (ix2 d 0) = m ((c : Thread nD τ).loc main_arg6) (ix1 d) := by
  unfold V
  after_results
  pointwise

/-- The gradient codes as the host hands them over, a head at a time. -/
theorem cod (c : Dev nD) (b : Fin 5) (n : Fin 108) (s : Fin 384) (h : Fin 128) : V m c main_v11 (ix4 b n s h) = m ((c : Thread nD τ).loc main_arg1) (ix5 b s (⟨n.val / 36, by omega⟩ : Fin 3) (⟨n.val % 36, by omega⟩ : Fin 36) h) := by
  unfold V
  after_results
  pointwise

/-- The accumulator as the host hands it over, a head at a time. -/
theorem acc (c : Dev nD) (n : Fin 108) (d : Fin 4608) (h : Fin 128) : V m c main_v13 (ix3 n d h) = m ((c : Thread nD τ).loc main_arg9) (ix4 d (⟨n.val / 36, by omega⟩ : Fin 3) (⟨n.val % 36, by omega⟩ : Fin 36) h) := by
  unfold V
  after_results
  pointwise

/-- Which block of each array every grid point's windows show. -/
theorem idx : ∀ t : Fin cfg0.N, win0_0.index t = ![0, 0, 0] ∧ win0_1.index t = ![0, 0, 0] ∧ win0_2.index t = ![0, 0]
    ∧ win0_3.index t = ![0, t.val, 0, 0] ∧ win0_4.index t = ![t.val, 0, 0] ∧ win0_5.index t = ![t.val, 0, 0] :=
  (by decide +kernel : ∀ t : Fin grid0.N, _)

/-- The grid has so many points. -/
theorem n_eq (t : Fin cfg0.N) : t.val < 54 := lt_of_lt_of_eq t.isLt N_0

/-- The normalised activations' window. -/
theorem blk0 (c : Dev nD) (t : Fin cfg0.N) (b : Fin 5) (s : Fin 384) (d : Fin 4608) :
    iblk m c 0 t (ix3 b s d) = m ((c : Thread nD τ).loc main_arg3) (ix3 b s d) := by
  blk_ext [iblk, V, idx t]

/-- Their scales, read off the table. -/
theorem blk1 (c : Dev nD) (t : Fin cfg0.N) (b : Fin 5) (s : Fin 384) :
    iblk m c 1 t (ix3 b s 2) = m ((c : Thread nD τ).loc main_arg4) (ix2 b s) := by
  refine Eq.trans ?_ (tok2 m c b s)
  blk_ext [iblk, idx t]

/-- The gradient's scales, read off the table. -/
theorem blk1' (c : Dev nD) (t : Fin cfg0.N) (b : Fin 5) (s : Fin 384) :
    iblk m c 1 t (ix3 b s 1) = m ((c : Thread nD τ).loc main_arg2) (ix2 b s) := by
  refine Eq.trans ?_ (tok1 m c b s)
  blk_ext [iblk, idx t]

/-- The column of gains. -/
theorem blk2 (c : Dev nD) (t : Fin cfg0.N) (d : Fin 4608) :
    iblk m c 2 t (ix2 d 0) = m ((c : Thread nD τ).loc main_arg6) (ix1 d) := by
  refine Eq.trans ?_ (gam m c d)
  blk_ext [iblk, idx t]

/-- Two heads' gradient codes. -/
theorem blk3 (c : Dev nD) (t : Fin cfg0.N) (b : Fin 5) (n : Fin 2) (s : Fin 384) (h : Fin 128) :
    iblk m c 3 t (ix4 b n s h) = m ((c : Thread nD τ).loc main_arg1) (ix5 b s
      (⟨(t.val * 2 + n.val) / 36, by have := n_eq t; omega⟩ : Fin 3) (⟨(t.val * 2 + n.val) % 36, by omega⟩ : Fin 36) h) := by
  refine Eq.trans ?_ (cod m c b ⟨t.val * 2 + n.val, by have := n_eq t; omega⟩ s h)
  blk_ext [iblk, idx t]

/-- Two heads' accumulators. -/
theorem blk4 (c : Dev nD) (t : Fin cfg0.N) (n : Fin 2) (d : Fin 4608) (h : Fin 128) :
    iblk m c 4 t (ix3 n d h) = m ((c : Thread nD τ).loc main_arg9) (ix4 d
      (⟨(t.val * 2 + n.val) / 36, by have := n_eq t; omega⟩ : Fin 3) (⟨(t.val * 2 + n.val) % 36, by omega⟩ : Fin 36) h) := by
  refine Eq.trans ?_ (acc m c ⟨t.val * 2 + n.val, by have := n_eq t; omega⟩ d h)
  blk_ext [iblk, idx t]

end Cert.DwQkvIdeal.Value
-- ==== Proof.QkvScratch.lean ====
module

public import proofs.«01_k».proof.Proof.QkvTok
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwQkvIdeal.Value

open Cert.DwQkvIdeal Cert.DwQkvIdeal.Gen

variable (m : (ℓ : Loc nD τ sig) → Buf (Elt Ideal) ℓ)

/-- The activation codes times their token's scale, a token a column. -/
def scr (x : FVec Ideal S5x384x4608 .fp8e4m3) (xs : FVec Ideal S5x384 .f32) : FVec Ideal S4608x1920 .bf16 :=
  fun j => x (ix3 (⟨(j 1).val / 384, by have := (j 1).isLt; simp at this; omega⟩ : Fin 5) (⟨(j 1).val % 384, by omega⟩ : Fin 384) (j 0)) * xs (ix2 (⟨(j 1).val / 384, by have := (j 1).isLt; simp at this; omega⟩ : Fin 5) (⟨(j 1).val % 384, by omega⟩ : Fin 384))

set_option maxHeartbeats 1000000 in
/-- What the first grid point fills the scratch with. -/
theorem scratchA (c : Dev nD) (t : Fin cfg0.N) (h0 : t.val % 54 = 0) :
    (outsAt0 m c t.val t.isLt).2 = scr (m ((c : Thread nD τ).loc main_arg3)) (m ((c : Thread nD τ).loc main_arg4)) := by
  rw [outsAt0_A m c t h0]
  funext y
  idx_vars y
  frame_out
  canon_tiles x h
  all_goals
    open_payloads
    pointwise [scr]
    rw [blk0, blk1]
    have e0 := Fin.ext (a := y0) (b := ⟨_, lt_of_eq_of_lt h0.symm y0.isLt⟩) h0
    have e1 : (y1 : ℕ) = x 1 := h1
    simp only [e0, e1]

/-- Every grid point leaves the scratch as the first point filled it. -/
theorem scratch (c : Dev nD) : ∀ n (h : n < cfg0.N),
    (outsAt0 m c n h).2 = scr (m ((c : Thread nD τ).loc main_arg3)) (m ((c : Thread nD τ).loc main_arg4))
  | 0, h => scratchA m c ⟨0, h⟩ rfl
  | n + 1, h => by
    have hN := n_eq ⟨n + 1, h⟩
    have e : (outsAt0 m c (n + 1) h).2 = (outsAt0 m c n (by omega)).2 := by
      rw [outsAt0_B m c ⟨n + 1, h⟩ (by dsimp only at hN ⊢; omega)]
      frame_out
      try rfl
    exact e.trans (scratch c n _)

end Cert.DwQkvIdeal.Value
-- ==== Proof.QkvVal.lean ====
module

public import proofs.«01_k».proof.Proof.QkvScratch
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwQkvIdeal.Value

open Cert.DwQkvIdeal Cert.DwQkvIdeal.Gen

variable (m : (ℓ : Loc nD τ sig) → Buf (Elt Ideal) ℓ)

/-- A token's gradient code at head `n` and lane `l`, times the token's scale. -/
def row (q : FVec Ideal S5x384x3x36x128 .fp8e5m2) (qs : FVec Ideal S5x384 .f32) (n : Fin 108) (k : Fin 1920) (l : Fin 128) : EReal :=
  q (ix5 (⟨k.val / 384, by omega⟩ : Fin 5) (⟨k.val % 384, by omega⟩ : Fin 384) (⟨n.val / 36, by omega⟩ : Fin 3) (⟨n.val % 36, by omega⟩ : Fin 36) l) * qs (ix2 (⟨k.val / 384, by omega⟩ : Fin 5) (⟨k.val % 384, by omega⟩ : Fin 384))

/-- What the result holds at head `n`, row `d`, lane `h`: the accumulator plus the gain times the sum over the tokens. -/
def val (gm : FVec Ideal S4608 .f32) (q : FVec Ideal S5x384x3x36x128 .fp8e5m2) (qs : FVec Ideal S5x384 .f32) (acc : FVec Ideal S4608x3x36x128 .f32) (r : FVec Ideal S4608x1920 .bf16) : FVec Ideal S108x4608x128 .f32 :=
  fun i => acc (ix4 (i 1) (⟨(i 0).val / 36, by have := (i 0).isLt; simp at this; omega⟩ : Fin 3) (⟨(i 0).val % 36, by omega⟩ : Fin 36) (i 2)) + gm (ix1 (i 1)) * ∑ k : Fin 1920, r (ix2 (i 1) k) * row q qs (i 0) k (i 2)

set_option maxHeartbeats 2000000 in
/-- The block a grid point of case B leaves in the result's window. -/
theorem outB (c : Dev nD) (t : Fin cfg0.N) (h0' : ¬t.val % 54 = 0) (y0 : Fin 2) (y1 : Fin 4608) (y2 : Fin 128) :
    (outsAt0 m c t.val t.isLt).1 (ix3 y0 y1 y2) = val (m ((c : Thread nD τ).loc main_arg6)) (m ((c : Thread nD τ).loc main_arg1)) (m ((c : Thread nD τ).loc main_arg2)) (m ((c : Thread nD τ).loc main_arg9)) (scr (m ((c : Thread nD τ).loc main_arg3)) (m ((c : Thread nD τ).loc main_arg4))) (ix3 ⟨t.val * 2 + y0.val, by have := n_eq t; omega⟩ y1 y2) := by
  rw [outsAt0_B m c t h0']
  frame_out
  simp only [read_unread_whole, scratch, View.readCov_eq_canon']
  generalize scr _ _ = r
  generalize hq : View.canon (Val := Elt Ideal) (s := S1920x256) (e := .bf16) _ = q
  have hq' (k : Fin 1920) (n : Fin 2) (l : Fin 128) : q (ix2 k ⟨n.val * 128 + l.val, by omega⟩)
      = row (m ((c : Thread nD τ).loc main_arg1)) (m ((c : Thread nD τ).loc main_arg2)) ⟨t.val * 2 + n.val, by have := n_eq t; omega⟩ k l := by
    rw [← hq]
    canon_tiles x h
    all_goals
      open_payloads
      pointwise
      have e0 : k.val = x 0 := h0
      have e1 : n.val * 128 + l.val = _ := h1
      refine congrArg₂ (· * ·) (Eq.trans ?_ (blk3 m c t _ n _ l)) (Eq.trans ?_ (blk1' m c t _ _))
      · refine congrArg (iblk m c 3 t) ?_
        blk_ext
      · refine congrArg (iblk m c 1 t) ?_
        blk_ext
  clear hq
  canon_tiles x h
  all_goals
    open_payloads
    pointwise [val]
    have e0 : (y0 : ℕ) = _ := h0
    have e1 : (y1 : ℕ) = _ := h1
    have e2 : (y2 : ℕ) = _ := h2
    refine congrArg₂ (· + ·) (Eq.trans (congrArg (iblk m c 4 t) ?_) (blk4 m c t y0 y1 y2)) (congrArg₂ (· * ·) (Eq.trans (congrArg (iblk m c 2 t) ?_) (blk2 m c t y1))
      (Finset.sum_congr rfl fun k _ => congrArg₂ (· * ·) (congrArg r ?_) (Eq.trans (congrArg q ?_) (hq' k y0 y2)))) <;> blk_ext

set_option maxHeartbeats 2000000 in
/-- The block a grid point of case A leaves in the result's window. -/
theorem outA (c : Dev nD) (t : Fin cfg0.N) (h0' : t.val % 54 = 0) (y0 : Fin 2) (y1 : Fin 4608) (y2 : Fin 128) :
    (outsAt0 m c t.val t.isLt).1 (ix3 y0 y1 y2) = val (m ((c : Thread nD τ).loc main_arg6)) (m ((c : Thread nD τ).loc main_arg1)) (m ((c : Thread nD τ).loc main_arg2)) (m ((c : Thread nD τ).loc main_arg9)) (outsAt0 m c t.val t.isLt).2 (ix3 ⟨t.val * 2 + y0.val, by have := n_eq t; omega⟩ y1 y2) := by
  rw [outsAt0_A m c t h0']
  frame_out
  simp only [View.readCov_eq_canon']
  generalize hr : View.canon (Val := Elt Ideal) (s := S4608x1920) (e := .bf16) _ = r
  clear hr
  generalize hq : View.canon (Val := Elt Ideal) (s := S1920x256) (e := .bf16) _ = q
  have hq' (k : Fin 1920) (n : Fin 2) (l : Fin 128) : q (ix2 k ⟨n.val * 128 + l.val, by omega⟩)
      = row (m ((c : Thread nD τ).loc main_arg1)) (m ((c : Thread nD τ).loc main_arg2)) ⟨t.val * 2 + n.val, by have := n_eq t; omega⟩ k l := by
    rw [← hq]
    canon_tiles x h
    all_goals
      open_payloads
      pointwise
      have e0 : k.val = x 0 := h0
      have e1 : n.val * 128 + l.val = _ := h1
      refine congrArg₂ (· * ·) (Eq.trans ?_ (blk3 m c t _ n _ l)) (Eq.trans ?_ (blk1' m c t _ _))
      · refine congrArg (iblk m c 3 t) ?_
        blk_ext
      · refine congrArg (iblk m c 1 t) ?_
        blk_ext
  clear hq
  canon_tiles x h
  all_goals
    open_payloads
    pointwise [val]
    have e0 : (y0 : ℕ) = _ := h0
    have e1 : (y1 : ℕ) = _ := h1
    have e2 : (y2 : ℕ) = _ := h2
    refine congrArg₂ (· + ·) (Eq.trans (congrArg (iblk m c 4 t) ?_) (blk4 m c t y0 y1 y2)) (congrArg₂ (· * ·) (Eq.trans (congrArg (iblk m c 2 t) ?_) (blk2 m c t y1))
      (Finset.sum_congr rfl fun k _ => congrArg₂ (· * ·) (congrArg r ?_) (Eq.trans (congrArg q ?_) (hq' k y0 y2)))) <;> blk_ext

end Cert.DwQkvIdeal.Value
-- ==== Proof.QkvFinal.lean ====
module

public import proofs.«01_k».proof.Proof.QkvVal
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwQkvIdeal.Value

open Cert.DwQkvIdeal Cert.DwQkvIdeal.Gen

variable (m : (ℓ : Loc nD τ sig) → Buf (Elt Ideal) ℓ)

/-- The result array after the run. -/
theorem final (c : Dev nD) : (dats m 0 c).arrAt 5 cfg0.N
    = val (m ((c : Thread nD τ).loc main_arg6)) (m ((c : Thread nD τ).loc main_arg1)) (m ((c : Thread nD τ).loc main_arg2)) (m ((c : Thread nD τ).loc main_arg9)) (scr (m ((c : Thread nD τ).loc main_arg3)) (m ((c : Thread nD τ).loc main_arg4))) := by
  refine (dats m 0 c).arrAt_eq_of_covers 5 _ (by decide +kernel) fun t hf y => ?_
  blk_simp
  rw [after0_5]
  idx_vars y
  by_cases h0 : t.val % 54 = 0
  · rw [outA m c t h0, scratch]
    blk_ext [idx t]
  · rw [outB m c t h0]
    blk_ext [idx t]

end Cert.DwQkvIdeal.Value
-- ==== Proof.QkvRef.lean ====
module

public import proofs.«01_k».proof.Proof.Gen.DwQkvRefIdeal.Value
public import proofs.«01_k».proof.Proof.QkvVal
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwQkvRefIdeal.Value

open Cert.DwQkvRefIdeal Cert.DwQkvRefIdeal.Gen

variable (m : (ℓ : Loc nD τ sig) → Buf (Elt Ideal) ℓ)

/-- The gains as the host hands them over. -/
theorem gam (c : Dev nD) (d : Fin 4608) : V m c main_v0 (ix2 d 0) = m ((c : Thread nD τ).loc main_arg6) (ix1 d) := by
  unfold V
  after_results
  pointwise

/-- The gradient codes as the host hands them over, all heads in a row. -/
theorem cod (c : Dev nD) (b : Fin 5) (s : Fin 384) (n : Fin 108) (h : Fin 128) : V m c main_v1 (ix3 b s ⟨n.val * 128 + h.val, by omega⟩) = m ((c : Thread nD τ).loc main_arg1) (ix5 b s (⟨n.val / 36, by omega⟩ : Fin 3) (⟨n.val % 36, by omega⟩ : Fin 36) h) := by
  unfold V
  after_results
  pointwise
  blk_ext

/-- The accumulator as the host hands it over, all heads in a row. -/
theorem acc (c : Dev nD) (d : Fin 4608) (n : Fin 108) (h : Fin 128) : V m c main_v2 (ix2 d ⟨n.val * 128 + h.val, by omega⟩) = m ((c : Thread nD τ).loc main_arg9) (ix4 d (⟨n.val / 36, by omega⟩ : Fin 3) (⟨n.val % 36, by omega⟩ : Fin 36) h) := by
  unfold V
  after_results
  pointwise
  blk_ext

/-- Which block of each array every grid point's windows show. -/
theorem idx : ∀ t : Fin cfg0.N, win0_0.index t = ![0, 0, 0] ∧ win0_1.index t = ![0, 0] ∧ win0_2.index t = ![0, 0]
    ∧ win0_3.index t = ![0, 0, 0] ∧ win0_4.index t = ![0, 0] ∧ win0_5.index t = ![0, 0] ∧ win0_6.index t = ![0, 0, 0] :=
  (by decide +kernel : ∀ t : Fin grid0.N, _)

/-- The column of gains. -/
theorem blk2 (c : Dev nD) (d : Fin 4608) : iblk m c 2 t0_0 (ix2 d 0) = m ((c : Thread nD τ).loc main_arg6) (ix1 d) := by
  refine Eq.trans ?_ (gam m c d)
  blk_ext [iblk, idx t0_0]

/-- The gradient codes. -/
theorem blk3 (c : Dev nD) (b : Fin 5) (s : Fin 384) (n : Fin 108) (h : Fin 128) : iblk m c 3 t0_0 (ix3 b s ⟨n.val * 128 + h.val, by omega⟩) = m ((c : Thread nD τ).loc main_arg1) (ix5 b s (⟨n.val / 36, by omega⟩ : Fin 3) (⟨n.val % 36, by omega⟩ : Fin 36) h) := by
  refine Eq.trans ?_ (cod m c b s n h)
  blk_ext [iblk, idx t0_0]

/-- The accumulator. -/
theorem blk5 (c : Dev nD) (d : Fin 4608) (n : Fin 108) (h : Fin 128) : iblk m c 5 t0_0 (ix2 d ⟨n.val * 128 + h.val, by omega⟩) = m ((c : Thread nD τ).loc main_arg9) (ix4 d (⟨n.val / 36, by omega⟩ : Fin 3) (⟨n.val % 36, by omega⟩ : Fin 36) h) := by
  refine Eq.trans ?_ (acc m c d n h)
  blk_ext [iblk, idx t0_0]

/-- The reference's result array after the run. -/
theorem final (c : Dev nD) : (dats m 0 c).arrAt 6 cfg0.N
    = Cert.DwQkvIdeal.Value.val (m ((c : Thread nD τ).loc main_arg6)) (m ((c : Thread nD τ).loc main_arg1)) (m ((c : Thread nD τ).loc main_arg2)) (m ((c : Thread nD τ).loc main_arg9)) (Cert.DwQkvIdeal.Value.scr (m ((c : Thread nD τ).loc main_arg3)) (m ((c : Thread nD τ).loc main_arg4))) := by
  refine (dats m 0 c).arrAt_eq_of_after_last 6 t0_0 (by decide +kernel) _ fun j => ?_
  blk_simp
  rw [after0_6]
  frame_out
  idx_vars j
  pointwise [k0_pay1, Cert.DwQkvIdeal.Value.val, Cert.DwQkvIdeal.Value.row, Cert.DwQkvIdeal.Value.scr]
  refine congrArg₂ (· + ·) (blk5 m c j1 j0 j2) (congrArg₂ (· * ·) (blk2 m c j1) (Finset.sum_congr rfl fun k _ =>
    congrArg₂ (· * ·) ?_ (congrArg₂ (· * ·) (blk3 m c _ _ j0 j2) ?_)))
  all_goals blk_point [iblk, V, idx t0_0]

end Cert.DwQkvRefIdeal.Value
-- ==== Proof.lean ====
module

public import proofs.«01_k».proof.Proof.DxFrame
public import proofs.«01_k».proof.Proof.DxBFrame
public import proofs.«01_k».proof.Proof.DxFinal
public import proofs.«01_k».proof.Proof.DxRef
public import proofs.«01_k».proof.Proof.DxPre
public import proofs.«01_k».proof.Proof.Gen.Pre_scales_finite
public import proofs.«01_k».proof.Proof.Gen.DxIdeal.Loops
public import proofs.«01_k».proof.Proof.Gen.Dx.Loops
public import proofs.«01_k».proof.Proof.Gen.Dx
public import proofs.«01_k».proof.Proof.Gen.Dx.Frame
public import proofs.«01_k».proof.Proof.Gen.DxRefIdeal.Frame
public import proofs.«01_k».proof.Proof.Gen.DxIdeal
public import proofs.«01_k».proof.Proof.Gen.DxRefIdeal
public import proofs.«01_k».proof.Proof.Gen.DwQkvRefIdeal.Value
public import proofs.«01_k».proof.Proof.Gen.DwQkvIdeal.Value
public import proofs.«01_k».proof.Proof.Gen.DwInRefIdeal.Value
public import proofs.«01_k».proof.Proof.Gen.DwInIdeal.Value
public import proofs.«01_k».proof.Proof.Gen.DwOutRefIdeal.Value
public import proofs.«01_k».proof.Proof.Gen.DwOutIdeal.Value
public import proofs.«01_k».proof.Proof.OutFinal
public import proofs.«01_k».proof.Proof.OutRef
public import proofs.«01_k».proof.Proof.InFinal
public import proofs.«01_k».proof.Proof.InRef
public import proofs.«01_k».proof.Proof.QkvFinal
public import proofs.«01_k».proof.Proof.QkvRef
public import proofs.«01_k».proof.Defs
public import Idealize.ShloMosaic.Lib.Claim
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DwOutRefIdeal.Skeleton
public import proofs.«01_k».proof.Proof.Gen.DwOutRefIdeal.Launch
public import proofs.«01_k».proof.Proof.Gen.DwOutRefIdeal.Points
public import proofs.«01_k».proof.Proof.Gen.DwOutRefIdeal.Frame
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwInRefIdeal.Skeleton
public import proofs.«01_k».proof.Proof.Gen.DwInRefIdeal.Launch
public import proofs.«01_k».proof.Proof.Gen.DwInRefIdeal.Points
public import proofs.«01_k».proof.Proof.Gen.DwInRefIdeal.Frame
public import proofs.«01_k».proof.Proof.Gen.DwQkv
public import proofs.«01_k».proof.Proof.Gen.DwQkv.Skeleton
public import proofs.«01_k».proof.Proof.Gen.DwQkv.Launch
public import proofs.«01_k».proof.Proof.Gen.DwQkv.Points
public import proofs.«01_k».proof.Proof.Gen.DwQkv.Frame
public import proofs.«01_k».proof.Proof.Gen.DwQkvIdeal
public import proofs.«01_k».proof.Proof.Gen.DwQkvIdeal.Skeleton
public import proofs.«01_k».proof.Proof.Gen.DwQkvIdeal.Launch
public import proofs.«01_k».proof.Proof.Gen.DwQkvIdeal.Points
public import proofs.«01_k».proof.Proof.Gen.DwQkvIdeal.Frame
public import proofs.«01_k».proof.Proof.Gen.DwQkvRefIdeal
public import proofs.«01_k».proof.Proof.Gen.DwQkvRefIdeal.Skeleton
public import proofs.«01_k».proof.Proof.Gen.DwQkvRefIdeal.Launch
public import proofs.«01_k».proof.Proof.Gen.DwQkvRefIdeal.Points
public import proofs.«01_k».proof.Proof.Gen.DwQkvRefIdeal.Frame
public import Idealize.ShloMosaic.Adequacy
public import Idealize.ShloMosaic.Init

@[expose] public section

set_option maxRecDepth 16384

noncomputable section

namespace Cert.Proof

open Idealize.ShloMosaic Idealize.SL.Sem Cert.DwOut

/-- The output projection's gradient: the two programs leave the same array. -/
theorem out : algebraic_DwOutIdeal_DwOutRefIdeal (hDwOutIdeal := Cert.DwOutIdeal.Gen.facts) (hDwOutRefIdeal := Cert.DwOutRefIdeal.Gen.facts) := by
  pair_intro
  · run_from Cert.DwOutIdeal.Value.run_blocks m g
  · run_from Cert.DwOutRefIdeal.Value.run m' g'
    rw [Cert.DwOutIdeal.Value.final m c]
    exact Cert.DwOutRefIdeal.Value.ref_at _ _ _ _ _

/-- The input projection's gradient: the two programs leave the same array. -/
theorem inp : algebraic_DwInIdeal_DwInRefIdeal (hDwInIdeal := Cert.DwInIdeal.Gen.facts) (hDwInRefIdeal := Cert.DwInRefIdeal.Gen.facts) := by
  pair_intro
  · run_from Cert.DwInIdeal.Value.run_blocks m g
  · run_from Cert.DwInRefIdeal.Value.run_blocks m' g'
    rw [Cert.DwInIdeal.Value.final m c, Cert.DwInRefIdeal.Value.final m' c]
    simp only [hagree c]

/-- The attention projection's gradient: the two programs leave the same array. -/
theorem qkv : algebraic_DwQkvIdeal_DwQkvRefIdeal (hDwQkvIdeal := Cert.DwQkvIdeal.Gen.facts) (hDwQkvRefIdeal := Cert.DwQkvRefIdeal.Gen.facts) := by
  pair_intro
  · run_from Cert.DwQkvIdeal.Value.run_blocks m g
  · run_from Cert.DwQkvRefIdeal.Value.run_blocks m' g'
    rw [Cert.DwQkvIdeal.Value.final m c, Cert.DwQkvRefIdeal.Value.final m' c]
    simp only [hagree c]

/-- The gradients at the block's input and of the gains: the two programs leave the same arrays. -/
theorem dx : algebraic_DxIdeal_DxRefIdeal_pre_scales_finite (hDxIdeal := Cert.DxIdeal.Gen.facts) (hDxRefIdeal := Cert.DxRefIdeal.Gen.facts)
    (hPre_scales_finite := Cert.Pre_scales_finite.Gen.facts) := by
  pair_intro
  · run_from Cert.DxIdeal.Value.run_blocks m g
  · run_from Cert.DxRefIdeal.Value.run_blocks m' g'
    · rw [Cert.DxIdeal.Value.final11 m c (Cert.DxIdeal.Value.tame_of_pre m hpre c), Cert.DxRefIdeal.Value.final14 m' c]
      unfold Cert.DxIdeal.Value.DH Cert.DxRefIdeal.Value.DH
      simp only [hagree c]
    · rw [Cert.DxIdeal.Value.final12 m c (Cert.DxIdeal.Value.tame_of_pre m hpre c), Cert.DxRefIdeal.Value.final15 m' c]
      unfold Cert.DxIdeal.Value.DH Cert.DxRefIdeal.Value.DH
      simp only [hagree c]

/-- The whole certificate. -/
theorem claim : Cert.Claim := ⟨Cert.DwOut.Gen.facts, Cert.DwOutIdeal.Gen.facts, Cert.DwOutRefIdeal.Gen.facts, Cert.DwIn.Gen.facts, Cert.DwInIdeal.Gen.facts, Cert.DwInRefIdeal.Gen.facts, Cert.DwQkv.Gen.facts, Cert.DwQkvIdeal.Gen.facts, Cert.DwQkvRefIdeal.Gen.facts,
  Cert.Dx.Gen.facts, Cert.DxIdeal.Gen.facts, Cert.DxRefIdeal.Gen.facts, Cert.Pre_scales_finite.Gen.facts,
  fun m ρ _ => Cert.DwOut.Gen.frame m ρ, fun m ρ _ => Cert.DwOutIdeal.Gen.frame m ρ, fun m ρ _ => Cert.DwOutRefIdeal.Gen.frame m ρ,
  fun m ρ _ => Cert.DwIn.Gen.frame m ρ, fun m ρ _ => Cert.DwInIdeal.Gen.frame m ρ, fun m ρ _ => Cert.DwInRefIdeal.Gen.frame m ρ,
  fun m ρ _ => Cert.DwQkv.Gen.frame m ρ, fun m ρ _ => Cert.DwQkvIdeal.Gen.frame m ρ, fun m ρ _ => Cert.DwQkvRefIdeal.Gen.frame m ρ,
  fun m ρ _ => Cert.Dx.Run.frame m ρ, fun m ρ _ => Cert.DxIdeal.Run.frame m ρ, fun m ρ _ => Cert.DxIdeal.Run.frame m ρ,
  fun m ρ _ => Cert.DxRefIdeal.Gen.frame m ρ, fun m ρ _ => Cert.DxRefIdeal.Gen.frame m ρ,
  trivial, out, trivial, inp, trivial, qkv, trivial, dx⟩

end Cert.Proof

end
